-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_buffers_KernelIdeal [hPre_within_buffers_KernelIdeal : Cert.Pre_within_buffers_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_buffers_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_buffers_ReferenceIdeal [hPre_within_buffers_ReferenceIdeal : Cert.Pre_within_buffers_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_buffers_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_buffers_KernelIdeal [hKernelIdeal : Cert.KernelIdeal.Facts] [hPre_within_buffers_KernelIdeal : Cert.Pre_within_buffers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_buffers_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_buffers_ReferenceIdeal [hReferenceIdeal : Cert.ReferenceIdeal.Facts] [hPre_within_buffers_ReferenceIdeal : Cert.Pre_within_buffers_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_buffers_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_buffers_KernelIdeal [hKernelIdeal : Cert.KernelIdeal.Facts] [hReferenceIdeal : Cert.ReferenceIdeal.Facts] [hPre_within_buffers_KernelIdeal : Cert.Pre_within_buffers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_buffers_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_buffers_KernelIdeal : Cert.Pre_within_buffers_KernelIdeal.Facts) (hPre_within_buffers_ReferenceIdeal : Cert.Pre_within_buffers_ReferenceIdeal.Facts),
    quiescent_Kernel (hKernel := hKernel)
    ∧ quiescent_KernelIdeal (hKernelIdeal := hKernelIdeal)
    ∧ quiescent_KernelIdeal_pre_within_buffers_KernelIdeal (hKernelIdeal := hKernelIdeal) (hPre_within_buffers_KernelIdeal := hPre_within_buffers_KernelIdeal)
    ∧ quiescent_ReferenceIdeal (hReferenceIdeal := hReferenceIdeal)
    ∧ quiescent_ReferenceIdeal_pre_within_buffers_ReferenceIdeal (hReferenceIdeal := hReferenceIdeal) (hPre_within_buffers_ReferenceIdeal := hPre_within_buffers_ReferenceIdeal)
    ∧ preserves_Kernel_KernelIdeal
    ∧ algebraic_KernelIdeal_ReferenceIdeal_pre_within_buffers_KernelIdeal (hKernelIdeal := hKernelIdeal) (hReferenceIdeal := hReferenceIdeal) (hPre_within_buffers_KernelIdeal := hPre_within_buffers_KernelIdeal)
-- ==== Pre_within_buffers_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S4x8 : Shape := ⟨2, ![4, 8]⟩
abbrev S4 : Shape := ⟨1, ![4]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  bcast_S_S_ : S_.BroadcastsInDim S_ (![] : Fin 0 → Fin S_.rank)
  reduceWindows_S2048x32_S2048x32_w2048s1p2047_0_w1s1p0_0 : S2048x32.ReduceWindows (![2048, 1] : Fin 2 → Nat) ![1, 1] ![2047, 0] ![0, 0] S2048x32
  h_S_ : 0 < S_.numel
  bcast_S_S2048x32 : S_.BroadcastsInDim S2048x32 (![] : Fin 0 → Fin S2048x32.rank)
  reducesTo_S2048x32_S32_d0 : S2048x32.ReducesTo [0] S32
  shapeCasts_S32_S4x8 : S32.ShapeCasts S4x8
  reducesTo_S4x8_S4_d1 : S4x8.ReducesTo [1] S4
  bcast_S_S4 : S_.BroadcastsInDim S4 (![] : Fin 0 → Fin S4.rank)
  reducesTo_S4_S_d0 : S4.ReducesTo [0] S_

variable [Facts]

def fn_cumsum_0 {F : FTy → Type} [FloatOps F] (arg0 : IVec S2048x32 32) : IVec S2048x32 32 :=
  let c : IVec S_ 32 := constantI S_ 32 0#32
  let v0 : IVec S_ 32 := broadcastInDim S_ ![] bcast_S_S_ c
  let v1 : IVec S2048x32 32 := (fun x v => Host.reduceWindow IntOp.addi ![2048, 1] ![1, 1] ![2047, 0] ![0, 0] x v reduceWindows_S2048x32_S2048x32_w2048s1p2047_0_w1s1p0_0 h_S_) arg0 v0
  v1

def fn_cumsum {F : FTy → Type} [FloatOps F] (arg0 : IVec S2048x32 32) : IVec S2048x32 32 :=
  let v0 : IVec S2048x32 32 := fn_cumsum_0 (F := F) arg0
  v0

def fn_where {F : FTy → Type} [FloatOps F] (arg0 : IVec S2048x32 1) (arg1 : IVec S_ 32) (arg2 : IVec S_ 32) : IVec S2048x32 32 :=
  let v0 : IVec S2048x32 32 := broadcastInDim S2048x32 ![] bcast_S_S2048x32 arg1
  let v1 : IVec S2048x32 32 := broadcastInDim S2048x32 ![] bcast_S_S2048x32 arg2
  let v2 : IVec S2048x32 32 := select arg0 v0 v1
  v2

def fn_part1 {F : FTy → Type} [FloatOps F] (main_v17 : IVec S4 32) : IVec S_ 1 :=
  let main_c_5 : IVec S_ 32 := constantI S_ 32 768#32
  let main_v18 : IVec S4 32 := broadcastInDim S4 ![] bcast_S_S4 main_c_5
  let main_v19 : IVec S4 1 := cmpi .sle main_v17 main_v18
  let main_c_6 : IVec S_ 1 := constantI S_ 1 1#1
  let main_v20 : IVec S_ 1 := (fun x v => Host.reduce IntOp.andi x v reducesTo_S4_S_d0 h_S_) main_v19 main_c_6
  main_v20

def fn {F : FTy → Type} [FloatOps F] (main_arg0 : FVec F S2048x1024 .f32) (main_arg1 : FVec F S1024x32 .f32) (main_arg2 : IVec S2048x1 32) (main_arg3 : FVec F S8x1024x1024 .f32) : IVec S_ 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_v6 : IVec S2048x32 32 := fn_cumsum (F := F) main_v5
  let main_v7 : IVec S2048x32 32 := subi main_v6 main_v5
  let main_c : IVec S_ 32 := constantI S_ 32 1#32
  let main_v8 : IVec S2048x32 32 := broadcastInDim S2048x32 ![] bcast_S_S2048x32 main_c
  let main_v9 : IVec S2048x32 1 := cmpi .eq main_v5 main_v8
  let main_c_0 : IVec S_ 32 := constantI S_ 32 204#32
  let main_v10 : IVec S2048x32 32 := broadcastInDim S2048x32 ![] bcast_S_S2048x32 main_c_0
  let main_v11 : IVec S2048x32 1 := cmpi .slt main_v7 main_v10
  let main_v12 : IVec S2048x32 1 := andi main_v9 main_v11
  let main_c_1 : IVec S_ 32 := constantI S_ 32 1#32
  let main_c_2 : IVec S_ 32 := constantI S_ 32 0#32
  let main_v13 : IVec S2048x32 32 := fn_where (F := F) main_v12 main_c_1 main_c_2
  let main_v14 : IVec S2048x32 32 := id main_v13
  let main_c_3 : IVec S_ 32 := constantI S_ 32 0#32
  let main_v15 : IVec S32 32 := (fun x v => Host.reduce IntOp.addi x v reducesTo_S2048x32_S32_d0 h_S_) main_v14 main_c_3
  let main_v16 : IVec S4x8 32 := shapeCast S4x8 main_v15 shapeCasts_S32_S4x8
  let main_c_4 : IVec S_ 32 := constantI S_ 32 0#32
  let main_v17 : IVec S4 32 := (fun x v => Host.reduce IntOp.addi x v reducesTo_S4x8_S4_d1 h_S_) main_v16 main_c_4
  fn_part1 (F := F) main_v17
-- ==== Pre_within_buffers_ReferenceIdeal.lean ====
abbrev S8192x1024 : Shape := ⟨2, ![8192, 1024]⟩
abbrev S1024x32 : Shape := ⟨2, ![1024, 32]⟩
abbrev S8192x1 : Shape := ⟨2, ![8192, 1]⟩
abbrev S32x1024x1024 : Shape := ⟨3, ![32, 1024, 1024]⟩
abbrev S32 : Shape := ⟨1, ![32]⟩
abbrev S1x32 : Shape := ⟨2, ![1, 32]⟩
abbrev S8192x32 : Shape := ⟨2, ![8192, 32]⟩
abbrev S_ : Shape := ⟨0, ![]⟩
abbrev S4x8 : Shape := ⟨2, ![4, 8]⟩
abbrev S4 : Shape := ⟨1, ![4]⟩

class Facts : Prop where
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  bcast_S_S_ : S_.BroadcastsInDim S_ (![] : Fin 0 → Fin S_.rank)
  reduceWindows_S8192x32_S8192x32_w8192s1p8191_0_w1s1p0_0 : S8192x32.ReduceWindows (![8192, 1] : Fin 2 → Nat) ![1, 1] ![8191, 0] ![0, 0] S8192x32
  h_S_ : 0 < S_.numel
  bcast_S_S8192x32 : S_.BroadcastsInDim S8192x32 (![] : Fin 0 → Fin S8192x32.rank)
  reducesTo_S8192x32_S32_d0 : S8192x32.ReducesTo [0] S32
  shapeCasts_S32_S4x8 : S32.ShapeCasts S4x8
  reducesTo_S4x8_S4_d1 : S4x8.ReducesTo [1] S4
  bcast_S_S4 : S_.BroadcastsInDim S4 (![] : Fin 0 → Fin S4.rank)
  reducesTo_S4_S_d0 : S4.ReducesTo [0] S_

variable [Facts]

def fn_cumsum_0 {F : FTy → Type} [FloatOps F] (arg0 : IVec S8192x32 32) : IVec S8192x32 32 :=
  let c : IVec S_ 32 := constantI S_ 32 0#32
  let v0 : IVec S_ 32 := broadcastInDim S_ ![] bcast_S_S_ c
  let v1 : IVec S8192x32 32 := (fun x v => Host.reduceWindow IntOp.addi ![8192, 1] ![1, 1] ![8191, 0] ![0, 0] x v reduceWindows_S8192x32_S8192x32_w8192s1p8191_0_w1s1p0_0 h_S_) arg0 v0
  v1

def fn_cumsum {F : FTy → Type} [FloatOps F] (arg0 : IVec S8192x32 32) : IVec S8192x32 32 :=
  let v0 : IVec S8192x32 32 := fn_cumsum_0 (F := F) arg0
  v0

def fn_where {F : FTy → Type} [FloatOps F] (arg0 : IVec S8192x32 1) (arg1 : IVec S_ 32) (arg2 : IVec S_ 32) : IVec S8192x32 32 :=
  let v0 : IVec S8192x32 32 := broadcastInDim S8192x32 ![] bcast_S_S8192x32 arg1
  let v1 : IVec S8192x32 32 := broadcastInDim S8192x32 ![] bcast_S_S8192x32 arg2
  let v2 : IVec S8192x32 32 := select arg0 v0 v1
  v2

def fn_part1 {F : FTy → Type} [FloatOps F] (main_v17 : IVec S4 32) : IVec S_ 1 :=
  let main_c_5 : IVec S_ 32 := constantI S_ 32 768#32
  let main_v18 : IVec S4 32 := broadcastInDim S4 ![] bcast_S_S4 main_c_5
  let main_v19 : IVec S4 1 := cmpi .sle main_v17 main_v18
  let main_c_6 : IVec S_ 1 := constantI S_ 1 1#1
  let main_v20 : IVec S_ 1 := (fun x v => Host.reduce IntOp.andi x v reducesTo_S4_S_d0 h_S_) main_v19 main_c_6
  main_v20

def fn {F : FTy → Type} [FloatOps F] (main_arg0 : FVec F S8192x1024 .f32) (main_arg1 : FVec F S1024x32 .f32) (main_arg2 : IVec S8192x1 32) (main_arg3 : FVec F S32x1024x1024 .f32) : IVec S_ 1 :=
  let main_v0 : IVec S32 32 := iotaInDim S32 32 0
  let main_v1 : IVec S1x32 32 := broadcastInDim S1x32 ![1] bcast_S32_S1x32_1 main_v0
  let main_v2 : IVec S8192x32 32 := broadcastInDim S8192x32 ![0, 1] bcast_S8192x1_S8192x32_0_1 main_arg2
  let main_v3 : IVec S8192x32 32 := broadcastInDim S8192x32 ![0, 1] bcast_S1x32_S8192x32_0_1 main_v1
  let main_v4 : IVec S8192x32 1 := cmpi .eq main_v2 main_v3
  let main_v5 : IVec S8192x32 32 := (extui 32 · natLt_1_32) main_v4
  let main_v6 : IVec S8192x32 32 := fn_cumsum (F := F) main_v5
  let main_v7 : IVec S8192x32 32 := subi main_v6 main_v5
  let main_c : IVec S_ 32 := constantI S_ 32 1#32
  let main_v8 : IVec S8192x32 32 := broadcastInDim S8192x32 ![] bcast_S_S8192x32 main_c
  let main_v9 : IVec S8192x32 1 := cmpi .eq main_v5 main_v8
  let main_c_0 : IVec S_ 32 := constantI S_ 32 204#32
  let main_v10 : IVec S8192x32 32 := broadcastInDim S8192x32 ![] bcast_S_S8192x32 main_c_0
  let main_v11 : IVec S8192x32 1 := cmpi .slt main_v7 main_v10
  let main_v12 : IVec S8192x32 1 := andi main_v9 main_v11
  let main_c_1 : IVec S_ 32 := constantI S_ 32 1#32
  let main_c_2 : IVec S_ 32 := constantI S_ 32 0#32
  let main_v13 : IVec S8192x32 32 := fn_where (F := F) main_v12 main_c_1 main_c_2
  let main_v14 : IVec S8192x32 32 := id main_v13
  let main_c_3 : IVec S_ 32 := constantI S_ 32 0#32
  let main_v15 : IVec S32 32 := (fun x v => Host.reduce IntOp.addi x v reducesTo_S8192x32_S32_d0 h_S_) main_v14 main_c_3
  let main_v16 : IVec S4x8 32 := shapeCast S4x8 main_v15 shapeCasts_S32_S4x8
  let main_c_4 : IVec S_ 32 := constantI S_ 32 0#32
  let main_v17 : IVec S4 32 := (fun x v => Host.reduce IntOp.addi x v reducesTo_S4x8_S4_d1 h_S_) main_v16 main_c_4
  fn_part1 (F := F) main_v17
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S_ : Shape := ⟨0, ![]⟩
abbrev S2048 : Shape := ⟨1, ![2048]⟩
abbrev S32 : Shape := ⟨1, ![32]⟩
abbrev S1x32 : Shape := ⟨2, ![1, 32]⟩
abbrev S2048x32 : Shape := ⟨2, ![2048, 32]⟩
abbrev S2048x2 : Shape := ⟨2, ![2048, 2]⟩
abbrev S1x2048 : Shape := ⟨2, ![1, 2048]⟩
abbrev S4x2048 : Shape := ⟨2, ![4, 2048]⟩
abbrev S4x768x1024 : Shape := ⟨3, ![4, 768, 1024]⟩
abbrev S4x768x2 : Shape := ⟨3, ![4, 768, 2]⟩
abbrev S3x768x1024 : Shape := ⟨3, ![3, 768, 1024]⟩
abbrev S3x768x2 : Shape := ⟨3, ![3, 768, 2]⟩
abbrev S2x768x1024 : Shape := ⟨3, ![2, 768, 1024]⟩
abbrev S2x1024x1024 : Shape := ⟨3, ![2, 1024, 1024]⟩
abbrev S3 : Shape := ⟨1, ![3]⟩
abbrev S2 : Shape := ⟨1, ![2]⟩
abbrev S768x2048 : Shape := ⟨2, ![768, 2048]⟩
abbrev S768x1024 : Shape := ⟨2, ![768, 1024]⟩
abbrev S1x768x1024 : Shape := ⟨3, ![1, 768, 1024]⟩
abbrev S768x2 : Shape := ⟨2, ![768, 2]⟩
abbrev S1x768x2 : Shape := ⟨3, ![1, 768, 2]⟩
abbrev S1 : Shape := ⟨1, ![1]⟩
abbrev S1x8 : Shape := ⟨2, ![1, 8]⟩
abbrev S8 : Shape := ⟨1, ![8]⟩
abbrev S768x1 : Shape := ⟨2, ![768, 1]⟩
abbrev S768x8 : Shape := ⟨2, ![768, 8]⟩
abbrev S256x768 : Shape := ⟨2, ![256, 768]⟩
abbrev S768 : Shape := ⟨1, ![768]⟩
abbrev S1x1024x1024 : Shape := ⟨3, ![1, 1024, 1024]⟩
abbrev S1024x1024 : Shape := ⟨2, ![1024, 1024]⟩
abbrev S1x1 : Shape := ⟨2, ![1, 1]⟩
abbrev S1x768 : Shape := ⟨2, ![1, 768]⟩
abbrev S256x1024 : Shape := ⟨2, ![256, 1024]⟩
abbrev S2048x768 : Shape := ⟨2, ![2048, 768]⟩

abbrev nBuf : Space → Nat
  | .hbm => 147
  | .vmem => 11
  | .smem => 0
  | _ => 0

abbrev hbmTy0_0 (i : Nat) : BufTy := match i % 128 with
  | 0 => ⟨S2048x1024, .f32⟩
  | 1 => ⟨S1024x32, .f32⟩
  | 2 => ⟨S2048x1, .i32⟩
  | 3 => ⟨S8x1024x1024, .f32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S2048, .i32⟩
  | 11 => ⟨S2048x1, .i32⟩
  | 12 => ⟨S32, .i32⟩
  | 13 => ⟨S1x32, .i32⟩
  | 14 => ⟨S2048x32, .i32⟩
  | 15 => ⟨S2048x32, .i32⟩
  | 16 => ⟨S2048x32, .i1⟩
  | 17 => ⟨S2048x32, .f32⟩
  | 18 => ⟨S_, .f32⟩
  | 19 => ⟨S_, .f32⟩
  | 20 => ⟨S2048x32, .f32⟩
  | 21 => ⟨S2048x32, .f32⟩
  | 22 => ⟨S2048x32, .f32⟩
  | 23 => ⟨S_, .f32⟩
  | 24 => ⟨S2048, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i1⟩
  | 39 => ⟨S_, .i32⟩
  | 40 => ⟨S_, .i1⟩
  | 41 => ⟨S2048, .i1⟩
  | 42 => ⟨S2048, .i1⟩
  | 43 => ⟨S2048, .i1⟩
  | 44 => ⟨S2048, .i32⟩
  | 45 => ⟨S2048, .i32⟩
  | 46 => ⟨S2048, .i32⟩
  | 47 => ⟨S2048, .f32⟩
  | 48 => ⟨S_, .i32⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i1⟩
  | 56 => ⟨S2048, .i32⟩
  | 57 => ⟨S2048, .i32⟩
  | 58 => ⟨S_, .i32⟩
  | 59 => ⟨S2048, .i32⟩
  | 60 => ⟨S2048, .i1⟩
  | 61 => ⟨S2048, .i1⟩
  | 62 => ⟨S_, .i32⟩
  | 63 => ⟨S2048, .i32⟩
  | 64 => ⟨S2048, .i32⟩
  | 65 => ⟨S2048, .i32⟩
  | 66 => ⟨S_, .f32⟩
  | 67 => ⟨S2048, .f32⟩
  | 68 => ⟨S2048, .i1⟩
  | 69 => ⟨S2048x1024, .bf16⟩
  | 70 => ⟨S_, .f32⟩
  | 71 => ⟨S2048, .f32⟩
  | 72 => ⟨S2048, .f32⟩
  | 73 => ⟨S2048x1, .f32⟩
  | 74 => ⟨S2048x1, .f32⟩
  | 75 => ⟨S2048x2, .f32⟩
  | 76 => ⟨S_, .i32⟩
  | 77 => ⟨S2048, .i32⟩
  | 78 => ⟨S2048, .i1⟩
  | 79 => ⟨S2048, .i1⟩
  | 80 => ⟨S2048, .i32⟩
  | 81 => ⟨S_, .i32⟩
  | 82 => ⟨S_, .i32⟩
  | 83 => ⟨S2048, .i32⟩
  | 84 => ⟨S_, .i32⟩
  | 85 => ⟨S2048, .i32⟩
  | 86 => ⟨S2048, .i32⟩
  | 87 => ⟨S_, .i32⟩
  | 88 => ⟨S_, .i32⟩
  | 89 => ⟨S2048, .i32⟩
  | 90 => ⟨S2048, .i32⟩
  | 91 => ⟨S2048, .f32⟩
  | 92 => ⟨S_, .i32⟩
  | 93 => ⟨S2048, .i32⟩
  | 94 => ⟨S2048, .i1⟩
  | 95 => ⟨S2048, .i1⟩
  | 96 => ⟨S2048, .i32⟩
  | 97 => ⟨S_, .i32⟩
  | 98 => ⟨S_, .i32⟩
  | 99 => ⟨S2048, .i32⟩
  | 100 => ⟨S_, .i32⟩
  | 101 => ⟨S2048, .i32⟩
  | 102 => ⟨S2048, .i32⟩
  | 103 => ⟨S_, .i32⟩
  | 104 => ⟨S_, .i32⟩
  | 105 => ⟨S2048, .i32⟩
  | 106 => ⟨S2048, .i32⟩
  | 107 => ⟨S2048, .f32⟩
  | 108 => ⟨S_, .i32⟩
  | 109 => ⟨S2048, .i32⟩
  | 110 => ⟨S2048, .i1⟩
  | 111 => ⟨S2048, .i1⟩
  | 112 => ⟨S2048, .i32⟩
  | 113 => ⟨S_, .i32⟩
  | 114 => ⟨S_, .i32⟩
  | 115 => ⟨S2048, .i32⟩
  | 116 => ⟨S_, .i32⟩
  | 117 => ⟨S2048, .i32⟩
  | 118 => ⟨S2048, .i32⟩
  | 119 => ⟨S_, .i32⟩
  | 120 => ⟨S_, .i32⟩
  | 121 => ⟨S2048, .i32⟩
  | 122 => ⟨S2048, .i32⟩
  | 123 => ⟨S2048, .f32⟩
  | 124 => ⟨S_, .i32⟩
  | 125 => ⟨S2048, .i32⟩
  | 126 => ⟨S2048, .i1⟩
  | 127 => ⟨S2048, .i1⟩
  | _ => ⟨S2048x1024, .f32⟩

abbrev hbmTy0_1 (i : Nat) : BufTy := match i % 128 with
  | 0 => ⟨S2048, .i32⟩
  | 1 => ⟨S_, .i32⟩
  | 2 => ⟨S_, .i32⟩
  | 3 => ⟨S2048, .i32⟩
  | 4 => ⟨S_, .i32⟩
  | 5 => ⟨S2048, .i32⟩
  | 6 => ⟨S2048, .i32⟩
  | 7 => ⟨S_, .i32⟩
  | 8 => ⟨S_, .i32⟩
  | 9 => ⟨S2048, .i32⟩
  | 10 => ⟨S2048, .i32⟩
  | 11 => ⟨S2048, .f32⟩
  | 12 => ⟨S1x2048, .f32⟩
  | 13 => ⟨S1x2048, .f32⟩
  | 14 => ⟨S1x2048, .f32⟩
  | 15 => ⟨S1x2048, .f32⟩
  | 16 => ⟨S4x2048, .f32⟩
  | 17 => ⟨S8x1024x1024, .bf16⟩
  | 18 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S4x2048, .f32⟩
  | .local _ .vmem, ⟨2, _⟩ => ⟨S2048x2, .f32⟩
  | .local _ .vmem, ⟨3, _⟩ => ⟨S2048x1024, .f32⟩
  | .local _ .vmem, ⟨4, _⟩ => ⟨S4x768x1024, .bf16⟩
  | .local _ .vmem, ⟨5, _⟩ => ⟨S4x768x2, .f32⟩
  | .local _ .vmem, ⟨6, _⟩ => ⟨S3x768x1024, .bf16⟩
  | .local _ .vmem, ⟨7, _⟩ => ⟨S3x768x2, .f32⟩
  | .local _ .vmem, ⟨8, _⟩ => ⟨S3x768x1024, .bf16⟩
  | .local _ .vmem, ⟨9, _⟩ => ⟨S2x768x1024, .bf16⟩
  | .local _ .vmem, ⟨10, _⟩ => ⟨S2x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_cst : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_c_1 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v19 : Ref sig .tc := ⟨.hbm, 65, rfl⟩
abbrev main_cst_3 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_5 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_call3_call0_c : Ref sig .tc := ⟨.hbm, 81, rfl⟩
abbrev main_call3_call0_v0 : Ref sig .tc := ⟨.hbm, 82, rfl⟩
abbrev main_v32 : Ref sig .tc := ⟨.hbm, 83, rfl⟩
abbrev main_c_6 : Ref sig .tc := ⟨.hbm, 84, rfl⟩
abbrev main_v33 : Ref sig .tc := ⟨.hbm, 85, rfl⟩
abbrev main_v34 : Ref sig .tc := ⟨.hbm, 86, rfl⟩
abbrev main_c_7 : Ref sig .tc := ⟨.hbm, 87, rfl⟩
abbrev main_call4_v0 : Ref sig .tc := ⟨.hbm, 88, rfl⟩
abbrev main_call4_v1 : Ref sig .tc := ⟨.hbm, 89, rfl⟩
abbrev main_v35 : Ref sig .tc := ⟨.hbm, 90, rfl⟩
abbrev main_v36 : Ref sig .tc := ⟨.hbm, 91, rfl⟩
abbrev main_c_8 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_call5_call0_c : Ref sig .tc := ⟨.hbm, 97, rfl⟩
abbrev main_call5_call0_v0 : Ref sig .tc := ⟨.hbm, 98, rfl⟩
abbrev main_v41 : Ref sig .tc := ⟨.hbm, 99, rfl⟩
abbrev main_c_9 : Ref sig .tc := ⟨.hbm, 100, rfl⟩
abbrev main_v42 : Ref sig .tc := ⟨.hbm, 101, rfl⟩
abbrev main_v43 : Ref sig .tc := ⟨.hbm, 102, rfl⟩
abbrev main_c_10 : Ref sig .tc := ⟨.hbm, 103, rfl⟩
abbrev main_call6_v0 : Ref sig .tc := ⟨.hbm, 104, rfl⟩
abbrev main_call6_v1 : Ref sig .tc := ⟨.hbm, 105, rfl⟩
abbrev main_v44 : Ref sig .tc := ⟨.hbm, 106, rfl⟩
abbrev main_v45 : Ref sig .tc := ⟨.hbm, 107, rfl⟩
abbrev main_c_11 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_call7_call0_c : Ref sig .tc := ⟨.hbm, 113, rfl⟩
abbrev main_call7_call0_v0 : Ref sig .tc := ⟨.hbm, 114, rfl⟩
abbrev main_v50 : Ref sig .tc := ⟨.hbm, 115, rfl⟩
abbrev main_c_12 : Ref sig .tc := ⟨.hbm, 116, rfl⟩
abbrev main_v51 : Ref sig .tc := ⟨.hbm, 117, rfl⟩
abbrev main_v52 : Ref sig .tc := ⟨.hbm, 118, rfl⟩
abbrev main_c_13 : Ref sig .tc := ⟨.hbm, 119, rfl⟩
abbrev main_call8_v0 : Ref sig .tc := ⟨.hbm, 120, rfl⟩
abbrev main_call8_v1 : Ref sig .tc := ⟨.hbm, 121, rfl⟩
abbrev main_v53 : Ref sig .tc := ⟨.hbm, 122, rfl⟩
abbrev main_v54 : Ref sig .tc := ⟨.hbm, 123, rfl⟩
abbrev main_c_14 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_call9_call0_c : Ref sig .tc := ⟨.hbm, 129, rfl⟩
abbrev main_call9_call0_v0 : Ref sig .tc := ⟨.hbm, 130, rfl⟩
abbrev main_v59 : Ref sig .tc := ⟨.hbm, 131, rfl⟩
abbrev main_c_15 : Ref sig .tc := ⟨.hbm, 132, rfl⟩
abbrev main_v60 : Ref sig .tc := ⟨.hbm, 133, rfl⟩
abbrev main_v61 : Ref sig .tc := ⟨.hbm, 134, rfl⟩
abbrev main_c_16 : Ref sig .tc := ⟨.hbm, 135, rfl⟩
abbrev main_call10_v0 : Ref sig .tc := ⟨.hbm, 136, rfl⟩
abbrev main_call10_v1 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v93 : BitVec 32 := Scalar.addi v2 c1_i32_51
  let c4_i32_52 : BitVec 32 := 4#32
  let v94 : BitVec 32 := Scalar.remsi v93 c4_i32_52
  let c1_i32_54 : BitVec 32 := 1#32
  let v95 : BitVec 32 := Scalar.muli v94 c1_i32_54
  let v96 : BitVec 32 := Scalar.addi c0_i32 v95
  v96.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v97 : BitVec 32 := Scalar.addi v2 c2_i32
  let c4_i32_55 : BitVec 32 := 4#32
  let v98 : BitVec 32 := Scalar.remsi v97 c4_i32_55
  let c1_i32_57 : BitVec 32 := 1#32
  let v99 : BitVec 32 := Scalar.muli v98 c1_i32_57
  let v100 : BitVec 32 := Scalar.addi c0_i32_58 v99
  v100.toNat
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v101 : BitVec 32 := Scalar.addi v2 c3_i32
  let c4_i32_59 : BitVec 32 := 4#32
  let v102 : BitVec 32 := Scalar.remsi v101 c4_i32_59
  let c1_i32_61 : BitVec 32 := 1#32
  let v103 : BitVec 32 := Scalar.muli v102 c1_i32_61
  let v104 : BitVec 32 := Scalar.addi c0_i32_62 v103
  v104.toNat
def k0_off1 (d0 : Dev nD) (c1_i32_64 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.addi v2 c1_i32_64
  let c4_i32_65 : BitVec 32 := 4#32
  let v106 : BitVec 32 := Scalar.remsi v105 c4_i32_65
  let c0_i32_73 : BitVec 32 := 0#32
  let c0_i32_74 : BitVec 32 := 0#32
  ![v106.toNat, 0, 0]
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v105 : BitVec 32 := Scalar.addi v2 c1_i32_64
  let c4_i32_65 : BitVec 32 := 4#32
  let v106 : BitVec 32 := Scalar.remsi v105 c4_i32_65
  let c1_i32_69 : BitVec 32 := 1#32
  let v107 : BitVec 32 := Scalar.muli v106 c1_i32_69
  let v108 : BitVec 32 := Scalar.addi c0_i32_70 v107
  v108.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_75 : BitVec 32 := 2#32
  let v117 : BitVec 32 := Scalar.addi v2 c2_i32_75
  let c4_i32_76 : BitVec 32 := 4#32
  let v118 : BitVec 32 := Scalar.remsi v117 c4_i32_76
  let c1_i32_80 : BitVec 32 := 1#32
  let v119 : BitVec 32 := Scalar.muli v118 c1_i32_80
  let v120 : BitVec 32 := Scalar.addi c0_i32_81 v119
  v120.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_86 : BitVec 32 := 3#32
  let v129 : BitVec 32 := Scalar.addi v2 c3_i32_86
  let c4_i32_87 : BitVec 32 := 4#32
  let v130 : BitVec 32 := Scalar.remsi v129 c4_i32_87
  let c1_i32_91 : BitVec 32 := 1#32
  let v131 : BitVec 32 := Scalar.muli v130 c1_i32_91
  let v132 : BitVec 32 := Scalar.addi c0_i32_92 v131
  v132.toNat
def k0_off2 (d0 : Dev nD) (c1_i32_97 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v141 : BitVec 32 := Scalar.addi v2 c1_i32_97
  let c4_i32_98 : BitVec 32 := 4#32
  let v142 : BitVec 32 := Scalar.remsi v141 c4_i32_98
  let c0_i32_106 : BitVec 32 := 0#32
  let c0_i32_107 : BitVec 32 := 0#32
  ![v142.toNat, 0, 0]
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_97 : BitVec 32 := 1#32
  let v141 : BitVec 32 := Scalar.addi v2 c1_i32_97
  let c4_i32_98 : BitVec 32 := 4#32
  let v142 : BitVec 32 := Scalar.remsi v141 c4_i32_98
  let c1_i32_102 : BitVec 32 := 1#32
  let v143 : BitVec 32 := Scalar.muli v142 c1_i32_102
  let v144 : BitVec 32 := Scalar.addi c0_i32_103 v143
  v144.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_108 : BitVec 32 := 2#32
  let v153 : BitVec 32 := Scalar.addi v2 c2_i32_108
  let c4_i32_109 : BitVec 32 := 4#32
  let v154 : BitVec 32 := Scalar.remsi v153 c4_i32_109
  let c1_i32_113 : BitVec 32 := 1#32
  let v155 : BitVec 32 := Scalar.muli v154 c1_i32_113
  let v156 : BitVec 32 := Scalar.addi c0_i32_114 v155
  v156.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v165 : BitVec 32 := Scalar.addi v2 c3_i32_119
  let c4_i32_120 : BitVec 32 := 4#32
  let v166 : BitVec 32 := Scalar.remsi v165 c4_i32_120
  let c1_i32_124 : BitVec 32 := 1#32
  let v167 : BitVec 32 := Scalar.muli v166 c1_i32_124
  let v168 : BitVec 32 := Scalar.addi c0_i32_125 v167
  v168.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v206 : Index := Scalar.indexCast v2
  let c0_158 : Index := 0#32
  let c0_159 : Index := 0#32
  ![v206.toNat, 0, 0]
@[reducible] def k0_t1_loop : Scf.Loop 32 :=
  let c0_i32_201 : BitVec 32 := 0#32
  let c8_i32 : BitVec 32 := 8#32
  let v293 : BitVec 32 := Scalar.addi c0_i32_201 c8_i32
  let c1_i32_202 : BitVec 32 := 1#32
  ⟨c0_i32_201, v293, c1_i32_202⟩
def k0_off4 (k0_t1 : Fin k0_t1_loop.trips) : Fin 1 → Nat :=
  let c0_i32_201 : BitVec 32 := 0#32
  let c1_i32_202 : BitVec 32 := 1#32
  let arg19 : BitVec 32 := Scf.iv c0_i32_201 c1_i32_202 k0_t1
  let c2_i32_490 : BitVec 32 := 2#32
  let v615 : BitVec 32 := Scalar.remsi arg19 c2_i32_490
  ![v615.toNat]
def k0_off5 (k0_t1 : Fin k0_t1_loop.trips) : Fin 3 → Nat :=
  let c0_i32_201 : BitVec 32 := 0#32
  let c1_i32_202 : BitVec 32 := 1#32
  let arg19 : BitVec 32 := Scf.iv c0_i32_201 c1_i32_202 k0_t1
  let c2_i32_490 : BitVec 32 := 2#32
  let v615 : BitVec 32 := Scalar.remsi arg19 c2_i32_490
  let c0_i32_491 : BitVec 32 := 0#32
  let c0_i32_492 : BitVec 32 := 0#32
  ![v615.toNat, 0, 0]
def k0_off6 (k0_t1 : Fin k0_t1_loop.trips) : Fin 3 → Nat :=
  let c0_i32_201 : BitVec 32 := 0#32
  let c1_i32_202 : BitVec 32 := 1#32
  let arg19 : BitVec 32 := Scf.iv c0_i32_201 c1_i32_202 k0_t1
  let c0_i32_493 : BitVec 32 := 0#32
  let c0_i32_494 : BitVec 32 := 0#32
  ![arg19.toNat, 0, 0]
def k0_cond1 (k0_t1 : Fin k0_t1_loop.trips) : BitVec 1 :=
  let c0_i32_201 : BitVec 32 := 0#32
  let c1_i32_202 : BitVec 32 := 1#32
  let arg19 : BitVec 32 := Scf.iv c0_i32_201 c1_i32_202 k0_t1
  let c7_i32 : BitVec 32 := 7#32
  let v622 : BitVec 1 := Scalar.cmpi .slt arg19 c7_i32
  let v623 : BitVec 32 := Scalar.extui v622
  let c0_i32_495 : BitVec 32 := 0#32
  let v624 : BitVec 1 := Scalar.cmpi .ne v623 c0_i32_495
  v624

def k0_off7 (k0_t1 : Fin k0_t1_loop.trips) : Fin 1 → Nat :=
  let c0_i32_201 : BitVec 32 := 0#32
  let c1_i32_202 : BitVec 32 := 1#32
  let arg19 : BitVec 32 := Scf.iv c0_i32_201 c1_i32_202 k0_t1
  let c1_i32_515 : BitVec 32 := 1#32
  let v671 : BitVec 32 := Scalar.addi arg19 c1_i32_515
  let c2_i32_516 : BitVec 32 := 2#32
  let v672 : BitVec 32 := Scalar.remsi v671 c2_i32_516
  ![v672.toNat]
def k0_off8 (k0_t1 : Fin k0_t1_loop.trips) : Fin 3 → Nat :=
  let c0_i32_201 : BitVec 32 := 0#32
  let c1_i32_202 : BitVec 32 := 1#32
  let arg19 : BitVec 32 := Scf.iv c0_i32_201 c1_i32_202 k0_t1
  let c1_i32_515 : BitVec 32 := 1#32
  let v671 : BitVec 32 := Scalar.addi arg19 c1_i32_515
  let c2_i32_516 : BitVec 32 := 2#32
  let v672 : BitVec 32 := Scalar.remsi v671 c2_i32_516
  let c0_i32_518 : BitVec 32 := 0#32
  let c0_i32_519 : BitVec 32 := 0#32
  ![v672.toNat, 0, 0]
def k0_off9 (k0_t1 : Fin k0_t1_loop.trips) : Fin 3 → Nat :=
  let c0_i32_201 : BitVec 32 := 0#32
  let c1_i32_202 : BitVec 32 := 1#32
  let arg19 : BitVec 32 := Scf.iv c0_i32_201 c1_i32_202 k0_t1
  let c1_i32_517 : BitVec 32 := 1#32
  let v673 : BitVec 32 := Scalar.addi arg19 c1_i32_517
  let c0_i32_520 : BitVec 32 := 0#32
  let c0_i32_521 : BitVec 32 := 0#32
  ![v673.toNat, 0, 0]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v653 : Index := Scalar.indexCast v2
  let c0_502 : Index := 0#32
  let c0_503 : Index := 0#32
  ![v653.toNat, 0, 0]
def k0_off11 (k0_t1 : Fin k0_t1_loop.trips) : Fin 3 → Nat :=
  let c0_i32_201 : BitVec 32 := 0#32
  let c1_i32_202 : BitVec 32 := 1#32
  let arg19 : BitVec 32 := Scf.iv c0_i32_201 c1_i32_202 k0_t1
  let c2_i32_490 : BitVec 32 := 2#32
  let v615 : BitVec 32 := Scalar.remsi arg19 c2_i32_490
  let v658 : Index := Scalar.indexCast v615
  let c0_505 : Index := 0#32
  let c0_506 : Index := 0#32
  ![v658.toNat, 0, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v297 : Index := Scalar.indexCast v2
  let c0_207 : Index := 0#32
  ![v297.toNat, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_218 : BitVec 32 := 0#32
  let c0_i32_219 : BitVec 32 := 0#32
  ![v2.toNat, 0, 0]
@[reducible] def k0_t2_loop : Scf.Loop 32 :=
  let c0_i32_241 : BitVec 32 := 0#32
  let c8_i32_242 : BitVec 32 := 8#32
  let v352 : BitVec 32 := Scalar.addi c0_i32_241 c8_i32_242
  let c1_i32_243 : BitVec 32 := 1#32
  ⟨c0_i32_241, v352, c1_i32_243⟩
def k0_off14 (k0_t2 : Fin k0_t2_loop.trips) : Fin 1 → Nat :=
  let c0_i32_241 : BitVec 32 := 0#32
  let c1_i32_243 : BitVec 32 := 1#32
  let arg19 : BitVec 32 := Scf.iv c0_i32_241 c1_i32_243 k0_t2
  let c2_i32_490 : BitVec 32 := 2#32
  let v615 : BitVec 32 := Scalar.remsi arg19 c2_i32_490
  ![v615.toNat]
def k0_off15 (k0_t2 : Fin k0_t2_loop.trips) : Fin 3 → Nat :=
  let c0_i32_241 : BitVec 32 := 0#32
  let c1_i32_243 : BitVec 32 := 1#32
  let arg19 : BitVec 32 := Scf.iv c0_i32_241 c1_i32_243 k0_t2
  let c2_i32_490 : BitVec 32 := 2#32
  let v615 : BitVec 32 := Scalar.remsi arg19 c2_i32_490
  let c0_i32_491 : BitVec 32 := 0#32
  let c0_i32_492 : BitVec 32 := 0#32
  ![v615.toNat, 0, 0]
def k0_off16 (k0_t2 : Fin k0_t2_loop.trips) : Fin 3 → Nat :=
  let c0_i32_241 : BitVec 32 := 0#32
  let c1_i32_243 : BitVec 32 := 1#32
  let arg19 : BitVec 32 := Scf.iv c0_i32_241 c1_i32_243 k0_t2
  let c0_i32_493 : BitVec 32 := 0#32
  let c0_i32_494 : BitVec 32 := 0#32
  ![arg19.toNat, 0, 0]
def k0_cond2 (k0_t2 : Fin k0_t2_loop.trips) : BitVec 1 :=
  let c0_i32_241 : BitVec 32 := 0#32
  let c1_i32_243 : BitVec 32 := 1#32
  let arg19 : BitVec 32 := Scf.iv c0_i32_241 c1_i32_243 k0_t2
  let c7_i32 : BitVec 32 := 7#32
  let v622 : BitVec 1 := Scalar.cmpi .slt arg19 c7_i32
  let v623 : BitVec 32 := Scalar.extui v622
  let c0_i32_495 : BitVec 32 := 0#32
  let v624 : BitVec 1 := Scalar.cmpi .ne v623 c0_i32_495
  v624

def k0_off17 (k0_t2 : Fin k0_t2_loop.trips) : Fin 1 → Nat :=
  let c0_i32_241 : BitVec 32 := 0#32
  let c1_i32_243 : BitVec 32 := 1#32
  let arg19 : BitVec 32 := Scf.iv c0_i32_241 c1_i32_243 k0_t2
  let c1_i32_515 : BitVec 32 := 1#32
  let v671 : BitVec 32 := Scalar.addi arg19 c1_i32_515
  let c2_i32_516 : BitVec 32 := 2#32
  let v672 : BitVec 32 := Scalar.remsi v671 c2_i32_516
  ![v672.toNat]
def k0_off18 (k0_t2 : Fin k0_t2_loop.trips) : Fin 3 → Nat :=
  let c0_i32_241 : BitVec 32 := 0#32
  let c1_i32_243 : BitVec 32 := 1#32
  let arg19 : BitVec 32 := Scf.iv c0_i32_241 c1_i32_243 k0_t2
  let c1_i32_515 : BitVec 32 := 1#32
  let v671 : BitVec 32 := Scalar.addi arg19 c1_i32_515
  let c2_i32_516 : BitVec 32 := 2#32
  let v672 : BitVec 32 := Scalar.remsi v671 c2_i32_516
  let c0_i32_518 : BitVec 32 := 0#32
  let c0_i32_519 : BitVec 32 := 0#32
  ![v672.toNat, 0, 0]
def k0_off19 (k0_t2 : Fin k0_t2_loop.trips) : Fin 3 → Nat :=
  let c0_i32_241 : BitVec 32 := 0#32
  let c1_i32_243 : BitVec 32 := 1#32
  let arg19 : BitVec 32 := Scf.iv c0_i32_241 c1_i32_243 k0_t2
  let c1_i32_517 : BitVec 32 := 1#32
  let v673 : BitVec 32 := Scalar.addi arg19 c1_i32_517
  let c0_i32_520 : BitVec 32 := 0#32
  let c0_i32_521 : BitVec 32 := 0#32
  ![v673.toNat, 0, 0]
def k0_off20 (k0_t2 : Fin k0_t2_loop.trips) : Fin 3 → Nat :=
  let c0_i32_241 : BitVec 32 := 0#32
  let c1_i32_243 : BitVec 32 := 1#32
  let arg19 : BitVec 32 := Scf.iv c0_i32_241 c1_i32_243 k0_t2
  let c2_i32_490 : BitVec 32 := 2#32
  let v615 : BitVec 32 := Scalar.remsi arg19 c2_i32_490
  let v658 : Index := Scalar.indexCast v615
  let c0_505 : Index := 0#32
  let c0_506 : Index := 0#32
  ![v658.toNat, 0, 0]
def k0_dev10 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_245 : BitVec 32 := 1#32
  let v353 : BitVec 32 := Scalar.addi v2 c1_i32_245
  let c4_i32_246 : BitVec 32 := 4#32
  let v354 : BitVec 32 := Scalar.remsi v353 c4_i32_246
  let c1_i32_251 : BitVec 32 := 1#32
  let v355 : BitVec 32 := Scalar.muli v354 c1_i32_251
  let v356 : BitVec 32 := Scalar.addi c0_i32_252 v355
  v356.toNat
@[reducible] def k0_t3_loop : Scf.Loop 32 :=
  let c0_i32_287 : BitVec 32 := 0#32
  let c8_i32_288 : BitVec 32 := 8#32
  let v408 : BitVec 32 := Scalar.addi c0_i32_287 c8_i32_288
  let c1_i32_289 : BitVec 32 := 1#32
  ⟨c0_i32_287, v408, c1_i32_289⟩
def k0_off21 (k0_t3 : Fin k0_t3_loop.trips) : Fin 1 → Nat :=
  let c0_i32_287 : BitVec 32 := 0#32
  let c1_i32_289 : BitVec 32 := 1#32
  let arg19 : BitVec 32 := Scf.iv c0_i32_287 c1_i32_289 k0_t3
  let c2_i32_490 : BitVec 32 := 2#32
  let v615 : BitVec 32 := Scalar.remsi arg19 c2_i32_490
  ![v615.toNat]
def k0_off22 (k0_t3 : Fin k0_t3_loop.trips) : Fin 3 → Nat :=
  let c0_i32_287 : BitVec 32 := 0#32
  let c1_i32_289 : BitVec 32 := 1#32
  let arg19 : BitVec 32 := Scf.iv c0_i32_287 c1_i32_289 k0_t3
  let c2_i32_490 : BitVec 32 := 2#32
  let v615 : BitVec 32 := Scalar.remsi arg19 c2_i32_490
  let c0_i32_491 : BitVec 32 := 0#32
  let c0_i32_492 : BitVec 32 := 0#32
  ![v615.toNat, 0, 0]
def k0_off23 (k0_t3 : Fin k0_t3_loop.trips) : Fin 3 → Nat :=
  let c0_i32_287 : BitVec 32 := 0#32
  let c1_i32_289 : BitVec 32 := 1#32
  let arg19 : BitVec 32 := Scf.iv c0_i32_287 c1_i32_289 k0_t3
  let c0_i32_493 : BitVec 32 := 0#32
  let c0_i32_494 : BitVec 32 := 0#32
  ![arg19.toNat, 0, 0]
def k0_cond3 (k0_t3 : Fin k0_t3_loop.trips) : BitVec 1 :=
  let c0_i32_287 : BitVec 32 := 0#32
  let c1_i32_289 : BitVec 32 := 1#32
  let arg19 : BitVec 32 := Scf.iv c0_i32_287 c1_i32_289 k0_t3
  let c7_i32 : BitVec 32 := 7#32
  let v622 : BitVec 1 := Scalar.cmpi .slt arg19 c7_i32
  let v623 : BitVec 32 := Scalar.extui v622
  let c0_i32_495 : BitVec 32 := 0#32
  let v624 : BitVec 1 := Scalar.cmpi .ne v623 c0_i32_495
  v624

def k0_off24 (k0_t3 : Fin k0_t3_loop.trips) : Fin 1 → Nat :=
  let c0_i32_287 : BitVec 32 := 0#32
  let c1_i32_289 : BitVec 32 := 1#32
  let arg19 : BitVec 32 := Scf.iv c0_i32_287 c1_i32_289 k0_t3
  let c1_i32_515 : BitVec 32 := 1#32
  let v671 : BitVec 32 := Scalar.addi arg19 c1_i32_515
  let c2_i32_516 : BitVec 32 := 2#32
  let v672 : BitVec 32 := Scalar.remsi v671 c2_i32_516
  ![v672.toNat]
def k0_off25 (k0_t3 : Fin k0_t3_loop.trips) : Fin 3 → Nat :=
  let c0_i32_287 : BitVec 32 := 0#32
  let c1_i32_289 : BitVec 32 := 1#32
  let arg19 : BitVec 32 := Scf.iv c0_i32_287 c1_i32_289 k0_t3
  let c1_i32_515 : BitVec 32 := 1#32
  let v671 : BitVec 32 := Scalar.addi arg19 c1_i32_515
  let c2_i32_516 : BitVec 32 := 2#32
  let v672 : BitVec 32 := Scalar.remsi v671 c2_i32_516
  let c0_i32_518 : BitVec 32 := 0#32
  let c0_i32_519 : BitVec 32 := 0#32
  ![v672.toNat, 0, 0]
def k0_off26 (k0_t3 : Fin k0_t3_loop.trips) : Fin 3 → Nat :=
  let c0_i32_287 : BitVec 32 := 0#32
  let c1_i32_289 : BitVec 32 := 1#32
  let arg19 : BitVec 32 := Scf.iv c0_i32_287 c1_i32_289 k0_t3
  let c1_i32_517 : BitVec 32 := 1#32
  let v673 : BitVec 32 := Scalar.addi arg19 c1_i32_517
  let c0_i32_520 : BitVec 32 := 0#32
  let c0_i32_521 : BitVec 32 := 0#32
  ![v673.toNat, 0, 0]
def k0_off27 (k0_t3 : Fin k0_t3_loop.trips) : Fin 3 → Nat :=
  let c0_i32_287 : BitVec 32 := 0#32
  let c1_i32_289 : BitVec 32 := 1#32
  let arg19 : BitVec 32 := Scf.iv c0_i32_287 c1_i32_289 k0_t3
  let c2_i32_490 : BitVec 32 := 2#32
  let v615 : BitVec 32 := Scalar.remsi arg19 c2_i32_490
  let v658 : Index := Scalar.indexCast v615
  let c0_505 : Index := 0#32
  let c0_506 : Index := 0#32
  ![v658.toNat, 0, 0]
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_291 : BitVec 32 := 2#32
  let v409 : BitVec 32 := Scalar.addi v2 c2_i32_291
  let c4_i32_292 : BitVec 32 := 4#32
  let v410 : BitVec 32 := Scalar.remsi v409 c4_i32_292
  let c1_i32_297 : BitVec 32 := 1#32
  let v411 : BitVec 32 := Scalar.muli v410 c1_i32_297
  let v412 : BitVec 32 := Scalar.addi c0_i32_298 v411
  v412.toNat
@[reducible] def k0_t4_loop : Scf.Loop 32 :=
  let c0_i32_342 : BitVec 32 := 0#32
  let c8_i32_343 : BitVec 32 := 8#32
  let v470 : BitVec 32 := Scalar.addi c0_i32_342 c8_i32_343
  let c1_i32_344 : BitVec 32 := 1#32
  ⟨c0_i32_342, v470, c1_i32_344⟩
def k0_off28 (k0_t4 : Fin k0_t4_loop.trips) : Fin 1 → Nat :=
  let c0_i32_342 : BitVec 32 := 0#32
  let c1_i32_344 : BitVec 32 := 1#32
  let arg19 : BitVec 32 := Scf.iv c0_i32_342 c1_i32_344 k0_t4
  let c2_i32_490 : BitVec 32 := 2#32
  let v615 : BitVec 32 := Scalar.remsi arg19 c2_i32_490
  ![v615.toNat]
def k0_off29 (k0_t4 : Fin k0_t4_loop.trips) : Fin 3 → Nat :=
  let c0_i32_342 : BitVec 32 := 0#32
  let c1_i32_344 : BitVec 32 := 1#32
  let arg19 : BitVec 32 := Scf.iv c0_i32_342 c1_i32_344 k0_t4
  let c2_i32_490 : BitVec 32 := 2#32
  let v615 : BitVec 32 := Scalar.remsi arg19 c2_i32_490
  let c0_i32_491 : BitVec 32 := 0#32
  let c0_i32_492 : BitVec 32 := 0#32
  ![v615.toNat, 0, 0]
def k0_off30 (k0_t4 : Fin k0_t4_loop.trips) : Fin 3 → Nat :=
  let c0_i32_342 : BitVec 32 := 0#32
  let c1_i32_344 : BitVec 32 := 1#32
  let arg19 : BitVec 32 := Scf.iv c0_i32_342 c1_i32_344 k0_t4
  let c0_i32_493 : BitVec 32 := 0#32
  let c0_i32_494 : BitVec 32 := 0#32
  ![arg19.toNat, 0, 0]
def k0_cond4 (k0_t4 : Fin k0_t4_loop.trips) : BitVec 1 :=
  let c0_i32_342 : BitVec 32 := 0#32
  let c1_i32_344 : BitVec 32 := 1#32
  let arg19 : BitVec 32 := Scf.iv c0_i32_342 c1_i32_344 k0_t4
  let c7_i32 : BitVec 32 := 7#32
  let v622 : BitVec 1 := Scalar.cmpi .slt arg19 c7_i32
  let v623 : BitVec 32 := Scalar.extui v622
  let c0_i32_495 : BitVec 32 := 0#32
  let v624 : BitVec 1 := Scalar.cmpi .ne v623 c0_i32_495
  v624

def k0_off31 (k0_t4 : Fin k0_t4_loop.trips) : Fin 1 → Nat :=
  let c0_i32_342 : BitVec 32 := 0#32
  let c1_i32_344 : BitVec 32 := 1#32
  let arg19 : BitVec 32 := Scf.iv c0_i32_342 c1_i32_344 k0_t4
  let c1_i32_515 : BitVec 32 := 1#32
  let v671 : BitVec 32 := Scalar.addi arg19 c1_i32_515
  let c2_i32_516 : BitVec 32 := 2#32
  let v672 : BitVec 32 := Scalar.remsi v671 c2_i32_516
  ![v672.toNat]
def k0_off32 (k0_t4 : Fin k0_t4_loop.trips) : Fin 3 → Nat :=
  let c0_i32_342 : BitVec 32 := 0#32
  let c1_i32_344 : BitVec 32 := 1#32
  let arg19 : BitVec 32 := Scf.iv c0_i32_342 c1_i32_344 k0_t4
  let c1_i32_515 : BitVec 32 := 1#32
  let v671 : BitVec 32 := Scalar.addi arg19 c1_i32_515
  let c2_i32_516 : BitVec 32 := 2#32
  let v672 : BitVec 32 := Scalar.remsi v671 c2_i32_516
  let c0_i32_518 : BitVec 32 := 0#32
  let c0_i32_519 : BitVec 32 := 0#32
  ![v672.toNat, 0, 0]
def k0_off33 (k0_t4 : Fin k0_t4_loop.trips) : Fin 3 → Nat :=
  let c0_i32_342 : BitVec 32 := 0#32
  let c1_i32_344 : BitVec 32 := 1#32
  let arg19 : BitVec 32 := Scf.iv c0_i32_342 c1_i32_344 k0_t4
  let c1_i32_517 : BitVec 32 := 1#32
  let v673 : BitVec 32 := Scalar.addi arg19 c1_i32_517
  let c0_i32_520 : BitVec 32 := 0#32
  let c0_i32_521 : BitVec 32 := 0#32
  ![v673.toNat, 0, 0]
def k0_off34 (k0_t4 : Fin k0_t4_loop.trips) : Fin 3 → Nat :=
  let c0_i32_342 : BitVec 32 := 0#32
  let c1_i32_344 : BitVec 32 := 1#32
  let arg19 : BitVec 32 := Scf.iv c0_i32_342 c1_i32_344 k0_t4
  let c2_i32_490 : BitVec 32 := 2#32
  let v615 : BitVec 32 := Scalar.remsi arg19 c2_i32_490
  let v658 : Index := Scalar.indexCast v615
  let c0_505 : Index := 0#32
  let c0_506 : Index := 0#32
  ![v658.toNat, 0, 0]
def k0_dev12 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_346 : BitVec 32 := 3#32
  let v471 : BitVec 32 := Scalar.addi v2 c3_i32_346
  let c4_i32_347 : BitVec 32 := 4#32
  let v472 : BitVec 32 := Scalar.remsi v471 c4_i32_347
  let c1_i32_352 : BitVec 32 := 1#32
  let v473 : BitVec 32 := Scalar.muli v472 c1_i32_352
  let v474 : BitVec 32 := Scalar.addi c0_i32_353 v473
  v474.toNat
def k0_off35 (d0 : Dev nD) (c0_i32_370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v493 : BitVec 32 := Scalar.addi v2 c0_i32_370
  let c1_i32_371 : BitVec 32 := 1#32
  let v494 : BitVec 32 := Scalar.addi v493 c1_i32_371
  let c4_i32_372 : BitVec 32 := 4#32
  let v495 : BitVec 32 := Scalar.remsi v494 c4_i32_372
  let v498 : Index := Scalar.indexCast v495
  let c0_376 : Index := 0#32
  ![v498.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S1024x32 : Shape := ⟨2, ![1024, 32]⟩
abbrev S8192x1 : Shape := ⟨2, ![8192, 1]⟩
abbrev S32x1024x1024 : Shape := ⟨3, ![32, 1024, 1024]⟩
abbrev S32 : Shape := ⟨1, ![32]⟩
abbrev S1x32 : Shape := ⟨2, ![1, 32]⟩
abbrev S8192x32 : Shape := ⟨2, ![8192, 32]⟩
abbrev S_ : Shape := ⟨0, ![]⟩
abbrev S8192x32x1024 : Shape := ⟨3, ![8192, 32, 1024]⟩
abbrev S8192x32x1 : Shape := ⟨3, ![8192, 32, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x32, .f32⟩
  | .hbm, ⟨2, _⟩ => ⟨S8192x1, .i32⟩
  | .hbm, ⟨3, _⟩ => ⟨S32x1024x1024, .f32⟩
  | .hbm, ⟨4, _⟩ => ⟨S32, .i32⟩
  | .hbm, ⟨5, _⟩ => ⟨S1x32, .i32⟩
  | .hbm, ⟨6, _⟩ => ⟨S8192x32, .i32⟩
  | .hbm, ⟨7, _⟩ => ⟨S8192x32, .i32⟩
  | .hbm, ⟨8, _⟩ => ⟨S8192x32, .i1⟩
  | .hbm, ⟨9, _⟩ => ⟨S8192x32, .f32⟩
  | .hbm, ⟨10, _⟩ => ⟨S_, .f32⟩
  | .hbm, ⟨11, _⟩ => ⟨S_, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S_, .f32⟩
  | .hbm, ⟨16, _⟩ => ⟨S8192x32, .f32⟩
  | .hbm, ⟨17, _⟩ => ⟨S8192x32, .i1⟩
  | .hbm, ⟨18, _⟩ => ⟨S8192x32, .i1⟩
  | .hbm, ⟨19, _⟩ => ⟨S8192x32x1024, .f32⟩
  | .hbm, ⟨20, _⟩ => ⟨S8192x32x1, .i1⟩
  | .hbm, ⟨21, _⟩ => ⟨S_, .f32⟩
  | .hbm, ⟨22, _⟩ => ⟨S_, .f32⟩
  | .hbm, ⟨23, _⟩ => ⟨S8192x32x1024, .i1⟩
  | .hbm, ⟨24, _⟩ => ⟨S8192x32x1024, .f32⟩
  | .hbm, ⟨25, _⟩ => ⟨S8192x32x1024, .f32⟩
  | .hbm, ⟨26, _⟩ => ⟨S_, .f32⟩
  | .hbm, ⟨27, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Same.lean ====
module

public import proofs.«01_k».proof.Proof.Gen.Kernel
public import proofs.«01_k».proof.Proof.Gen.KernelIdeal

@[expose] public section

set_option maxRecDepth 100000
set_option maxHeartbeats 4000000

namespace Cert.Moe

open Idealize.ShloMosaic

variable {F : FTy → Type} [FloatOps F]

/-! ## The kernel and its reading over the reals are one text -/

theorem same_body : Cert.Kernel.cc0_body (F := F) = Cert.KernelIdeal.cc0_body (F := F) := id rfl

theorem same_table : Cert.Kernel.defs₀ (F := F) = Cert.KernelIdeal.defs₀ (F := F) := by
  refine congrArg Defs.onTc (funext fun l => funext fun a => ?_)
  match l, a with
  | 0, (t, s) =>
    refine Eq.trans (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _) _) _) _) _) _) _) _) _) _) _) ?_
    rfl

theorem same_defs : Cert.Kernel.defs (F := F) = Cert.KernelIdeal.defs (F := F) :=
  congrArg (Pipeline.defs Cert.KernelIdeal.pcfgs) same_table

theorem same_first : Cert.Kernel.main_part0 (F := F) = Cert.KernelIdeal.main_part0 (F := F) := id rfl
theorem same_rest : Cert.Kernel.main_part1 (F := F) = Cert.KernelIdeal.main_part1 (F := F) := id rfl

theorem same_main : Cert.Kernel.main (F := F) = Cert.KernelIdeal.main (F := F) := by
  funext d
  exact congrArg₂ (fun a b => a >>= fun _ => b) (congrFun same_first d) (congrFun same_rest d)

end Cert.Moe

end
-- ==== Proof.Slabs.lean ====
/-
  Ownership of one slab of a buffer, and the memory operations over it.

  Every buffer the devices exchange parts of is held slab by slab: `owns c (m.slice r _) q X` says that core `c` owns,
  at share `q`, the part of `m` the rectangle `r` cuts, and reads `X` there. The lemmas here are the load, the store, the
  local copy and the remote copy over such a holding; the two copies go through slices whose leading axis of extent one
  has been dropped, which changes neither the elements nor their order.
-/
module

public import Idealize.ShloMosaic.Lib.Memref
public import Idealize.ShloMosaic.Lib.Rounds
public import Idealize.ShloMosaic.Rules.Step
public import Idealize.ShloMosaic.Lib.Pipeline.Kit
public import Idealize.ShloMosaic.Lib.Tactic

@[expose] public section

noncomputable section

namespace Cert.Moe

open Idealize.ShloMosaic
open Idealize.SL Idealize.SL.RA Idealize.SL.BI Idealize.SL.Sem
open scoped Idealize.SL.BI
open Idealize.SL.BI.BIBase Idealize.SL.BI.Laws Idealize.SL.ProofMode

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

section Holding

variable (c : Thread nD τ) {sp : Space} {s s' : Shape} {e : EltTy}

/-- Dropping axes of extent one from a memref leaves the same elements, read in the same order. -/
theorem owns_squeeze (m : Memref sig c.2.kind sp s e) (h : s.Squeezes s') (q : PosShare TreeShare) (X : s.Idx → Val e) :
    (owns c (m.squeeze s' h) q (fun i => X (Shape.reshapeEquiv h.numel_eq i)) : sProp 𝕄) = owns c m q X := by
  have hset : (m.squeeze s' h).view.set = m.view.set := View.set_reshape _ _
  have hread (f : m.view.ty.Contents Val) :
      (m.squeeze s' h).view.read Val f = (fun i => m.view.read Val f (Shape.reshapeEquiv h.numel_eq i)) := rfl
  have h₁ : (owns c (m.squeeze s' h) q (fun i => X (Shape.reshapeEquiv h.numel_eq i)) : sProp 𝕄) ⊢ owns c m q X := by
    iintro H
    ihave H' := (show owns c (m.squeeze s' h) q (fun i => X (Shape.reshapeEquiv h.numel_eq i))
        ⊢ (iprop(∃ f, ⌜(m.squeeze s' h).view.read Val f = (fun i => X (Shape.reshapeEquiv h.numel_eq i))⌝
            ∗ (m.view.loc c ↦[(m.squeeze s' h).view.set]{q} f)) : sProp 𝕄) from .rfl) $$ H
    icases H' with ⟨%f, %hf, H⟩
    rw [hset]
    unfold owns
    iexists f
    isplitr
    · ipureintro
      funext x
      rw [hread] at hf
      have := congrFun hf ((Shape.reshapeEquiv h.numel_eq).symm x)
      simpa using this
    · iexact H
  have h₂ : (owns c m q X : sProp 𝕄) ⊢ owns c (m.squeeze s' h) q (fun i => X (Shape.reshapeEquiv h.numel_eq i)) := by
    iintro H
    ihave H' := (show owns c m q X ⊢ (iprop(∃ f, ⌜m.view.read Val f = X⌝ ∗ (m.view.loc c ↦[m.view.set]{q} f)) : sProp 𝕄) from .rfl) $$ H
    icases H' with ⟨%f, %hf, H⟩
    iapply (show (iprop(∃ f, ⌜(m.squeeze s' h).view.read Val f = (fun i => X (Shape.reshapeEquiv h.numel_eq i))⌝
            ∗ (m.view.loc c ↦[(m.squeeze s' h).view.set]{q} f)) : sProp 𝕄)
        ⊢ owns c (m.squeeze s' h) q (fun i => X (Shape.reshapeEquiv h.numel_eq i)) from .rfl)
    iexists f
    isplitr
    · ipureintro; rw [hread, hf]
    · rw [hset]; iexact H
  exact BI.equiv_iff.mp ⟨h₁, h₂⟩

/-- Two rectangles of one shape at equal offsets cut the same slab. -/
theorem owns_off (m : Memref sig c.2.kind sp s e) {off off' size : Fin s.rank → ℕ} (h : off = off')
    (inb : ∀ a, off a + size a ≤ s.size a) (inb' : ∀ a, off' a + size a ≤ s.size a)
    (hr : ∀ a, (Rect.unit off size inb).stride a = 1) (hr' : ∀ a, (Rect.unit off' size inb').stride a = 1)
    (q : PosShare TreeShare) (X : (⟨s.rank, size⟩ : Shape).Idx → Val e) :
    (owns c (m.slice (Rect.unit off size inb) hr) q X : sProp 𝕄) = owns c (m.slice (Rect.unit off' size inb') hr') q X := by
  subst h; rfl

end Holding

section Steps

variable {defs : Defs nD τ sig Val Λ} (𝒱 : Variants) (c : Thread nD τ) (bd : Option 𝒱.V) {Γ : PendingWaitsCtx sig Ix}
variable {α : Type} {Q : α → sProp (MT nD τ sig Ix Val Name U Lvl)} {Es : Set Name} {cs : CoreSpace} {s : Shape} {e : EltTy}

/-- A load of a slab the core holds reads its contents. -/
theorem load_slab {m : Memref sig c.2.kind cs s e} {r : Rect s} {hl : m.view.LoadsAt r.toLoadRect}
    {k : (r.shape.Idx → Val e) → Prog (TpuEff nD τ sig Val Λ c.2) α} {hr : ∀ a, r.stride a = 1}
    {q : PosShare TreeShare} {X : r.shape.Idx → Val e} :
    (owns c (m.slice r hr) q X : sProp 𝕄)
      ⊢ iprop((owns c (m.slice r hr) q X -∗ wp frame (wpE' defs 𝒱 c bd Γ) Es (k X) Q)
        -∗ wp frame (wpE' defs 𝒱 c bd Γ) Es (.op (.load m r.toLoadRect hl) k) Q) := by
  iintro H Hk
  ihave H' := (show owns c (m.slice r hr) q X ⊢ (iprop(∃ f, ⌜(m.access r).read Val f = X⌝
      ∗ ((m.access r).loc c ↦[(m.access r).set]{q} f)) : sProp 𝕄) from .rfl) $$ H
  icases H' with ⟨%f, %hf, H⟩
  iapply (wp_load_rect 𝒱 c bd Es subset_rfl) $$ H
  iintro H
  rw [hf]
  iapply Hk
  iapply (show (iprop(∃ f, ⌜(m.access r).read Val f = X⌝
      ∗ ((m.access r).loc c ↦[(m.access r).set]{q} f)) : sProp 𝕄) ⊢ owns c (m.slice r hr) q X from .rfl)
  iexists f
  isplitr
  · ipureintro; exact hf
  · iexact H

/-- A load at a rectangle of a memref the core holds reads its part of the contents. -/
theorem load_part {m : Memref sig c.2.kind cs s e} {r : Rect s} {hl : m.view.LoadsAt r.toLoadRect}
    {k : (r.shape.Idx → Val e) → Prog (TpuEff nD τ sig Val Λ c.2) α}
    {q : PosShare TreeShare} {X : s.Idx → Val e} :
    (owns c m q X : sProp 𝕄)
      ⊢ iprop((owns c m q X -∗ wp frame (wpE' defs 𝒱 c bd Γ) Es (k (fun j => X (r.emb j))) Q)
        -∗ wp frame (wpE' defs 𝒱 c bd Γ) Es (.op (.load m r.toLoadRect hl) k) Q) := by
  iintro H Hk
  ihave H' := (show owns c m q X ⊢ (iprop(∃ f, ⌜m.view.read Val f = X⌝
      ∗ ((m.access r).loc c ↦[m.view.set]{q} f)) : sProp 𝕄) from .rfl) $$ H
  icases H' with ⟨%f, %hf, H⟩
  iapply (wp_load_rect 𝒱 c bd Es (View.set_slice_subset _ _)) $$ H
  iintro H
  have hf' : (m.access r).read Val f = fun j => X (r.emb j) := by
    rw [← hf]; rfl
  rw [hf']
  iapply Hk
  iapply (show (iprop(∃ f, ⌜m.view.read Val f = X⌝
      ∗ ((m.access r).loc c ↦[m.view.set]{q} f)) : sProp 𝕄) ⊢ owns c m q X from .rfl)
  iexists f
  isplitr
  · ipureintro; exact hf
  · iexact H

/-- A store over a slab the core holds replaces its contents. -/
theorem store_slab {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {hr : ∀ a, r.stride a = 1} {X : r.shape.Idx → Val e} :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  iintro H Hk
  ihave H' := (show owns c (m.slice r hr) fullShare X ⊢ (iprop(∃ f, ⌜(m.access r).read Val f = X⌝
      ∗ ((m.access r).loc c ↦[(m.access r).set]{fullShare} f)) : sProp 𝕄) from .rfl) $$ H
  icases H' with ⟨%f, %hf, H⟩
  iapply (wp_store 𝒱 c bd Es (S := (m.access r).set) (by rw [View.setOn_univ])) $$ H
  iintro H
  iapply Hk
  iapply (show (iprop(∃ f, ⌜(m.access r).read Val f = w⌝
      ∗ ((m.access r).loc c ↦[(m.access r).set]{fullShare} f)) : sProp 𝕄) ⊢ owns c (m.slice r hr) fullShare w from .rfl)
  iexists (m.access r).write Val f w Finset.univ
  isplitr
  · ipureintro; exact View.read_write_univ _ _
  · iexact H

end Steps

section Copies

variable {D : Type} [DecidableEq D]
variable {defs : Defs nD τ sig Val Λ} (𝒱 : Variants)
variable (E : Emb (Rounds.URounds (GSem nD τ sig) D) (MT nD τ sig Ix Val Name U Lvl)) (Rd : Rounds.Schedule (GSem nD τ sig) D (MT nD τ sig Ix Val Name U Lvl))
variable [∀ g r d, BI.Storable (upEmb : UEmb _ (MT nD τ sig Ix Val Name U Lvl)) (Rd.payload g r d)]
variable (c : Thread nD τ) (bd : Option 𝒱.V) {Γ : PendingWaitsCtx sig Ix}
variable {α : Type} {Q : α → sProp (MT nD τ sig Ix Val Name U Lvl)} {sp sp' : Space} {s s' : Shape} {e : EltTy}

open Rounds

/-- A remote copy of a slab `X` onto a slab of core `c'`, both through slices with the unit axis dropped: the source
    slab goes to the payload of the sender's own cell, the landed slab, now reading `X`, to the payload of the cell
    at the peer. -/
theorem send_slab {c' : Thread nD τ} {src : Memref sig c.2.kind sp s e} {dst : Memref sig c'.2.kind sp' s e}
    {hq : s.Squeezes s'} {hq' : s.Squeezes s'}
    {hsc : (dst.squeeze s' hq').view.ref.isScScratch = false} {sS sem : SemLoc sig}
    {hsrc : (src.squeeze s' hq).view.WordExact} {hdst : (dst.squeeze s' hq').view.WordExact}
    {hsem : DmaTarget.Typed sp sem (.remote c' (dst.squeeze s' hq') sS hsc)}
    {k : PUnit → Prog (TpuEff nD τ sig Val Λ c.2) α} {q : PosShare TreeShare}
    {X Y : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : (dst.squeeze s' hq').view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : owns c' dst fullShare X ⊢ Rd.payload (c', sem) r₂ d₂) {Es : Set Name} (hr : τ.routes c c' = true := by routes) :
    iprop(cellInv E Rd κ₁ (c, sS) ∗ cellInv E Rd κ₂ (c', sem)
        ∗ owns c src q X ∗ owns c' dst fullShare Y
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es
            (.op (.enqueueDma (src.squeeze s' hq) (.remote c' (dst.squeeze s' hq') sS hsc) sem hsrc hdst hsem) k) Q) := by
  rw [← owns_squeeze c src hq q X, ← owns_squeeze c' dst hq' fullShare Y]
  iintro ⟨#Hi₁, #Hi₂, Hs, Hd, HO, Ht₁, #Hr₁, Ht₂, #Hr₂⟩ Hk
  ihave Hs' := (show owns c (src.squeeze s' hq) q (fun i => X (Shape.reshapeEquiv hq.numel_eq i))
      ⊢ (iprop(∃ f, ⌜(src.squeeze s' hq).view.read Val f = (fun i => X (Shape.reshapeEquiv hq.numel_eq i))⌝
      ∗ ((src.squeeze s' hq).view.loc c ↦[(src.squeeze s' hq).view.set]{q} f)) : sProp 𝕄) from .rfl) $$ Hs
  icases Hs' with ⟨%f, %hf, Hs⟩
  ihave Hd' := (show owns c' (dst.squeeze s' hq') fullShare (fun i => Y (Shape.reshapeEquiv hq'.numel_eq i))
      ⊢ (iprop(∃ f, ⌜(dst.squeeze s' hq').view.read Val f = (fun i => Y (Shape.reshapeEquiv hq'.numel_eq i))⌝
      ∗ ((dst.squeeze s' hq').view.loc c' ↦[(dst.squeeze s' hq').view.set]{fullShare} f)) : sProp 𝕄) from .rfl) $$ Hd
  icases Hd' with ⟨%g, %hg, Hd⟩
  have hp₁ : ((src.squeeze s' hq).view.loc c ↦[(src.squeeze s' hq).view.set]{q} f : sProp 𝕄) ⊢ Rd.payload (c, sS) r₁ d₁ := by
    refine (owns_intro c (src.squeeze s' hq) q f).trans ?_
    rw [hf, owns_squeeze]; exact hpay₁
  have hp₂ : ((dst.squeeze s' hq').view.loc c' ↦[(dst.squeeze s' hq').view.set]{fullShare}
      ((dst.squeeze s' hq').view.write Val g ((src.squeeze s' hq).view.read Val f) Finset.univ) : sProp 𝕄)
      ⊢ Rd.payload (c', sem) r₂ d₂ := by
    refine (owns_intro c' (dst.squeeze s' hq') fullShare _).trans ?_
    rw [View.read_write_univ, hf, owns_squeeze]; exact hpay₂
  iapply (wp_send_pointsTo 𝒱 E Rd c bd hd₁ hd₂ ι ι' N hN hk₁ hk₂ O hO hp₁ hp₂ hr) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iexact Hk

/-- A local copy of a slab `X` onto another slab of the core, both through slices with the unit axis dropped: the
    payload of the core's cell takes the landed slab, reading `X`, and the source slab. -/
theorem copy_slab {src : Memref sig c.2.kind sp s e} {dst : Memref sig c.2.kind sp' s e}
    {hq : s.Squeezes s'} {hq' : s.Squeezes s'} {sem : SemLoc sig}
    {hsrc : (src.squeeze s' hq).view.WordExact} {hdst : (dst.squeeze s' hq').view.WordExact}
    {hsem : DmaTarget.Typed (nD := nD) sp sem (.here (dst.squeeze s' hq'))}
    {k : PUnit → Prog (TpuEff nD τ sig Val Λ c.2) α} {q : PosShare TreeShare}
    {X Y : s.Idx → Val e} {r : ℕ} {d : D} {κ : Name}
    (hd : d ∈ Rd.duties (c, sem) r) (ι : Ix) (N : ℕ) (hN : (dst.squeeze s' hq').view.amount sem = N)
    (hk : Rd.amount (c, sem) r d = N)
    (hpay : iprop(owns c dst fullShare X ∗ owns c src q X) ⊢ Rd.payload (c, sem) r d) {Es : Set Name} :
    iprop(cellInv E Rd κ (c, sem) ∗ owns c src q X ∗ owns c dst fullShare Y
        ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es
            (.op (.enqueueDma (src.squeeze s' hq) (.here (dst.squeeze s' hq')) sem hsrc hdst hsem) k) Q) := by
  rw [← owns_squeeze c src hq q X, ← owns_squeeze c dst hq' fullShare Y]
  iintro ⟨#Hi, Hs, Hd, Ht, #Hr⟩ Hk
  ihave Hs' := (show owns c (src.squeeze s' hq) q (fun i => X (Shape.reshapeEquiv hq.numel_eq i))
      ⊢ (iprop(∃ f, ⌜(src.squeeze s' hq).view.read Val f = (fun i => X (Shape.reshapeEquiv hq.numel_eq i))⌝
      ∗ ((src.squeeze s' hq).view.loc c ↦[(src.squeeze s' hq).view.set]{q} f)) : sProp 𝕄) from .rfl) $$ Hs
  icases Hs' with ⟨%f, %hf, Hs⟩
  ihave Hd' := (show owns c (dst.squeeze s' hq') fullShare (fun i => Y (Shape.reshapeEquiv hq'.numel_eq i))
      ⊢ (iprop(∃ f, ⌜(dst.squeeze s' hq').view.read Val f = (fun i => Y (Shape.reshapeEquiv hq'.numel_eq i))⌝
      ∗ ((dst.squeeze s' hq').view.loc c ↦[(dst.squeeze s' hq').view.set]{fullShare} f)) : sProp 𝕄) from .rfl) $$ Hd
  icases Hd' with ⟨%g, %hg, Hd⟩
  have hp : iprop(((dst.squeeze s' hq').view.loc c ↦[(dst.squeeze s' hq').view.set]{fullShare}
      ((dst.squeeze s' hq').view.write Val g ((src.squeeze s' hq).view.read Val f) Finset.univ))
      ∗ ((src.squeeze s' hq).view.loc c ↦[(src.squeeze s' hq).view.set]{q} f : sProp 𝕄))
      ⊢ Rd.payload (c, sem) r d := by
    refine (BI.sep_mono (owns_intro c (dst.squeeze s' hq') fullShare _) (owns_intro c (src.squeeze s' hq) q f)).trans ?_
    rw [View.read_write_univ, hf, owns_squeeze, owns_squeeze]; exact hpay
  iapply (wp_copy_pointsTo 𝒱 E Rd c bd hd ι N hN hk hp) $$ [Hs Hd Ht]
  · isplitr; · iexact Hi
    isplitl [Hs]; · iexact Hs
    isplitl [Hd]; · iexact Hd
    isplitl [Ht]; · iexact Ht
    iexact Hr
  iexact Hk

end Copies

end Cert.Moe

end
-- ==== Proof.Protocol.lean ====
/-
  The protocol of the kernel: what travels between the four devices, on which semaphore, and with which contents.

  Every device `c` packs, for each destination `d`, a slab of token rows (`xdV`) and a slab of their expert numbers and
  positions (`mdV`). After a barrier it copies slab `c + j` to device `c + j` (`j = 1, 2, 3`), landing in slot `3 - j`
  there. It then runs its eight experts over the slab each device sent (`accV`), copying the result for the slab of
  `c + q` back to device `c + q`, slot `3 - q`. The weights are streamed through two buffers, one local copy per expert.

  * barrier: each peer signals once, handing over its landing slots; each waits for three units.
  * 4-6, 10-12, 16-18: a device's own send semaphores, giving the source slab back.
  * 7-9, 13-15, 19-21: the receive semaphores, handing over a landed slab with its contents.
  * 22, 23: the weight copies, sixteen rounds each.
-/
module

public import proofs.«01_k».proof.Proof.Slabs
public import proofs.«01_k».proof.Proof.Gen.KernelIdeal.Skeleton
public import proofs.«01_k».proof.Proof.Gen.KernelIdeal.Launch
public import Idealize.ShloMosaic.Lib.Pipeline.Regions

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

/-! ## The ghost algebra: the pipeline's copy and the protocol's -/

abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Devices -/

/-- The device `j` places after `c`. -/
def rot (c : Fin 4) (j : ℕ) : Fin 4 := ⟨(c.val + j) % 4, Nat.mod_lt _ (by decide)⟩

theorem rot_val (c : Fin 4) (j : ℕ) : (rot c j).val = (c.val + j) % 4 := rfl
theorem rot_zero (c : Fin 4) : rot c 0 = c := by revert c; decide
theorem rot_31 (c : Fin 4) : rot (rot c 1) 3 = c := by revert c; decide
theorem rot_22 (c : Fin 4) : rot (rot c 2) 2 = c := by revert c; decide
theorem rot_13 (c : Fin 4) : rot (rot c 3) 1 = c := by revert c; decide

/-! ## Memory -/

abbrev WH : Memref sig .tc .hbm S8x1024x1024 .bf16 := Memref.whole main_v69
abbrev XD : Memref sig .tc .vmem S4x768x1024 .bf16 := Memref.whole cc0_scratch0
abbrev MD : Memref sig .tc .vmem S4x768x2 .f32 := Memref.whole cc0_scratch1
abbrev RX : Memref sig .tc .vmem S3x768x1024 .bf16 := Memref.whole cc0_scratch2
abbrev RM : Memref sig .tc .vmem S3x768x2 .f32 := Memref.whole cc0_scratch3
abbrev RR : Memref sig .tc .vmem S3x768x1024 .bf16 := Memref.whole cc0_scratch4
abbrev AC : Memref sig .tc .vmem S2x768x1024 .bf16 := Memref.whole cc0_scratch5
abbrev WV : Memref sig .tc .vmem S2x1024x1024 .bf16 := Memref.whole cc0_scratch6

theorem inbWH (d : Fin 8) : ∀ a, (![d.val, 0, 0] : Fin 3 → ℕ) a + S1x1024x1024.size a ≤ S8x1024x1024.size a := by revert d; decide
theorem inbXD (d : Fin 4) : ∀ a, (![d.val, 0, 0] : Fin 3 → ℕ) a + S1x768x1024.size a ≤ S4x768x1024.size a := by revert d; decide
theorem inbMD (d : Fin 4) : ∀ a, (![d.val, 0, 0] : Fin 3 → ℕ) a + S1x768x2.size a ≤ S4x768x2.size a := by revert d; decide
theorem inbRX (d : Fin 3) : ∀ a, (![d.val, 0, 0] : Fin 3 → ℕ) a + S1x768x1024.size a ≤ S3x768x1024.size a := by revert d; decide
theorem inbRM (d : Fin 3) : ∀ a, (![d.val, 0, 0] : Fin 3 → ℕ) a + S1x768x2.size a ≤ S3x768x2.size a := by revert d; decide
theorem inbAC (d : Fin 2) : ∀ a, (![d.val, 0, 0] : Fin 3 → ℕ) a + S1x768x1024.size a ≤ S2x768x1024.size a := by revert d; decide
theorem inbWV (d : Fin 2) : ∀ a, (![d.val, 0, 0] : Fin 3 → ℕ) a + S1x1024x1024.size a ≤ S2x1024x1024.size a := by revert d; decide
theorem inbPV (d : Fin 4) : ∀ a, (![d.val, 0] : Fin 2 → ℕ) a + S1x2048.size a ≤ S4x2048.size a := by revert d; decide

abbrev whR (d : Fin 8) : Rect S8x1024x1024 := Rect.unit (s := S8x1024x1024) ![d.val, 0, 0] S1x1024x1024.size (inbWH d)
abbrev xdR (d : Fin 4) : Rect S4x768x1024 := Rect.unit (s := S4x768x1024) ![d.val, 0, 0] S1x768x1024.size (inbXD d)
abbrev mdR (d : Fin 4) : Rect S4x768x2 := Rect.unit (s := S4x768x2) ![d.val, 0, 0] S1x768x2.size (inbMD d)
abbrev rxR (d : Fin 3) : Rect S3x768x1024 := Rect.unit (s := S3x768x1024) ![d.val, 0, 0] S1x768x1024.size (inbRX d)
abbrev rmR (d : Fin 3) : Rect S3x768x2 := Rect.unit (s := S3x768x2) ![d.val, 0, 0] S1x768x2.size (inbRM d)
abbrev acR (d : Fin 2) : Rect S2x768x1024 := Rect.unit (s := S2x768x1024) ![d.val, 0, 0] S1x768x1024.size (inbAC d)
abbrev wvR (d : Fin 2) : Rect S2x1024x1024 := Rect.unit (s := S2x1024x1024) ![d.val, 0, 0] S1x1024x1024.size (inbWV d)
abbrev pvR (d : Fin 4) : Rect S4x2048 := Rect.unit (s := S4x2048) ![d.val, 0] S1x2048.size (inbPV d)

abbrev whS (d : Fin 8) : Memref sig .tc .hbm S1x1024x1024 .bf16 := WH.slice (whR d) (fun _ => rfl)
abbrev xdS (d : Fin 4) : Memref sig .tc .vmem S1x768x1024 .bf16 := XD.slice (xdR d) (fun _ => rfl)
abbrev mdS (d : Fin 4) : Memref sig .tc .vmem S1x768x2 .f32 := MD.slice (mdR d) (fun _ => rfl)
abbrev rxS (d : Fin 3) : Memref sig .tc .vmem S1x768x1024 .bf16 := RX.slice (rxR d) (fun _ => rfl)
abbrev rmS (d : Fin 3) : Memref sig .tc .vmem S1x768x2 .f32 := RM.slice (rmR d) (fun _ => rfl)
abbrev rrS (d : Fin 3) : Memref sig .tc .vmem S1x768x1024 .bf16 := RR.slice (rxR d) (fun _ => rfl)
abbrev acS (d : Fin 2) : Memref sig .tc .vmem S1x768x1024 .bf16 := AC.slice (acR d) (fun _ => rfl)
abbrev wvS (d : Fin 2) : Memref sig .tc .vmem S1x1024x1024 .bf16 := WV.slice (wvR d) (fun _ => rfl)

/-! ## Contents -/

/-- The four arrays each device enters the kernel with. -/
structure Inp (F : FTy → Type) where
  /-- the token rows, -/
  x : Dev nD → Vec F S2048x1024 .bf16
  /-- each token's place in each destination's slab (or none), -/
  p : Dev nD → Vec F S4x2048 .f32
  /-- each token's expert number at its destination and its position among that expert's, -/
  l : Dev nD → Vec F S2048x2 .f32
  /-- the experts' weights. -/
  w : Dev nD → Vec F S8x1024x1024 .bf16

/-- Row `d` of device `p`'s places: the places in destination `d`'s slab. -/
def rowV (I : Inp F) (p : Dev nD) (d : Fin 4) : Vec F S1x2048 .f32 := fun j => I.p p ((pvR d).emb j)

/-- The slab of token rows device `p` packs for device `d`. -/
def xdV (I : Inp F) (p : Dev nD) (d : Fin 4) : Vec F S1x768x1024 .bf16 := k0_pay10 (rowV I p d) (I.x p)
/-- The slab of expert numbers and positions device `p` packs for device `d`. -/
def mdV (I : Inp F) (p : Dev nD) (d : Fin 4) : Vec F S1x768x2 .f32 := k0_pay11 (rowV I p d) (I.l p)
/-- Expert `e`'s weights on device `p`. -/
def wV (I : Inp F) (p : Dev nD) (e : Fin 8) : Vec F S1x1024x1024 .bf16 := fun j => I.w p ((whR e).emb j)

/-- How many tokens of a slab each expert is sent. -/
def cntV (v : Vec F S1x768x2 .f32) : FVec F S8 .f32 := k0_pay27 k0_pay22 (k0_pay23 v)

/-- The number of the device `j` places after the one of word `w`, as a word. -/
def devW (w j : BitVec 32) : BitVec 32 := Scalar.remsi (Scalar.addi w j) 4#32

/-- `n` where the word `a` is less than `b`, and zero elsewhere, added to `t`. -/
def addLt (a b : BitVec 32) (n t : FVec F S8 .f32) : FVec F S8 .f32 :=
  addf t (mulf (broadcast S8 (Scalar.select (Scalar.cmpi .slt a b) (Scalar.ofBits .f32 0x3F800000#32 : F .f32)
    (Scalar.ofBits .f32 0x00000000#32))) n)

/-- How many tokens the devices of lower number sent each expert, `b` being the number of the source and `w₀ … w₃` the
    sources' numbers in order. -/
def baseV (w₀ w₁ w₂ w₃ b : BitVec 32) (n₀ n₁ n₂ n₃ : FVec F S8 .f32) : FVec F S8 .f32 :=
  addLt w₃ b n₃ (addLt w₂ b n₂ (addLt w₁ b n₁ (addLt w₀ b n₀ (broadcast S8 (Scalar.ofBits .f32 0x00000000#32)))))

theorem trips1 : k0_t1_loop.trips = 8 := by decide +kernel
theorem trips2 : k0_t2_loop.trips = 8 := by decide +kernel
theorem trips3 : k0_t3_loop.trips = 8 := by decide +kernel
theorem trips4 : k0_t4_loop.trips = 8 := by decide +kernel

/-- Which row of expert `t`'s window takes which token of a slab: `m` the slab's metadata, `b` how many tokens the
    devices of lower number sent each expert. -/
def permV (m : Vec F S1x768x2 .f32) (b : FVec F S8 .f32) (t : Fin 8) : FVec F S256x768 .bf16 :=
  k0_pay1 (iota .tc S256x768 32 [0] iota_S256x768_d0_w32) k0_pay31 (k0_pay32 (k0_pay23 m)) (k0_pay33 (k0_pay23 m)) b 0#32 1#32
    (t.cast trips1.symm)

/-- One expert's contribution added to the result of a slab. -/
def stepV (x : Vec F S1x768x1024 .bf16) (m : Vec F S1x768x2 .f32) (b : FVec F S8 .f32) (w : Vec F S1x1024x1024 .bf16)
    (t : Fin 8) (a : Vec F S1x768x1024 .bf16) : Vec F S1x768x1024 .bf16 :=
  k0_pay37 (permV m b t) (k0_pay2 x) (constant S256x1024 .f32 0x00000000#32) w a

/-- The result of a slab after its first `k` experts. -/
def runV (x : Vec F S1x768x1024 .bf16) (m : Vec F S1x768x2 .f32) (b : FVec F S8 .f32) (w : Fin 8 → Vec F S1x1024x1024 .bf16) :
    ℕ → Vec F S1x768x1024 .bf16
  | 0 => k0_pay36
  | k + 1 => if h : k < 8 then stepV x m b (w ⟨k, h⟩) ⟨k, h⟩ (runV x m b w k) else runV x m b w k

/-- The number of the device `s` places after `p`, as the kernel computes it. -/
def srcW (p : Dev nD) (s : ℕ) : BitVec 32 := devW (Dev.word p) (BitVec.ofNat 32 s)

/-- How many tokens the devices numbered below the one `s` places after `p` sent each of `p`'s experts. -/
def baseOf (I : Inp F) (p : Dev nD) (s : ℕ) : FVec F S8 .f32 :=
  baseV (srcW p 0) (srcW p 1) (srcW p 2) (srcW p 3) (srcW p s)
    (cntV (mdV I (rot p 0) p)) (cntV (mdV I (rot p 1) p)) (cntV (mdV I (rot p 2) p)) (cntV (mdV I (rot p 3) p))

/-- Device `p`'s result, after `k` experts, on the slab of the device `s` places after it. -/
def accK (I : Inp F) (p : Dev nD) (s k : ℕ) : Vec F S1x768x1024 .bf16 :=
  runV (xdV I (rot p s) p) (mdV I (rot p s) p) (baseOf I p s) (wV I p) k

/-- Device `p`'s result on the slab of the device `s` places after it. -/
def accV (I : Inp F) (p : Dev nD) (s : ℕ) : Vec F S1x768x1024 .bf16 := accK I p s 8

/-! ## Cells -/

/-- Device `c`'s barrier cell. -/
abbrev bar (c : Dev nD) : GSem nD τ sig := ((c : Thread nD τ), .reg barrier0)
/-- Device `c`'s `n`-th DMA cell. -/
abbrev cell (c : Dev nD) (n : Fin 24) : GSem nD τ sig := ((c : Thread nD τ), .dma n)

/-- The credit of a copy of a slab of token rows, -/
abbrev NX : ℕ := ((rxS 0).squeeze S768x1024 squeezes_S1x768x1024_S768x1024).view.dmaCredit
/-- of a slab of metadata, -/
abbrev NM : ℕ := ((rmS 0).squeeze S768x2 squeezes_S1x768x2_S768x2).view.dmaCredit
/-- and of an expert's weights. -/
abbrev NW : ℕ := ((wvS 0).squeeze S1024x1024 squeezes_S1x1024x1024_S1024x1024).view.dmaCredit

theorem NX_pos : 0 < NX := View.dmaCredit_pos _ (by decide)
theorem NM_pos : 0 < NM := View.dmaCredit_pos _ (by decide)
theorem NW_pos : 0 < NW := View.dmaCredit_pos _ (by decide)

/-- What one copy onto DMA cell `n` adds to it. -/
def amt (n : ℕ) : ℕ := if n < 10 then NX else if n < 16 then NM else if n < 22 then NX else NW

theorem amt_pos (n : ℕ) : 0 < amt n := by
  unfold amt; split_ifs <;> first | exact NX_pos | exact NM_pos | exact NW_pos

/-! ## Payloads -/

variable (I : Inp F)

/-- What device `p` hands to device `c`'s barrier: its landing slot `k`, and that its receive cells for it are at their
    first round. -/
def barPay (p : Dev nD) (k : Fin 3) : sProp 𝕄 :=
  iprop((∃ Y : Vec F S1x768x2 .f32, owns (p : Thread nD τ) (rmS k) fullShare Y)
    ∗ (∃ Y : Vec F S1x768x1024 .bf16, owns (p : Thread nD τ) (rxS k) fullShare Y)
    ∗ (∃ Y : Vec F S1x768x1024 .bf16, owns (p : Thread nD τ) (rrS k) fullShare Y)
    ∗ reached ER (cell p ⟨13 + k.val, by omega⟩) 0
    ∗ reached ER (cell p ⟨7 + k.val, by omega⟩) 0
    ∗ reached ER (cell p ⟨19 + k.val, by omega⟩) 0)

/-- What a weight copy hands back: the buffer filled with expert `e`'s weights, and those weights. -/
def wPay (c : Dev nD) (s : Fin 2) (e : Fin 8) : sProp 𝕄 :=
  iprop(owns (c : Thread nD τ) (wvS s) fullShare (wV I c e) ∗ owns (c : Thread nD τ) (whS e) fullShare (wV I c e))

/-- What a copy onto device `c`'s DMA cell `n` hands over, in round `r`. -/
def dmaPay (c : Dev nD) (n r : ℕ) : sProp 𝕄 :=
  match n with
  | 4 => owns (c : Thread nD τ) (xdS (rot c 1)) fullShare (xdV I c (rot c 1))
  | 5 => owns (c : Thread nD τ) (xdS (rot c 2)) fullShare (xdV I c (rot c 2))
  | 6 => owns (c : Thread nD τ) (xdS (rot c 3)) fullShare (xdV I c (rot c 3))
  | 7 => owns (c : Thread nD τ) (rxS 0) fullShare (xdV I (rot c 1) c)
  | 8 => owns (c : Thread nD τ) (rxS 1) fullShare (xdV I (rot c 2) c)
  | 9 => owns (c : Thread nD τ) (rxS 2) fullShare (xdV I (rot c 3) c)
  | 10 => owns (c : Thread nD τ) (mdS (rot c 1)) fullShare (mdV I c (rot c 1))
  | 11 => owns (c : Thread nD τ) (mdS (rot c 2)) fullShare (mdV I c (rot c 2))
  | 12 => owns (c : Thread nD τ) (mdS (rot c 3)) fullShare (mdV I c (rot c 3))
  | 13 => owns (c : Thread nD τ) (rmS 0) fullShare (mdV I (rot c 1) c)
  | 14 => owns (c : Thread nD τ) (rmS 1) fullShare (mdV I (rot c 2) c)
  | 15 => owns (c : Thread nD τ) (rmS 2) fullShare (mdV I (rot c 3) c)
  | 16 => owns (c : Thread nD τ) (acS 1) fullShare (accV I c 1)
  | 17 => owns (c : Thread nD τ) (acS 0) fullShare (accV I c 2)
  | 18 => owns (c : Thread nD τ) (acS 1) fullShare (accV I c 3)
  | 19 => owns (c : Thread nD τ) (rrS 0) fullShare (accV I (rot c 1) 3)
  | 20 => owns (c : Thread nD τ) (rrS 1) fullShare (accV I (rot c 2) 2)
  | 21 => owns (c : Thread nD τ) (rrS 2) fullShare (accV I (rot c 3) 1)
  | 22 => wPay I c 0 ⟨2 * (r % 4), by omega⟩
  | 23 => wPay I c 1 ⟨2 * (r % 4) + 1, by omega⟩
  | _ => iprop(emp)

instance dmaPay_storable (c : Dev nD) (n r : ℕ) : BI.Storable (upEmb : UEmb _ 𝕄) (dmaPay I c n r) := by
  unfold dmaPay wPay; split <;> infer_instance

/-- The duties: the barrier takes one unit from each peer, DMA cells 4 to 21 one copy, the weight cells sixteen. -/
def dutiesOf (g : GSem nD τ sig) (r : ℕ) : Finset (Fin 4) :=
  if g.1.2 = .tc then
    match g.2 with
    | .reg _ => if r = 0 then {1, 2, 3} else ∅
    | .dma n => if 22 ≤ n.val then (if r < 16 then {0} else ∅) else if 4 ≤ n.val ∧ r = 0 then {0} else ∅
  else ∅

/-- What each duty hands over. -/
def payOf (g : GSem nD τ sig) (r : ℕ) (d : Fin 4) : sProp 𝕄 :=
  match g.2 with
  | .reg _ => if h : 1 ≤ d.val then barPay (rot g.1.1 (4 - d.val)) ⟨d.val - 1, by omega⟩ else iprop(emp)
  | .dma n => dmaPay I g.1.1 n.val r

instance payOf_storable (g : GSem nD τ sig) (r : ℕ) (d : Fin 4) : BI.Storable (upEmb : UEmb _ 𝕄) (payOf I g r d) := by
  unfold payOf barPay
  split
  · split <;> infer_instance
  · infer_instance

def amountOf (g : GSem nD τ sig) : ℕ := match g.2 with | .reg _ => 1 | .dma n => amt n.val

/-- The schedule of the kernel's cells. -/
def Rd : Rounds.Schedule (GSem nD τ sig) (Fin 4) 𝕄 where
  duties := dutiesOf
  unitless _ := False
  amount g _ _ := amountOf g
  payload := payOf I
  amount_pos g _ _ _ := by
    unfold amountOf; split
    · exact Nat.one_pos
    · exact amt_pos _

instance Rd_storable (g : GSem nD τ sig) (r : ℕ) (d : Fin 4) : BI.Storable (upEmb : UEmb _ 𝕄) ((Rd I).payload g r d) :=
  payOf_storable I g r d

/-! ### Reading the schedule -/

theorem duties_bar (c : Dev nD) : (Rd I).duties (bar c) 0 = {1, 2, 3} := rfl
theorem duties_dma (c : Dev nD) (n : Fin 24) (h : 4 ≤ n.val) : (Rd I).duties (cell c n) 0 = {0} := by
  show (if 22 ≤ n.val then (if 0 < 16 then {0} else ∅) else if 4 ≤ n.val ∧ 0 = 0 then ({0} : Finset (Fin 4)) else ∅) = {0}
  split_ifs <;> first | rfl | omega
theorem duties_w (c : Dev nD) (n : Fin 24) (h : 22 ≤ n.val) (r : ℕ) (hr : r < 16) : (Rd I).duties (cell c n) r = {0} := by
  show (if 22 ≤ n.val then (if r < 16 then {0} else ∅) else if 4 ≤ n.val ∧ r = 0 then ({0} : Finset (Fin 4)) else ∅) = {0}
  rw [if_pos h, if_pos hr]
theorem duties_bar_later (c : Dev nD) (r : ℕ) (hr : 1 ≤ r) : (Rd I).duties (bar c) r = ∅ := by
  show (if r = 0 then ({1, 2, 3} : Finset (Fin 4)) else ∅) = ∅
  rw [if_neg (by omega)]
theorem duties_dma_later (c : Dev nD) (n : Fin 24) (h : n.val < 22) (r : ℕ) (hr : 1 ≤ r) : (Rd I).duties (cell c n) r = ∅ := by
  show (if 22 ≤ n.val then (if r < 16 then {0} else ∅) else if 4 ≤ n.val ∧ r = 0 then ({0} : Finset (Fin 4)) else ∅) = ∅
  rw [if_neg (by omega), if_neg (by omega)]
theorem duties_w_later (c : Dev nD) (n : Fin 24) (h : 22 ≤ n.val) (r : ℕ) (hr : 16 ≤ r) : (Rd I).duties (cell c n) r = ∅ := by
  show (if 22 ≤ n.val then (if r < 16 then {0} else ∅) else if 4 ≤ n.val ∧ r = 0 then ({0} : Finset (Fin 4)) else ∅) = ∅
  rw [if_pos h, if_neg (by omega)]

theorem expect_bar (c : Dev nD) : (Rd I).expect (bar c) 0 = 3 := by
  unfold Schedule.expect Schedule.amountOf; rw [duties_bar]; rfl
theorem expect_one (c : Dev nD) (n : Fin 24) (r : ℕ) (h : (Rd I).duties (cell c n) r = {0}) :
    (Rd I).expect (cell c n) r = amt n.val := by
  unfold Schedule.expect Schedule.amountOf; rw [h, Finset.sum_singleton]; rfl
theorem rest_one (c : Dev nD) (n : Fin 24) (r : ℕ) (h : (Rd I).duties (cell c n) r = {0}) :
    bigSep ((Rd I).duties (cell c n) r \ ∅) (fun d => (Rd I).payload (cell c n) r d) = dmaPay I c n.val r := by
  rw [Finset.sdiff_empty, h, bigSep_singleton]; rfl
theorem rest_bar (c : Dev nD) :
    bigSep ((Rd I).duties (bar c) 0 \ ∅) (fun d => (Rd I).payload (bar c) 0 d)
      = iprop(barPay (F := F) (rot c 3) 0 ∗ barPay (F := F) (rot c 2) 1 ∗ barPay (F := F) (rot c 1) 2) := by
  rw [Finset.sdiff_empty, duties_bar, bigSep_eq_bigSepL_of_eq [1, 2, 3] (by decide) (by decide)]; rfl
theorem payload_bar (c : Dev nD) (d : Fin 4) (h : 1 ≤ d.val) :
    (Rd I).payload (bar c) 0 d = barPay (rot c (4 - d.val)) ⟨d.val - 1, by omega⟩ := by
  show (if h : 1 ≤ d.val then barPay (rot c (4 - d.val)) ⟨d.val - 1, by omega⟩ else iprop(emp)) = _
  rw [dif_pos h]
theorem payload_dma (c : Dev nD) (n : Fin 24) (r : ℕ) (d : Fin 4) : (Rd I).payload (cell c n) r d = dmaPay I c n.val r := rfl

/-! ## Levels, and what each device owes -/

def L (g : GSem nD τ sig) : Finset Unit := if g.1.2 = .tc then {()} else ∅
theorem L_of_ne (g : GSem nD τ sig) (h : g.1.2 ≠ .tc) : L g = ∅ := if_neg h

/-- The order in which waits may depend on each other: barrier, metadata, token rows, results. -/
def lvN (n : ℕ) : ℕ := if 13 ≤ n ∧ n < 16 then 2 else if 7 ≤ n ∧ n < 10 then 3 else if 19 ≤ n ∧ n < 22 then 4 else 0
def lv (g : GSem nD τ sig) (_ : Unit) : ℕ := match g.2 with | .reg _ => 1 | .dma n => lvN n.val

/-- Every unit a core still owes is on a cell of level above `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_add {b : ℕ} {O : CellTallies nD τ sig Unit} (h : Above b O) (g : GSem nD τ sig) (k : ℕ)
    (hg : g.1.2 = .tc) (hb : b < lv g ()) : Above b (O + tallyAt g () k) := fun g' u hp => by
  rw [Pi.add_apply, Finsupp.add_apply] at hp
  rcases Nat.add_pos_iff_pos_or_pos.mp hp with h' | h'
  · exact h g' u h'
  · rw [tallyAt_apply] at h'
    split at h'
    · next e => obtain ⟨rfl, -⟩ := e; exact ⟨hg, hb⟩
    · exact absurd h' (Nat.lt_irrefl 0)
theorem above_mono {b b' : ℕ} {O : CellTallies nD τ sig Unit} (h : Above b O) (hb : b' ≤ b) : Above b' O :=
  fun g u hp => ⟨(h g u hp).1, lt_of_le_of_lt hb (h g u hp).2⟩

/-- A core owing only on cells of higher level may wait. -/
theorem mayWait (c : Dev nD) (sm : SemLoc sig) (O : CellTallies nD τ sig Unit)
    (h : Above (lv ((c : Thread nD τ), sm) ()) O) : (levAts L lv : sProp 𝕄) ⊢ MayWait (c : Thread nD τ) sm () O :=
  MayOwe.of_cut (L := L) (lev := lv) (lv ((c : Thread nD τ), sm) ())
    (fun p hp => by rw [Finset.mem_singleton.mp hp]; exact Finset.mem_singleton_self _)
    (fun g i hg => by unfold L; rw [if_pos (h g i hg).1]; exact Finset.mem_singleton_self _)
    (fun p hp => by rw [Finset.mem_singleton.mp hp])
    (fun g i hg => (h g i hg).2)

/-- What a core owes before its last result copy, and before each payment earlier than that. -/
def oP3 (c : Dev nD) : CellTallies nD τ sig Unit := 0 + tallyAt (cell (rot c 3) 19) () NX
def oP2 (c : Dev nD) : CellTallies nD τ sig Unit := oP3 c + tallyAt (cell (rot c 2) 20) () NX
def oP1 (c : Dev nD) : CellTallies nD τ sig Unit := oP2 c + tallyAt (cell (rot c 1) 21) () NX
def oX3 (c : Dev nD) : CellTallies nD τ sig Unit := oP1 c + tallyAt (cell (rot c 3) 7) () NX
def oX2 (c : Dev nD) : CellTallies nD τ sig Unit := oX3 c + tallyAt (cell (rot c 2) 8) () NX
def oX1 (c : Dev nD) : CellTallies nD τ sig Unit := oX2 c + tallyAt (cell (rot c 1) 9) () NX
def oM3 (c : Dev nD) : CellTallies nD τ sig Unit := oX1 c + tallyAt (cell (rot c 3) 13) () NM
def oM2 (c : Dev nD) : CellTallies nD τ sig Unit := oM3 c + tallyAt (cell (rot c 2) 14) () NM
def oM1 (c : Dev nD) : CellTallies nD τ sig Unit := oM2 c + tallyAt (cell (rot c 1) 15) () NM
def oB3 (c : Dev nD) : CellTallies nD τ sig Unit := oM1 c + tallyAt (bar (rot c 3)) () 1
def oB2 (c : Dev nD) : CellTallies nD τ sig Unit := oB3 c + tallyAt (bar (rot c 2)) () 1
/-- What a core owes at launch. -/
def O₀ (c : Dev nD) : CellTallies nD τ sig Unit := oB2 c + tallyAt (bar (rot c 1)) () 1

theorem above_P3 (c : Dev nD) : Above 3 (oP3 c) := above_add (above_zero _) _ _ rfl (by show 3 < lvN 19; decide)
theorem above_P2 (c : Dev nD) : Above 3 (oP2 c) := above_add (above_P3 c) _ _ rfl (by show 3 < lvN 20; decide)
theorem above_P1 (c : Dev nD) : Above 3 (oP1 c) := above_add (above_P2 c) _ _ rfl (by show 3 < lvN 21; decide)
theorem above_X1 (c : Dev nD) : Above 2 (oX1 c) :=
  above_add (above_add (above_add (above_mono (above_P1 c) (by decide)) _ _ rfl (by show 2 < lvN 7; decide)) _ _ rfl
    (by show 2 < lvN 8; decide)) _ _ rfl (by show 2 < lvN 9; decide)
theorem above_M1 (c : Dev nD) : Above 1 (oM1 c) :=
  above_add (above_add (above_add (above_mono (above_X1 c) (by decide)) _ _ rfl (by show 1 < lvN 13; decide)) _ _ rfl
    (by show 1 < lvN 14; decide)) _ _ rfl (by show 1 < lvN 15; decide)
theorem above_O (c : Dev nD) : Above 0 (O₀ c) :=
  above_add (above_add (above_add (above_mono (above_M1 c) (by decide)) _ _ rfl Nat.one_pos) _ _ rfl Nat.one_pos) _ _ rfl Nat.one_pos

end Cert.Moe

end
-- ==== Proof.Steps.lean ====
/-
  The kernel's memory and semaphore operations against the protocol: one lemma per kind of step, over the schedule `Rd`.
  Each takes the offset, the semaphore or the device a program names by an equation to the one the protocol names.
-/
module

public import proofs.«01_k».proof.Proof.Protocol

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

abbrev 𝒱₀ : Variants := Variants.none

/-! ## The invariants -/

theorem bar_inj : Function.Injective bar := fun c c' h => by
  have := congrArg (fun g : GSem nD τ sig => g.1.1) h; exact this
theorem cell_inj : Function.Injective (fun p : Fin 4 × Fin 20 => cell p.1 ⟨4 + p.2.val, by omega⟩) := fun p q h => by
  have h1 := congrArg (fun g : GSem nD τ sig => g.1.1) h
  have h2 := congrArg (fun g : GSem nD τ sig => g.2) h
  simp only [SemLoc.dma.injEq, Fin.mk.injEq] at h2
  exact Prod.ext h1 (Fin.ext (by omega))

/-- The four barrier cells. -/
def barCells : Finset (GSem nD τ sig) := Finset.univ.map ⟨bar, bar_inj⟩
/-- The eighty DMA cells of the kernel. -/
def dmaCells : Finset (GSem nD τ sig) := Finset.univ.map ⟨fun p : Fin 4 × Fin 20 => cell p.1 ⟨4 + p.2.val, by omega⟩, cell_inj⟩

theorem mem_bar (c : Dev nD) : bar c ∈ barCells := Finset.mem_map.mpr ⟨c, Finset.mem_univ _, rfl⟩
theorem mem_cell (c : Dev nD) (n : Fin 24) (h : 4 ≤ n.val) : cell c n ∈ dmaCells :=
  Finset.mem_map.mpr ⟨(c, ⟨n.val - 4, by omega⟩), Finset.mem_univ _, by
    simp only [Function.Embedding.coeFn_mk]
    have : (⟨4 + (n.val - 4), by omega⟩ : Fin 24) = n := Fin.ext (by simp; omega)
    rw [this]⟩

variable (I : Inp F) (K : GSem nD τ sig → ℕ)

/-- Every cell's invariant. -/
def allInv : sProp 𝕄 := bigSep (barCells ∪ dmaCells) (fun g => cellInv ER (Rd I) (K g) g)
instance : BI.Persistent (allInv I K) := by unfold allInv; infer_instance

theorem inv_bar (c : Dev nD) : allInv I K ⊢ cellInv ER (Rd I) (K (bar c)) (bar c) :=
  bigSep_elim (Finset.mem_union_left _ (mem_bar c))
theorem inv_cell (c : Dev nD) (n : Fin 24) (h : 4 ≤ n.val) : allInv I K ⊢ cellInv ER (Rd I) (K (cell c n)) (cell c n) :=
  bigSep_elim (Finset.mem_union_right _ (mem_cell c n h))

/-- What core `c` owes, whatever it has waited for. -/
def owe (c : Dev nD) (O : CellTallies nD τ sig Unit) : sProp 𝕄 := iprop(∃ W, owes (c : Thread nD τ) O W)

section Steps

variable (c : Dev nD) {α : Type} {Q : α → sProp (MT nD τ sig Unit (Elt F) ℕ UU ℕ)}
variable {k : PUnit → Prog (TpuEff nD τ sig (Elt F) Λ₀ .tc) α}

/-- A wait for a whole round of a DMA cell: the round's payload comes with it. -/
theorem wait_dma (n : Fin 24) (h4 : 4 ≤ n.val) (r : ℕ) {sm : DmaSem sig} (hsm : sm = n) {sp sp' : Space} {s : Shape} {e : EltTy}
    {src : Memref sig .tc sp s e} {dst : Memref sig .tc sp' s e} {h₁ : src.view.WordExact} {h₂ : dst.view.WordExact}
    (hd : (Rd I).duties (cell c n) r = {0}) (hN : dst.view.dmaCredit = amt n.val) (O : CellTallies nD τ sig Unit)
    (hO : Above (lvN n.val) O) :
    (iprop(allInv I K ∗ levAts L lv ∗ cred (tallyAt (cell c n) () (amt n.val)) ∗ owe c O ∗ atPos ER (cell c n) r ∅ 0) : sProp 𝕄)
      ⊢ iprop(((owe c O ∗ atPos ER (cell c n) (r + 1) ∅ 0 ∗ reached ER (cell c n) (r + 1) ∗ dmaPay I c n.val r)
            -∗ wp frame (wpE (defs₀ (F := F)) 𝒱₀ c none) Set.univ (k ⟨⟩) Q)
          -∗ wp frame (wpE (defs₀ (F := F)) 𝒱₀ c none) Set.univ (.op (.waitDma2 sm src dst h₁ h₂) k) Q) := by
  subst hsm
  iintro ⟨#Hi, #Hl, Hc, HO, Ha⟩ Hk
  unfold owe
  icases HO with ⟨%W, HO⟩
  rw [← hN]
  ihave #Hi' := (inv_cell I K c sm h4) $$ Hi
  iapply (Rounds.wp_wait_rest_token 𝒱₀ ER (Rd I) (c : Thread nD τ) none (κ := K (cell c sm))
      (wpE_waitDma2_eq 𝒱₀ (c : Thread nD τ) none Set.univ (src := src) (dst := dst)) (Set.mem_univ _) () (O := O) (W := W) (R := r) (m := 0) (T := ∅)
      (by rw [expect_one I c sm r hd, Nat.zero_add]; exact hN)) $$ [Hc HO Ha]
  · isplitr; · iexact Hi'
    isplitl [Hc]; · iexact Hc
    isplitl [HO]; · iexact HO
    isplitr; · iapply (mayWait c (.dma sm) O hO); iexact Hl
    iexact Ha
  iintro ⟨HO, Ha, #Hr, Hp⟩
  iapply Hk
  isplitl [HO]; · iexists _; iexact HO
  isplitl [Ha]; · iexact Ha
  isplitr; · iexact Hr
  iapply (Entails.of_eq (rest_one I c sm r hd)); iexact Hp

/-- The wait for the three peers' signals. -/
theorem wait_bar {sm : Sem sig} (hsm : sm = barrier0) {k' : ℕ} (hk' : k' = 3) (O : CellTallies nD τ sig Unit) (hO : Above 1 O) :
    (iprop(allInv I K ∗ levAts L lv ∗ cred (tallyAt (bar c) () 3) ∗ owe c O ∗ atPos ER (bar c) 0 ∅ 0) : sProp 𝕄)
      ⊢ iprop(((owe c O ∗ atPos ER (bar c) 1 ∅ 0
              ∗ barPay (F := F) (rot c 3) 0 ∗ barPay (F := F) (rot c 2) 1 ∗ barPay (F := F) (rot c 1) 2)
            -∗ wp frame (wpE (defs₀ (F := F)) 𝒱₀ c none) Set.univ (k ⟨⟩) Q)
          -∗ wp frame (wpE (defs₀ (F := F)) 𝒱₀ c none) Set.univ (.op (.semWait sm k') k) Q) := by
  subst hsm hk'
  iintro ⟨#Hi, #Hl, Hc, HO, Ha⟩ Hk
  unfold owe
  icases HO with ⟨%W, HO⟩
  ihave #Hi' := (inv_bar I K c) $$ Hi
  iapply (Rounds.wp_wait_rest_token 𝒱₀ ER (Rd I) (c : Thread nD τ) none (κ := K (bar c))
      (wpE_semWait_eq 𝒱₀ (c : Thread nD τ) none Set.univ) (Set.mem_univ _) () (O := O) (W := W) (R := 0) (m := 0) (T := ∅)
      (by rw [expect_bar])) $$ [Hc HO Ha]
  · isplitr; · iexact Hi'
    isplitl [Hc]; · iexact Hc
    isplitl [HO]; · iexact HO
    isplitr; · iapply (mayWait c (.reg barrier0) O hO); iexact Hl
    iexact Ha
  iintro ⟨HO, Ha, -, Hp⟩
  iapply Hk
  isplitl [HO]; · iexists _; iexact HO
  isplitl [Ha]; · iexact Ha
  iapply (Entails.of_eq (rest_bar I c)); iexact Hp

/-- A signal to the device `j` places on: it hands over the landing slot that device copies to. -/
theorem signal_bar (p : Dev nD) (d : Fin 4) (hd : 1 ≤ d.val) (hp : rot p (4 - d.val) = c) {n : Dev nD} (hn : n = p) {sm : Sem sig}
    (hsm : sm = barrier0) {k' : ℕ} (hk' : k' = 1) {O₀ : CellTallies nD τ sig Unit} (O : CellTallies nD τ sig Unit)
    (hO : O₀ = O + tallyAt (bar p) () 1) (hr : τ.routes (c : Thread nD τ) (Dev.tc p : Thread nD τ) = true := by routes) :
    (iprop(allInv I K ∗ reached ER (bar p) 0 ∗ owe c O₀ ∗ dutyTok ER (bar p) 0 d ∗ barPay (F := F) c ⟨d.val - 1, by omega⟩) : sProp 𝕄)
      ⊢ iprop((owe c O -∗ wp frame (wpE (defs₀ (F := F)) 𝒱₀ c none) Set.univ (k ⟨⟩) Q)
          -∗ wp frame (wpE (defs₀ (F := F)) 𝒱₀ c none) Set.univ (.op (.semSignal (Dev.tc n : Thread nD τ) sm k') k) Q) := by
  subst hn hsm hk'
  iintro ⟨#Hi, #Hr, HO, Ht, Hp⟩ Hk
  unfold owe
  icases HO with ⟨%W, HO⟩
  ihave #Hi' := (inv_bar I K n) $$ Hi
  iapply (Rounds.wp_signal 𝒱₀ ER (Rd I) (c : Thread nD τ) none (dst := (n : Thread nD τ)) (sem := barrier0) (r := 0) (d := d) (κ := K (bar n))
      (by rw [duties_bar]; revert hd; clear hp; revert d; decide) rfl () O hO hr) $$ [HO Ht Hp]
  · isplitr; · iexact Hi'
    isplitl [HO]; · iexact HO
    isplitl [Ht]; · iexact Ht
    isplitl [Hp]
    · rw [payload_bar I n d hd, hp]; iexact Hp
    iexact Hr
  iintro HO
  iapply Hk
  iexists _; iexact HO

/-- A copy to a peer: `n₁` the sender's own cell, `n₂` the peer's. -/
theorem send_dma {s s' : Shape} {e : EltTy} (n₁ n₂ : Fin 24) (h₁ : 4 ≤ n₁.val) (h₂ : 4 ≤ n₂.val) (p : Dev nD) {n : Dev nD} (hn : n = p)
    {src : Memref sig .tc .vmem s e} {dst : Memref sig .tc .vmem s e} {hq hq' : s.Squeezes s'}
    {hsc : (dst.squeeze s' hq').view.ref.isScScratch = false} {s₁ s₂ : DmaSem sig} (hs₁ : s₁ = n₁) (hs₂ : s₂ = n₂)
    {hsrc : (src.squeeze s' hq).view.WordExact} {hdst : (dst.squeeze s' hq').view.WordExact}
    {hsem : DmaTarget.Typed .vmem (.dma s₂) (.remote (Dev.tc n : Thread nD τ) (dst.squeeze s' hq') (.dma s₁) hsc)}
    {X Y : s.Idx → Elt F e} (N : ℕ) (hN : (dst.squeeze s' hq').view.dmaCredit = N) (ha₁ : amt n₁.val = N) (ha₂ : amt n₂.val = N)
    {O₀ : CellTallies nD τ sig Unit} (O : CellTallies nD τ sig Unit) (hO : O₀ = O + tallyAt (cell p n₂) () N)
    (hp₁ : owns (c : Thread nD τ) src fullShare X ⊢ dmaPay I c n₁.val 0)
    (hp₂ : owns (p : Thread nD τ) dst fullShare X ⊢ dmaPay I p n₂.val 0)
    (hr : τ.routes (c : Thread nD τ) (Dev.tc p : Thread nD τ) = true := by routes) :
    (iprop(allInv I K ∗ owns (c : Thread nD τ) src fullShare X ∗ owns (p : Thread nD τ) dst fullShare Y ∗ owe c O₀
        ∗ dutyTok ER (cell c n₁) 0 0 ∗ reached ER (cell c n₁) 0 ∗ dutyTok ER (cell p n₂) 0 0 ∗ reached ER (cell p n₂) 0) : sProp 𝕄)
      ⊢ iprop(((cred (tallyAt (cell c n₁) () N) ∗ owe c O) -∗ wp frame (wpE (defs₀ (F := F)) 𝒱₀ c none) Set.univ (k ⟨⟩) Q)
          -∗ wp frame (wpE (defs₀ (F := F)) 𝒱₀ c none) Set.univ
            (.op (.enqueueDma (src.squeeze s' hq) (.remote (Dev.tc n : Thread nD τ) (dst.squeeze s' hq') (.dma s₁) hsc) (.dma s₂) hsrc hdst hsem) k) Q) := by
  subst hn hs₁ hs₂
  iintro ⟨#Hi, Hs, Hd, HO, Ht₁, #Hr₁, Ht₂, #Hr₂⟩ Hk
  unfold owe
  icases HO with ⟨%W, HO⟩
  ihave #Hi₁ := (inv_cell I K c s₁ h₁) $$ Hi
  ihave #Hi₂ := (inv_cell I K n s₂ h₂) $$ Hi
  iapply (send_slab 𝒱₀ ER (Rd I) (c : Thread nD τ) none (c' := (n : Thread nD τ)) (κ₁ := K (cell c s₁)) (κ₂ := K (cell n s₂)) (sS := .dma s₁) (sem := .dma s₂)
      (r₁ := 0) (r₂ := 0) (d₁ := 0) (d₂ := 0) (X := X) (Y := Y)
      (by rw [duties_dma I c s₁ h₁]; exact Finset.mem_singleton_self _) (by rw [duties_dma I n s₂ h₂]; exact Finset.mem_singleton_self _)
      () () N hN ha₁ ha₂ O hO hp₁ hp₂ hr) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

end Steps

/-! ## Semaphores by number -/

theorem sem3_inb (k : Fin 3) : ∀ a, (![k.val] : Fin 1 → ℕ) a + S1.size a ≤ S3.size a := by revert k; decide
theorem sem2_inb (k : Fin 2) : ∀ a, (![k.val] : Fin 1 → ℕ) a + S1.size a ≤ S2.size a := by revert k; decide

theorem sem_x_snd (k : Fin 3) : ((cc0_scratch7.slice (Rect.unit (s := S3) ![k.val] S1.size (sem3_inb k))).squeeze S_ squeezes_S1_S_).sem = (⟨4 + k.val, by omega⟩ : Fin 24) := by revert k; decide
theorem sem_x_rcv (k : Fin 3) : ((cc0_scratch8.slice (Rect.unit (s := S3) ![k.val] S1.size (sem3_inb k))).squeeze S_ squeezes_S1_S_).sem = (⟨7 + k.val, by omega⟩ : Fin 24) := by revert k; decide
theorem sem_m_snd (k : Fin 3) : ((cc0_scratch9.slice (Rect.unit (s := S3) ![k.val] S1.size (sem3_inb k))).squeeze S_ squeezes_S1_S_).sem = (⟨10 + k.val, by omega⟩ : Fin 24) := by revert k; decide
theorem sem_m_rcv (k : Fin 3) : ((cc0_scratch10.slice (Rect.unit (s := S3) ![k.val] S1.size (sem3_inb k))).squeeze S_ squeezes_S1_S_).sem = (⟨13 + k.val, by omega⟩ : Fin 24) := by revert k; decide
theorem sem_p_snd (k : Fin 3) : ((cc0_scratch11.slice (Rect.unit (s := S3) ![k.val] S1.size (sem3_inb k))).squeeze S_ squeezes_S1_S_).sem = (⟨16 + k.val, by omega⟩ : Fin 24) := by revert k; decide
theorem sem_p_rcv (k : Fin 3) : ((cc0_scratch12.slice (Rect.unit (s := S3) ![k.val] S1.size (sem3_inb k))).squeeze S_ squeezes_S1_S_).sem = (⟨19 + k.val, by omega⟩ : Fin 24) := by revert k; decide
theorem sem_w (k : Fin 2) : ((cc0_scratch13.slice (Rect.unit (s := S2) ![k.val] S1.size (sem2_inb k))).squeeze S_ squeezes_S1_S_).sem = (⟨22 + k.val, by omega⟩ : Fin 24) := by revert k; decide

/-! ## Equal payloads

The kernel's text states the same computation once for each destination, source and slot. -/

theorem pay14_eq (r : Vec F S1x2048 .f32) (x : Vec F S2048x1024 .bf16) : k0_pay14 (k0_pay12 r) (k0_pay13 x) = k0_pay10 r x := rfl
theorem pay15_eq (r : Vec F S1x2048 .f32) (l : Vec F S2048x2 .f32) : k0_pay15 (k0_pay12 r) l = k0_pay11 r l := rfl
theorem pay17_eq (r : Vec F S1x2048 .f32) (x : Vec F S2048x1024 .bf16) :
    k0_pay17 (iota .tc S768x2048 32 [0] iota_S768x2048_d0_w32) r x = k0_pay10 r x := rfl
theorem pay18_eq (r : Vec F S1x2048 .f32) (l : Vec F S2048x2 .f32) :
    k0_pay18 (iota .tc S768x2048 32 [0] iota_S768x2048_d0_w32) r l = k0_pay11 r l := rfl
theorem pay20_eq (r : Vec F S1x2048 .f32) (x : Vec F S2048x1024 .bf16) :
    k0_pay20 (iota .tc S768x2048 32 [0] iota_S768x2048_d0_w32) r x = k0_pay10 r x := rfl
theorem pay21_eq (r : Vec F S1x2048 .f32) (l : Vec F S2048x2 .f32) :
    k0_pay21 (iota .tc S768x2048 32 [0] iota_S768x2048_d0_w32) r l = k0_pay11 r l := rfl
theorem base0_eq (w₀ w₁ w₂ w₃ : BitVec 32) (n₀ n₁ n₂ n₃ : FVec F S8 .f32) :
    k0_pay35 w₀ w₁ w₂ w₃ n₀ n₁ n₂ n₃ k0_pay34 (Scalar.cmpi .slt w₀ w₀) (Scalar.ofBits .f32 0x3F800000#32) = baseV w₀ w₁ w₂ w₃ w₀ n₀ n₁ n₂ n₃ := rfl
theorem base1_eq (w₀ w₁ w₂ w₃ : BitVec 32) (n₀ n₁ n₂ n₃ : FVec F S8 .f32) :
    k0_pay43 w₁ w₃ n₂ n₃ (k0_pay41 w₀ w₁ n₀ n₁) (k0_pay42 w₁ w₂) = baseV w₀ w₁ w₂ w₃ w₁ n₀ n₁ n₂ n₃ := rfl
theorem base2_eq (w₀ w₁ w₂ w₃ : BitVec 32) (n₀ n₁ n₂ n₃ : FVec F S8 .f32) :
    k0_pay48 w₀ w₁ w₂ w₃ n₀ n₁ n₂ n₃ = baseV w₀ w₁ w₂ w₃ w₂ n₀ n₁ n₂ n₃ := rfl
theorem base3_eq (w₀ w₁ w₂ w₃ : BitVec 32) (n₀ n₁ n₂ n₃ : FVec F S8 .f32) :
    k0_pay54 w₀ w₁ w₂ w₃ n₀ n₁ n₂ n₃ = baseV w₀ w₁ w₂ w₃ w₃ n₀ n₁ n₂ n₃ := rfl

end Cert.Moe

end
-- ==== Proof.Weights.lean ====
/-
  The weight copies: thirty-two local copies, alternating between two buffers and two semaphores, each expert's weights
  once for each of the four slabs. Copy `i` is of expert `i % 8` into buffer `i % 2`.
-/
module

public import proofs.«01_k».proof.Proof.Steps
public import Idealize.SL.BI.BigOpNat

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-- The buffer of copy `i`, -/
abbrev bufOf (i : ℕ) : Fin 2 := ⟨i % 2, by omega⟩
/-- its expert, -/
abbrev expOf (i : ℕ) : Fin 8 := ⟨i % 8, by omega⟩
/-- and its cell. -/
abbrev wc (i : ℕ) : Fin 24 := ⟨22 + i % 2, by omega⟩

variable (I : Inp F) (K : GSem nD τ sig → ℕ) (c : Dev nD)

/-- The token of copy `i`. -/
def wTok (c : Dev nD) (i : ℕ) : sProp 𝕄 := dutyTok ER (cell c (wc i)) (i / 2) 0

/-- Where the two weight cells stand when `i` copies have been waited for. -/
def wPos (c : Dev nD) (i : ℕ) : sProp 𝕄 :=
  iprop(atPos ER (cell c (wc i)) (i / 2) ∅ 0 ∗ reached ER (cell c (wc i)) (i / 2)
    ∗ atPos ER (cell c (wc (i + 1))) ((i + 1) / 2) ∅ 0 ∗ reached ER (cell c (wc (i + 1))) ((i + 1) / 2))

/-- The weights of the experts in `S`. -/
def wRest (S : Finset (Fin 8)) : sProp 𝕄 := bigSep S (fun e => owns (c : Thread nD τ) (whS e) fullShare (wV I c e))

/-- Buffer `s`, whatever it holds. -/
def wBuf (c : Dev nD) (s : Fin 2) : sProp 𝕄 := iprop(∃ Y : Vec F S1x1024x1024 .bf16, owns (c : Thread nD τ) (wvS s) fullShare Y)

/-- Between copies: `i` have been waited for and the next is not issued. -/
def wIdle (i : ℕ) : sProp 𝕄 :=
  iprop(wPos (F := F) c i ∗ wBuf (F := F) c (bufOf i) ∗ wBuf (F := F) c (bufOf (i + 1)) ∗ wRest I c Finset.univ
    ∗ bigSep (Finset.Ico i 32) (wTok (F := F) c))

/-- Copy `i` is in flight. -/
def wFly (i : ℕ) : sProp 𝕄 :=
  iprop(cred (tallyAt (cell c (wc i)) () NW) ∗ wPos (F := F) c i ∗ wBuf (F := F) c (bufOf (i + 1))
    ∗ wRest I c (Finset.univ.erase (expOf i)) ∗ bigSep (Finset.Ico (i + 1) 32) (wTok (F := F) c))

/-- The state at trip `t` of slab `q`. -/
def wAt (q t : ℕ) : sProp 𝕄 := if t < 8 then wFly I c (8 * q + t) else wIdle I c (8 * q + 8)

/-- The state within a trip, its buffer apart: the next copy, if the slab has one, is in flight. -/
def wMid (i : ℕ) : sProp 𝕄 :=
  if i % 8 < 7 then
    iprop(cred (tallyAt (cell c (wc (i + 1))) () NW) ∗ wPos (F := F) c (i + 1)
      ∗ wRest I c (Finset.univ.erase (expOf (i + 1))) ∗ bigSep (Finset.Ico (i + 2) 32) (wTok (F := F) c))
  else
    iprop(wPos (F := F) c (i + 1) ∗ wBuf (F := F) c (bufOf (i + 1)) ∗ wRest I c Finset.univ
      ∗ bigSep (Finset.Ico (i + 1) 32) (wTok (F := F) c))

theorem wPay_eq (i : ℕ) : (dmaPay I c (wc i).val (i / 2) : sProp 𝕄) = wPay I c (bufOf i) (expOf i) := by
  rcases Nat.mod_two_eq_zero_or_one i with h | h
  · have e1 : (wc i).val = 22 := by simp [wc, h]
    have e2 : bufOf i = 0 := Fin.ext h
    have e3 : expOf i = ⟨2 * (i / 2 % 4), by omega⟩ := Fin.ext (by show i % 8 = 2 * (i / 2 % 4); omega)
    rw [e1, e2, e3]; rfl
  · have e1 : (wc i).val = 23 := by simp [wc, h]
    have e2 : bufOf i = 1 := Fin.ext h
    have e3 : expOf i = ⟨2 * (i / 2 % 4) + 1, by omega⟩ := Fin.ext (by show i % 8 = 2 * (i / 2 % 4) + 1; omega)
    rw [e1, e2, e3]; rfl

theorem amt_w (i : ℕ) : amt (wc i).val = NW := by
  unfold amt; simp only [wc]
  rw [if_neg (by omega), if_neg (by omega), if_neg (by omega)]

theorem lvN_w (i : ℕ) : lvN (wc i).val = 0 := by
  unfold lvN; simp only [wc]
  rw [if_neg (by omega), if_neg (by omega), if_neg (by omega)]

theorem wc_succ2 (i : ℕ) : wc (i + 2) = wc i := Fin.ext (by simp [wc])
theorem bufOf_succ2 (i : ℕ) : bufOf (i + 2) = bufOf i := Fin.ext (by simp [bufOf])
theorem half_succ2 (i : ℕ) : (i + 2) / 2 = i / 2 + 1 := by omega

/-- One expert's weights taken out of them all. -/
theorem wRest_peel (i : ℕ) : (wRest I c Finset.univ : sProp 𝕄)
    ⊣⊢ iprop(owns (c : Thread nD τ) (whS (expOf i)) fullShare (wV I c (expOf i)) ∗ wRest I c (Finset.univ.erase (expOf i))) := by
  unfold wRest; rw [bigSep_erase (Finset.mem_univ (expOf i))]; exact .rfl

/-- The next token. -/
theorem wTok_peel (i : ℕ) (hi : i < 32) : (bigSep (Finset.Ico i 32) (wTok (F := F) c) : sProp 𝕄)
    ⊢ iprop(wTok (F := F) c i ∗ bigSep (Finset.Ico (i + 1) 32) (wTok (F := F) c)) := by
  rw [bigSep_Ico_succ_bot hi]

section Steps

variable {α : Type} {Q : α → sProp (MT nD τ sig Unit (Elt F) ℕ UU ℕ)}
variable {k : PUnit → Prog (TpuEff nD τ sig (Elt F) Λ₀ .tc) α}

/-- Issuing copy `i`, without the other buffer. -/
theorem issue_core (i : ℕ) (hi : i < 32) {o9 o8 : Fin 3 → ℕ} {i9 : ∀ a, o9 a + S1x1024x1024.size a ≤ S8x1024x1024.size a}
    {i8 : ∀ a, o8 a + S1x1024x1024.size a ≤ S2x1024x1024.size a} (h9 : o9 = ![i % 8, 0, 0]) (h8 : o8 = ![i % 2, 0, 0])
    {hq : S1x1024x1024.Squeezes S1024x1024} {sm : DmaSem sig} (hsm : sm = wc i)
    {hsrc : ((WH.slice (Rect.unit (s := S8x1024x1024) o9 S1x1024x1024.size i9) (fun _ => rfl)).squeeze S1024x1024 hq).view.WordExact}
    {hdst : ((WV.slice (Rect.unit (s := S2x1024x1024) o8 S1x1024x1024.size i8) (fun _ => rfl)).squeeze S1024x1024 hq).view.WordExact}
    {hsem : DmaTarget.Typed (nD := nD) .hbm (.dma sm)
      (.here (p := .tc) ((WV.slice (Rect.unit (s := S2x1024x1024) o8 S1x1024x1024.size i8) (fun _ => rfl)).squeeze S1024x1024 hq))} :
    (iprop(allInv I K ∗ wPos (F := F) c i ∗ wBuf (F := F) c (bufOf i) ∗ wRest I c Finset.univ
        ∗ bigSep (Finset.Ico i 32) (wTok (F := F) c)) : sProp 𝕄)
      ⊢ iprop(((cred (tallyAt (cell c (wc i)) () NW) ∗ wPos (F := F) c i ∗ wRest I c (Finset.univ.erase (expOf i))
            ∗ bigSep (Finset.Ico (i + 1) 32) (wTok (F := F) c))
            -∗ wp frame (wpE (defs₀ (F := F)) 𝒱₀ c none) Set.univ (k ⟨⟩) Q)
        -∗ wp frame (wpE (defs₀ (F := F)) 𝒱₀ c none) Set.univ
          (.op (.enqueueDma ((WH.slice (Rect.unit (s := S8x1024x1024) o9 S1x1024x1024.size i9) (fun _ => rfl)).squeeze S1024x1024 hq)
            (.here (p := .tc) ((WV.slice (Rect.unit (s := S2x1024x1024) o8 S1x1024x1024.size i8) (fun _ => rfl)).squeeze S1024x1024 hq))
            (.dma sm) hsrc hdst hsem) k) Q) := by
  subst h9 h8 hsm
  unfold wPos wBuf
  iintro ⟨#Hi, ⟨Ha, #Hr, Ha', #Hr'⟩, ⟨%Y, Hb⟩, Hw, Ht⟩ Hk
  ihave Hw2 := (wRest_peel I c i).1 $$ Hw
  icases Hw2 with ⟨Hwi, Hw⟩
  ihave Ht2 := (wTok_peel (F := F) c i hi) $$ Ht
  icases Ht2 with ⟨Hti, Ht⟩
  ihave #Hi' := (inv_cell I K c (wc i) (by show 4 ≤ 22 + i % 2; omega)) $$ Hi
  iapply (copy_slab 𝒱₀ ER (Rd I) (c : Thread nD τ) none (sem := .dma (wc i)) (src := whS (expOf i)) (dst := wvS (bufOf i)) (κ := K (cell c (wc i)))
      (r := i / 2) (d := 0) (X := wV I c (expOf i)) (Y := Y) (q := fullShare)
      (by rw [duties_w I c (wc i) (by show 22 ≤ 22 + i % 2; omega) (i / 2) (by omega)]; exact Finset.mem_singleton_self _) () NW rfl
      (amt_w i) (by rw [payload_dma, wPay_eq]; exact .rfl)) $$ [Hwi Hb Hti]
  · isplitr; · iexact Hi'
    isplitl [Hwi]; · iexact Hwi
    isplitl [Hb]; · iexact Hb
    isplitl [Hti]; · unfold wTok; iexact Hti
    iexact Hr
  iintro Hc
  iapply Hk
  isplitl [Hc]; · iexact Hc
  isplitl [Ha Ha']
  · isplitl [Ha]; · iexact Ha
    isplitr; · iexact Hr
    isplitl [Ha']; · iexact Ha'
    iexact Hr'
  isplitl [Hw]; · iexact Hw
  iexact Ht

/-- Issuing copy `i`. -/
theorem issue_w (i : ℕ) (hi : i < 32) {o9 o8 : Fin 3 → ℕ} {i9 : ∀ a, o9 a + S1x1024x1024.size a ≤ S8x1024x1024.size a}
    {i8 : ∀ a, o8 a + S1x1024x1024.size a ≤ S2x1024x1024.size a} (h9 : o9 = ![i % 8, 0, 0]) (h8 : o8 = ![i % 2, 0, 0])
    {hq : S1x1024x1024.Squeezes S1024x1024} {sm : DmaSem sig} (hsm : sm = wc i)
    {hsrc : ((WH.slice (Rect.unit (s := S8x1024x1024) o9 S1x1024x1024.size i9) (fun _ => rfl)).squeeze S1024x1024 hq).view.WordExact}
    {hdst : ((WV.slice (Rect.unit (s := S2x1024x1024) o8 S1x1024x1024.size i8) (fun _ => rfl)).squeeze S1024x1024 hq).view.WordExact}
    {hsem : DmaTarget.Typed (nD := nD) .hbm (.dma sm)
      (.here (p := .tc) ((WV.slice (Rect.unit (s := S2x1024x1024) o8 S1x1024x1024.size i8) (fun _ => rfl)).squeeze S1024x1024 hq))} :
    (iprop(allInv I K ∗ wIdle I c i) : sProp 𝕄)
      ⊢ iprop((wFly I c i -∗ wp frame (wpE (defs₀ (F := F)) 𝒱₀ c none) Set.univ (k ⟨⟩) Q)
        -∗ wp frame (wpE (defs₀ (F := F)) 𝒱₀ c none) Set.univ
          (.op (.enqueueDma ((WH.slice (Rect.unit (s := S8x1024x1024) o9 S1x1024x1024.size i9) (fun _ => rfl)).squeeze S1024x1024 hq)
            (.here (p := .tc) ((WV.slice (Rect.unit (s := S2x1024x1024) o8 S1x1024x1024.size i8) (fun _ => rfl)).squeeze S1024x1024 hq))
            (.dma sm) hsrc hdst hsem) k) Q) := by
  unfold wIdle wFly
  iintro ⟨#Hi, Hp, Hb, Hb', Hw, Ht⟩ Hk
  iapply (issue_core I K c i hi h9 h8 hsm) $$ [Hp Hb Hw Ht]
  · isplitr; · iexact Hi
    isplitl [Hp]; · iexact Hp
    isplitl [Hb]; · iexact Hb
    isplitl [Hw]; · iexact Hw
    iexact Ht
  iintro ⟨Hc, Hp, Hw, Ht⟩
  iapply Hk
  isplitl [Hc]; · iexact Hc
  isplitl [Hp]; · iexact Hp
  isplitl [Hb']; · iexact Hb'
  isplitl [Hw]; · iexact Hw
  iexact Ht

/-- Waiting for copy `i`: expert `i % 8`'s weights are in buffer `i % 2`. -/
theorem wait_w (i : ℕ) (hi : i < 32) {sm : DmaSem sig} (hsm : sm = wc i) {sp sp' : Space} {s : Shape} {e : EltTy}
    {src : Memref sig .tc sp s e} {dst : Memref sig .tc sp' s e} {h₁ : src.view.WordExact} {h₂ : dst.view.WordExact}
    (hN : dst.view.dmaCredit = NW) (O : CellTallies nD τ sig Unit) (hO : Above 0 O) :
    (iprop(allInv I K ∗ levAts L lv ∗ owe c O ∗ wFly I c i) : sProp 𝕄)
      ⊢ iprop(((owe c O ∗ owns (c : Thread nD τ) (wvS (bufOf i)) fullShare (wV I c (expOf i))
              ∗ wPos (F := F) c (i + 1) ∗ wBuf (F := F) c (bufOf (i + 1)) ∗ wRest I c Finset.univ
              ∗ bigSep (Finset.Ico (i + 1) 32) (wTok (F := F) c))
            -∗ wp frame (wpE (defs₀ (F := F)) 𝒱₀ c none) Set.univ (k ⟨⟩) Q)
          -∗ wp frame (wpE (defs₀ (F := F)) 𝒱₀ c none) Set.univ (.op (.waitDma2 sm src dst h₁ h₂) k) Q) := by
  unfold wFly wPos
  iintro ⟨#Hi, #Hl, HO, Hc, ⟨Ha, -, Ha', #Hr'⟩, Hb', Hw, Ht⟩ Hk
  iapply (wait_dma I K c (wc i) (by show 4 ≤ 22 + i % 2; omega) (i / 2) hsm (duties_w I c (wc i) (by show 22 ≤ 22 + i % 2; omega) (i / 2) (by omega))
      (hN.trans (amt_w i).symm) O (by rw [lvN_w]; exact hO)) $$ [Hc HO Ha]
  · isplitr; · iexact Hi
    isplitr; · iexact Hl
    isplitl [Hc]; · rw [amt_w]; iexact Hc
    isplitl [HO]; · iexact HO
    iexact Ha
  iintro ⟨HO, Ha, #Hr, Hp⟩
  ihave Hp' := (Entails.of_eq (wPay_eq I c i)) $$ Hp
  unfold wPay
  icases Hp' with ⟨Hv, Hwi⟩
  iapply Hk
  isplitl [HO]; · iexact HO
  isplitl [Hv]; · iexact Hv
  isplitl [Ha Ha']
  · isplitl [Ha']; · iexact Ha'
    isplitr; · iexact Hr'
    rw [wc_succ2, half_succ2]
    isplitl [Ha]; · iexact Ha
    iexact Hr
  isplitl [Hb']; · iexact Hb'
  isplitl [Hw Hwi]
  · iapply (wRest_peel I c i).2
    isplitl [Hwi]; · iexact Hwi
    iexact Hw
  iexact Ht

/-- The head of a trip: wait for its copy, and issue the next one if there is one. -/
theorem trip_head (i : ℕ) (hi : i < 32) {sm : DmaSem sig} (hsm : sm = wc i) {sp sp' : Space} {s : Shape} {e : EltTy}
    {src : Memref sig .tc sp s e} {dst : Memref sig .tc sp' s e} {h₁ : src.view.WordExact} {h₂ : dst.view.WordExact}
    {σ : Type} {P : Prog (TpuEff nD τ sig (Elt F) Λ₀ .tc) σ} {kk : σ → Prog (TpuEff nD τ sig (Elt F) Λ₀ .tc) α}
    (hN : dst.view.dmaCredit = NW) (O : CellTallies nD τ sig Unit) (hO : Above 0 O)
    {C : Prop} [Decidable C] (hC : C ↔ i % 8 < 7) {o9 o8 : Fin 3 → ℕ} {i9 : C → ∀ a, o9 a + S1x1024x1024.size a ≤ S8x1024x1024.size a}
    {i8 : C → ∀ a, o8 a + S1x1024x1024.size a ≤ S2x1024x1024.size a} (h9 : o9 = ![i % 8 + 1, 0, 0]) (h8 : o8 = ![(i + 1) % 2, 0, 0])
    {hq : S1x1024x1024.Squeezes S1024x1024} {sm' : C → DmaSem sig} (hsm' : ∀ h, sm' h = wc (i + 1))
    {hsrc : ∀ h : C, ((WH.slice (Rect.unit (s := S8x1024x1024) o9 S1x1024x1024.size (i9 h)) (fun _ => rfl)).squeeze S1024x1024 hq).view.WordExact}
    {hdst : ∀ h : C, ((WV.slice (Rect.unit (s := S2x1024x1024) o8 S1x1024x1024.size (i8 h)) (fun _ => rfl)).squeeze S1024x1024 hq).view.WordExact}
    {hsem : ∀ h : C, DmaTarget.Typed (nD := nD) .hbm (.dma (sm' h))
      (.here (p := .tc) ((WV.slice (Rect.unit (s := S2x1024x1024) o8 S1x1024x1024.size (i8 h)) (fun _ => rfl)).squeeze S1024x1024 hq))} :
    (iprop(allInv I K ∗ levAts L lv ∗ owe c O ∗ wFly I c i) : sProp 𝕄)
      ⊢ iprop(((owe c O ∗ owns (c : Thread nD τ) (wvS (bufOf i)) fullShare (wV I c (expOf i)) ∗ wMid I c i)
            -∗ wp frame (wpE (defs₀ (F := F)) 𝒱₀ c none) Set.univ (P >>= kk) Q)
          -∗ wp frame (wpE (defs₀ (F := F)) 𝒱₀ c none) Set.univ (.op (.waitDma2 sm src dst h₁ h₂) fun _ =>
              (if h : C then
                (Prog.op (TpuEff.enqueueDma ((WH.slice (Rect.unit (s := S8x1024x1024) o9 S1x1024x1024.size (i9 h)) (fun _ => rfl)).squeeze S1024x1024 hq)
                  (.here (p := .tc) ((WV.slice (Rect.unit (s := S2x1024x1024) o8 S1x1024x1024.size (i8 h)) (fun _ => rfl)).squeeze S1024x1024 hq))
                  (.dma (sm' h)) (hsrc h) (hdst h) (hsem h)) fun _ => P)
              else P) >>= kk) Q) := by
  iintro ⟨#Hi, #Hl, HO, Hf⟩ Hk
  iapply (wait_w I K c i hi hsm hN O hO) $$ [HO Hf]
  · isplitr; · iexact Hi
    isplitr; · iexact Hl
    isplitl [HO]; · iexact HO
    iexact Hf
  iintro ⟨HO, Hv, Hp, Hb, Hw, Ht⟩
  by_cases hc : C
  · have hm : i % 8 < 7 := hC.mp hc
    rw [dif_pos hc, Prog.bind_op]
    iapply (issue_core I K c (i + 1) (by omega) (h9.trans (by rw [show (i + 1) % 8 = i % 8 + 1 by omega])) h8 (hsm' hc)) $$ [Hp Hb Hw Ht]
    · isplitr; · iexact Hi
      isplitl [Hp]; · iexact Hp
      isplitl [Hb]; · iexact Hb
      isplitl [Hw]; · iexact Hw
      iexact Ht
    iintro Hm
    iapply Hk
    isplitl [HO]; · iexact HO
    isplitl [Hv]; · iexact Hv
    unfold wMid
    rw [if_pos hm]
    iexact Hm
  · have hm : ¬ i % 8 < 7 := fun h => hc (hC.mpr h)
    rw [dif_neg hc]
    iapply Hk
    isplitl [HO]; · iexact HO
    isplitl [Hv]; · iexact Hv
    unfold wMid
    rw [if_neg hm]
    isplitl [Hp]; · iexact Hp
    isplitl [Hb]; · iexact Hb
    isplitl [Hw]; · iexact Hw
    iexact Ht

/-- The state after the trip of copy `i`. -/
theorem wMid_next (q : ℕ) (t : Fin 8) (X : Vec F S1x1024x1024 .bf16) :
    (iprop(owns (c : Thread nD τ) (wvS (bufOf (8 * q + t.val))) fullShare X ∗ wMid I c (8 * q + t.val)) : sProp 𝕄)
      ⊢ wAt I c q (t.val + 1) := by
  unfold wMid wAt
  by_cases h : (8 * q + t.val) % 8 < 7
  · rw [if_pos h, if_pos (by omega), ← Nat.add_assoc]
    unfold wFly wBuf
    iintro ⟨Hv, Hc, Hp, Hw, Ht⟩
    isplitl [Hc]; · iexact Hc
    isplitl [Hp]; · iexact Hp
    isplitl [Hv]; · iexists X; rw [bufOf_succ2]; iexact Hv
    isplitl [Hw]; · iexact Hw
    iexact Ht
  · rw [if_neg h, if_neg (by omega), show 8 * q + t.val + 1 = 8 * q + 8 by omega]
    unfold wIdle
    iintro ⟨Hv, Hp, Hb, Hw, Ht⟩
    isplitl [Hp]; · iexact Hp
    isplitl [Hb]; · iexact Hb
    isplitl [Hv]
    · unfold wBuf
      iexists X
      rw [show bufOf (8 * q + 8 + 1) = bufOf (8 * q + t.val) from Fin.ext (by show (8 * q + 8 + 1) % 2 = (8 * q + t.val) % 2; omega)]
      iexact Hv
    isplitl [Hw]; · iexact Hw
    iexact Ht

/-- What holds before trip `t` on slab `q`: `x` the slab's token rows, held in `xs`, and the result so far in buffer `s`. -/
def tripInv {n : ℕ} (xm : Memref sig .tc .vmem ⟨3, ![n, 768, 1024]⟩ .bf16) (ox : Fin 3 → ℕ)
    (ix : ∀ a, ox a + S1x768x1024.size a ≤ (⟨3, ![n, 768, 1024]⟩ : Shape).size a) (X : Vec F S1x768x1024 .bf16)
    (q : ℕ) (s : Fin 2) (R : ℕ → Vec F S1x768x1024 .bf16) (O : CellTallies nD τ sig Unit) (t : ℕ) : sProp 𝕄 :=
  iprop(allInv I K ∗ levAts L lv ∗ owe c O ∗ wAt I c q t ∗ owns (c : Thread nD τ) (xm.slice (Rect.unit (s := ⟨3, ![n, 768, 1024]⟩) ox S1x768x1024.size ix) (fun _ => rfl)) fullShare X
    ∗ owns (c : Thread nD τ) (acS s) fullShare (R t))

/-- One trip: expert `t`'s contribution is added to the result. -/
theorem trip {n : ℕ} {xm : Memref sig .tc .vmem ⟨3, ![n, 768, 1024]⟩ .bf16} {ox : Fin 3 → ℕ}
    {ix : ∀ a, ox a + S1x768x1024.size a ≤ (⟨3, ![n, 768, 1024]⟩ : Shape).size a} {X : Vec F S1x768x1024 .bf16}
    (q : ℕ) (hq4 : q < 4) (t : Fin 8) (s : Fin 2) (R : ℕ → Vec F S1x768x1024 .bf16) (O : CellTallies nD τ sig Unit) (hO : Above 0 O)
    {sm : DmaSem sig} (hsm : sm = wc (8 * q + t.val)) {sp sp' : Space} {s' : Shape} {e : EltTy}
    {src : Memref sig .tc sp s' e} {dst : Memref sig .tc sp' s' e} {h₁ : src.view.WordExact} {h₂ : dst.view.WordExact}
    (hN : dst.view.dmaCredit = NW)
    {C : Prop} [Decidable C] (hC : C ↔ t.val < 7) {o9 o8 : Fin 3 → ℕ} {i9 : C → ∀ a, o9 a + S1x1024x1024.size a ≤ S8x1024x1024.size a}
    {i8 : C → ∀ a, o8 a + S1x1024x1024.size a ≤ S2x1024x1024.size a} (h9 : o9 = ![t.val + 1, 0, 0]) (h8 : o8 = ![(t.val + 1) % 2, 0, 0])
    {hq : S1x1024x1024.Squeezes S1024x1024} {sm' : C → DmaSem sig} (hsm' : ∀ h, sm' h = wc (8 * q + t.val + 1))
    {hsrc : ∀ h : C, ((WH.slice (Rect.unit (s := S8x1024x1024) o9 S1x1024x1024.size (i9 h)) (fun _ => rfl)).squeeze S1024x1024 hq).view.WordExact}
    {hdst : ∀ h : C, ((WV.slice (Rect.unit (s := S2x1024x1024) o8 S1x1024x1024.size (i8 h)) (fun _ => rfl)).squeeze S1024x1024 hq).view.WordExact}
    {hsem : ∀ h : C, DmaTarget.Typed (nD := nD) .hbm (.dma (sm' h))
      (.here (p := .tc) ((WV.slice (Rect.unit (s := S2x1024x1024) o8 S1x1024x1024.size (i8 h)) (fun _ => rfl)).squeeze S1024x1024 hq))}
    {ox' : Fin 3 → ℕ} {ix' : ∀ a, ox' a + S1x768x1024.size a ≤ (⟨3, ![n, 768, 1024]⟩ : Shape).size a} (hx : ox' = ox)
    {hlx hlx' : xm.view.LoadsAt (Rect.unit (s := ⟨3, ![n, 768, 1024]⟩) ox' S1x768x1024.size ix').toLoadRect}
    {oW : Fin 3 → ℕ} {iW : ∀ a, oW a + S1x1024x1024.size a ≤ S2x1024x1024.size a} (hW : oW = ![t.val % 2, 0, 0])
    {hlW : WV.view.LoadsAt (Rect.unit (s := S2x1024x1024) oW S1x1024x1024.size iW).toLoadRect}
    {oA : Fin 3 → ℕ} {iA : ∀ a, oA a + S1x768x1024.size a ≤ S2x768x1024.size a} (hA : oA = ![s.val, 0, 0])
    {hlA hlA' : AC.view.LoadsAt (Rect.unit (s := S2x768x1024) oA S1x768x1024.size iA).toLoadRect}
    {σ : Type} {g : Vec F S1x768x1024 .bf16 → σ} {pay : σ → Vec F S1x1024x1024 .bf16 → Vec F S1x768x1024 .bf16 → Vec F S1x768x1024 .bf16}
    {hst : (AC.access (Rect.unit (s := S2x768x1024) oA S1x768x1024.size iA)).Stores Finset.univ}
    {hm : (Finset.univ : Finset (Rect.unit (s := S2x768x1024) oA S1x768x1024.size iA).shape.Idx) = Finset.univ
      ∨ ∀ a, (Rect.unit (s := S2x768x1024) oA S1x768x1024.size iA).stride a = 1}
    (hpay : pay (g X) (wV I c t) (R t.val) = R (t.val + 1)) :
    tripInv I K c xm ox ix X q s R O t.val
      ⊢ iprop((tripInv I K c xm ox ix X q s R O (t.val + 1) -∗ wp frame (wpE (defs₀ (F := F)) 𝒱₀ c none) Set.univ (k ⟨⟩) Q)
          -∗ wp frame (wpE (defs₀ (F := F)) 𝒱₀ c none) Set.univ (.op (.waitDma2 sm src dst h₁ h₂) fun _ =>
              (if h : C then
                (Prog.op (TpuEff.enqueueDma ((WH.slice (Rect.unit (s := S8x1024x1024) o9 S1x1024x1024.size (i9 h)) (fun _ => rfl)).squeeze S1024x1024 hq)
                  (.here (p := .tc) ((WV.slice (Rect.unit (s := S2x1024x1024) o8 S1x1024x1024.size (i8 h)) (fun _ => rfl)).squeeze S1024x1024 hq))
                  (.dma (sm' h)) (hsrc h) (hdst h) (hsem h)) fun _ => Prog.op (TpuEff.load xm (Rect.unit (s := ⟨3, ![n, 768, 1024]⟩) ox' S1x768x1024.size ix').toLoadRect hlx) fun v => Prog.ret (g v))
              else Prog.op (TpuEff.load xm (Rect.unit (s := ⟨3, ![n, 768, 1024]⟩) ox' S1x768x1024.size ix').toLoadRect hlx') fun v => Prog.ret (g v)) >>= fun p =>
              .op (.load WV (Rect.unit (s := S2x1024x1024) oW S1x1024x1024.size iW).toLoadRect hlW) fun w =>
              .op (.load AC (Rect.unit (s := S2x768x1024) oA S1x768x1024.size iA).toLoadRect hlA) fun a =>
              .op (.load AC (Rect.unit (s := S2x768x1024) oA S1x768x1024.size iA).toLoadRect hlA') fun _ =>
              .op (.store AC (Rect.unit (s := S2x768x1024) oA S1x768x1024.size iA) (pay p w a) Finset.univ hst hm) k) Q) := by
  subst hx hA hW
  have hi : 8 * q + t.val < 32 := by omega
  have e8 : expOf (8 * q + t.val) = t := Fin.ext (by show (8 * q + t.val) % 8 = t.val; omega)
  have e2 : bufOf (8 * q + t.val) = ⟨t.val % 2, by omega⟩ := Fin.ext (by show (8 * q + t.val) % 2 = t.val % 2; omega)
  unfold tripInv
  iintro ⟨#Hi, #Hl, HO, Hw, Hx, Ha⟩ Hk
  iapply (trip_head I K c (8 * q + t.val) hi hsm hN O hO (hC.trans (by rw [show (8 * q + t.val) % 8 = t.val by omega]))
      (h9.trans (by rw [show (8 * q + t.val) % 8 = t.val by omega])) (h8.trans (by rw [show (8 * q + t.val + 1) % 2 = (t.val + 1) % 2 by omega])) hsm'
      (P := Prog.op (TpuEff.load xm (Rect.unit (s := ⟨3, ![n, 768, 1024]⟩) ox' S1x768x1024.size ix').toLoadRect hlx) fun v => Prog.ret (g v))) $$ [HO Hw]
  · isplitr; · iexact Hi
    isplitr; · iexact Hl
    isplitl [HO]; · iexact HO
    iapply (Entails.of_eq (show wAt I c q t.val = wFly I c (8 * q + t.val) from if_pos t.isLt)); iexact Hw
  iintro ⟨HO, Hv, Hm⟩
  simp only [Prog.bind_op, Prog.bind_ret]
  iapply (load_slab 𝒱₀ (c : Thread nD τ) none) $$ Hx
  iintro Hx
  rw [e8, e2]
  iapply (load_slab 𝒱₀ (c : Thread nD τ) none) $$ Hv
  iintro Hv
  iapply (load_slab 𝒱₀ (c : Thread nD τ) none) $$ Ha
  iintro Ha
  iapply (load_slab 𝒱₀ (c : Thread nD τ) none) $$ Ha
  iintro Ha
  iapply (store_slab 𝒱₀ (c : Thread nD τ) none) $$ Ha
  iintro Ha
  iapply Hk
  isplitr; · iexact Hi
  isplitr; · iexact Hl
  isplitl [HO]; · iexact HO
  isplitl [Hv Hm]
  · iapply (wMid_next I c q t)
    isplitl [Hv]
    · rw [e2]; iexact Hv
    iexact Hm
  isplitl [Hx]; · iexact Hx
  rw [← hpay]; iexact Ha

end Steps

end Cert.Moe

end
-- ==== Proof.Loops.lean ====
/-
  The four loops over the experts, one for each slab.
-/
module

public import proofs.«01_k».proof.Proof.Weights

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (A0 : Memref sig .tc .vmem S2048x1024 .bf16) (h0 : A0.IsWhole) (A1 : Memref sig .tc .vmem S4x2048 .f32) (h1 : A1.IsWhole)
variable (A2 : Memref sig .tc .vmem S2048x2 .f32) (h2 : A2.IsWhole) (A4 : Memref sig .tc .vmem S2048x1024 .f32) (h4 : A4.IsWhole)
variable (I : Inp F) (K : GSem nD τ sig → ℕ) (c : Dev nD)

theorem runV_succ (x : Vec F S1x768x1024 .bf16) (m : Vec F S1x768x2 .f32) (b : FVec F S8 .f32) (w : Fin 8 → Vec F S1x1024x1024 .bf16) (t : Fin 8) :
    runV x m b w (t.val + 1) = stepV x m b (w t) t (runV x m b w t.val) := by
  show (if h : t.val < 8 then _ else _) = _
  rw [dif_pos t.isLt]

/-- Copy `i`'s semaphore, at any offset equal to its place. -/
theorem sem_w_at (i : ℕ) {o : Fin 1 → ℕ} {inb : ∀ a, o a + S1.size a ≤ S2.size a} (h : o = ![i % 2]) :
    ((cc0_scratch13.slice (Rect.unit (s := S2) o S1.size inb)).squeeze S_ squeezes_S1_S_).sem = wc i := by
  subst h; exact sem_w ⟨i % 2, by omega⟩

/-- The trips' conditions: there is a next expert. -/
theorem cond1_iff (t : Fin k0_t1_loop.trips) : k0_cond1 t = 1#1 ↔ t.val < 7 := by revert t; decide +kernel
theorem cond2_iff (t : Fin k0_t2_loop.trips) : k0_cond2 t = 1#1 ↔ t.val < 7 := by revert t; decide +kernel
theorem cond3_iff (t : Fin k0_t3_loop.trips) : k0_cond3 t = 1#1 ↔ t.val < 7 := by revert t; decide +kernel
theorem cond4_iff (t : Fin k0_t4_loop.trips) : k0_cond4 t = 1#1 ↔ t.val < 7 := by revert t; decide +kernel

/-- A step from what holds before to what holds after. -/
theorem step_close {A B W W' : sProp (MT nD τ sig Unit (Elt F) ℕ UU ℕ)} (h : A ⊢ iprop((B -∗ W) -∗ W')) (hB : B ⊢ W) : A ⊢ W' := by
  iintro H
  iapply h $$ H
  iintro H
  iapply hB; iexact H

section

variable {α : Type} {Q : α → sProp (MT nD τ sig Unit (Elt F) ℕ UU ℕ)}
variable {k : PUnit → Prog (TpuEff nD τ sig (Elt F) Λ₀ .tc) α}

/-- The loop over the experts on the device's own slab. -/
theorem loop1 (m : Vec F S1x768x2 .f32) (X : Vec F S1x768x1024 .bf16) (w₀ w₁ w₂ w₃ : BitVec 32) (n₀ n₁ n₂ n₃ : FVec F S8 .f32) (v2 : BitVec 32)
    (O : CellTallies nD τ sig Unit) (hO : Above 0 O) :
    tripInv I K c XD ![c.val, 0, 0] (inbXD c) X 0 0 (runV X m (baseV w₀ w₁ w₂ w₃ w₀ n₀ n₁ n₂ n₃) (wV I c)) O 0
      ⊢ iprop((tripInv I K c XD ![c.val, 0, 0] (inbXD c) X 0 0 (runV X m (baseV w₀ w₁ w₂ w₃ w₀ n₀ n₁ n₂ n₃) (wV I c)) O 8
            -∗ wp frame (wpE (defs₀ (F := F)) 𝒱₀ c none) Set.univ (k ⟨⟩) Q)
          -∗ wp frame (wpE (defs₀ (F := F)) 𝒱₀ c none) Set.univ
            (Scf.Loop.for k0_t1_loop k0_t1_ok ⟨⟩ (k0_t1_body A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13 c v2 w₀ w₁ w₂ w₃ n₀ n₁ n₂ n₃ (iota .tc S256x768 32 [0] iota_S256x768_d0_w32) k0_pay31 (k0_pay32 (k0_pay23 m)) (k0_pay33 (k0_pay23 m)) k0_pay34 (Scalar.cmpi .slt w₀ w₀) (Scalar.ofBits .f32 0x3F800000#32)) >>= k) Q) := by
  iintro H Hk
  iapply (Scf.wp_for_bind (Fr := frame) (wpE := wpE (defs₀ (F := F)) 𝒱₀ c none) (Es := Set.univ) _ _ _ k0_t1_ok ⟨⟩ _
    (fun t _ => tripInv I K c XD ![c.val, 0, 0] (inbXD c) X 0 0 (runV X m (baseV w₀ w₁ w₂ w₃ w₀ n₀ n₁ n₂ n₃) (wV I c)) O t) ?_) $$ [H]
  · intro t u
    have ht : t.val < 8 := t.isLt.trans_eq trips1
    unfold k0_t1_body
    simp only [k0_part1_eq_skeleton]; unfold k0_part1_skel
    simp only [Prog.lift, Prog.bind_op, Prog.bind_ret, Prog.pure_eq_ret]
    refine step_close (trip I K c 0 (by decide) ⟨t.val, ht⟩ 0 (runV X m (baseV w₀ w₁ w₂ w₃ w₀ n₀ n₁ n₂ n₃) (wV I c)) O hO
      (sem_w_at _ ((k0_off4_eq t).trans (by rw [show (0 + t.val) % 2 = t.val % 2 by omega]))) (by exact rfl) (cond1_iff t) (k0_off9_eq t)
      (k0_off8_eq t) (fun _ => sem_w_at _ ((k0_off7_eq t).trans (by rw [show (0 + t.val + 1) % 2 = (t.val + 1) % 2 by omega])))
      (k0_off10_eq c) (k0_off11_eq t) rfl (runV_succ _ _ _ _ ⟨t.val, ht⟩).symm) ?_
    rw [wp_ret]
    iintro H
    imodintro
    iexact H
  · iexact H
  iintro %acc
  rw [show Scf.trips _ _ _ = 8 from trips1]
  iexact Hk

/-- The loop on the slab of the device one place on. -/
theorem loop2 (m : Vec F S1x768x2 .f32) (X : Vec F S1x768x1024 .bf16) (w₀ w₁ w₂ w₃ : BitVec 32) (n₀ n₁ n₂ n₃ : FVec F S8 .f32) (v2 : BitVec 32)
    (O : CellTallies nD τ sig Unit) (hO : Above 0 O) :
    tripInv I K c RX ![(0 : Fin 3).val, 0, 0] (inbRX 0) X 1 1 (runV X m (baseV w₀ w₁ w₂ w₃ w₁ n₀ n₁ n₂ n₃) (wV I c)) O 0
      ⊢ iprop((tripInv I K c RX ![(0 : Fin 3).val, 0, 0] (inbRX 0) X 1 1 (runV X m (baseV w₀ w₁ w₂ w₃ w₁ n₀ n₁ n₂ n₃) (wV I c)) O 8
            -∗ wp frame (wpE (defs₀ (F := F)) 𝒱₀ c none) Set.univ (k ⟨⟩) Q)
          -∗ wp frame (wpE (defs₀ (F := F)) 𝒱₀ c none) Set.univ
            (Scf.Loop.for k0_t2_loop k0_t2_ok ⟨⟩ (k0_t2_body A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13 v2 w₁ w₃ n₂ n₃ (iota .tc S256x768 32 [0] iota_S256x768_d0_w32) k0_pay31 (k0_pay39 (k0_pay24 m)) (k0_pay40 (k0_pay24 m)) (k0_pay41 w₀ w₁ n₀ n₁) (k0_pay42 w₁ w₂)) >>= k) Q) := by
  iintro H Hk
  iapply (Scf.wp_for_bind (Fr := frame) (wpE := wpE (defs₀ (F := F)) 𝒱₀ c none) (Es := Set.univ) _ _ _ k0_t2_ok ⟨⟩ _
    (fun t _ => tripInv I K c RX ![(0 : Fin 3).val, 0, 0] (inbRX 0) X 1 1 (runV X m (baseV w₀ w₁ w₂ w₃ w₁ n₀ n₁ n₂ n₃) (wV I c)) O t) ?_) $$ [H]
  · intro t u
    have ht : t.val < 8 := t.isLt.trans_eq trips2
    unfold k0_t2_body
    simp only [k0_part2_eq_skeleton]; unfold k0_part2_skel
    simp only [Prog.lift, Prog.bind_op, Prog.bind_ret, Prog.pure_eq_ret]
    refine step_close (trip I K c 1 (by decide) ⟨t.val, ht⟩ 1 (runV X m (baseV w₀ w₁ w₂ w₃ w₁ n₀ n₁ n₂ n₃) (wV I c)) O hO
      (sem_w_at _ ((k0_off14_eq t).trans (by rw [show (8 + t.val) % 2 = t.val % 2 by omega]))) (by exact rfl) (cond2_iff t) (k0_off19_eq t)
      (k0_off18_eq t) (fun _ => sem_w_at _ ((k0_off17_eq t).trans (by rw [show (8 + t.val + 1) % 2 = (t.val + 1) % 2 by omega])))
      rfl (k0_off20_eq t) rfl (runV_succ _ _ _ _ ⟨t.val, ht⟩).symm) ?_
    rw [wp_ret]
    iintro H
    imodintro
    iexact H
  · iexact H
  iintro %acc
  rw [show Scf.trips _ _ _ = 8 from trips2]
  iexact Hk

/-- The loop on the slab of the device two places on. -/
theorem loop3 (m : Vec F S1x768x2 .f32) (X : Vec F S1x768x1024 .bf16) (b : FVec F S8 .f32) (z : FVec F S768x1024 .bf16) (v2 : BitVec 32)
    (O : CellTallies nD τ sig Unit) (hO : Above 0 O) :
    tripInv I K c RX ![(1 : Fin 3).val, 0, 0] (inbRX 1) X 2 0 (runV X m b (wV I c)) O 0
      ⊢ iprop((tripInv I K c RX ![(1 : Fin 3).val, 0, 0] (inbRX 1) X 2 0 (runV X m b (wV I c)) O 8
            -∗ wp frame (wpE (defs₀ (F := F)) 𝒱₀ c none) Set.univ (k ⟨⟩) Q)
          -∗ wp frame (wpE (defs₀ (F := F)) 𝒱₀ c none) Set.univ
            (Scf.Loop.for k0_t3_loop k0_t3_ok ⟨⟩ (k0_t3_body A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13 c v2 (iota .tc S256x768 32 [0] iota_S256x768_d0_w32) k0_pay31 (k0_pay46 (k0_pay25 m)) (k0_pay47 (k0_pay25 m)) b z) >>= k) Q) := by
  iintro H Hk
  iapply (Scf.wp_for_bind (Fr := frame) (wpE := wpE (defs₀ (F := F)) 𝒱₀ c none) (Es := Set.univ) _ _ _ k0_t3_ok ⟨⟩ _
    (fun t _ => tripInv I K c RX ![(1 : Fin 3).val, 0, 0] (inbRX 1) X 2 0 (runV X m b (wV I c)) O t) ?_) $$ [H]
  · intro t u
    have ht : t.val < 8 := t.isLt.trans_eq trips3
    unfold k0_t3_body
    simp only [k0_part3_eq_skeleton]; unfold k0_part3_skel
    simp only [Prog.lift, Prog.bind_op, Prog.bind_ret, Prog.pure_eq_ret]
    refine step_close (trip I K c 2 (by decide) ⟨t.val, ht⟩ 0 (runV X m b (wV I c)) O hO
      (sem_w_at _ ((k0_off21_eq t).trans (by rw [show (16 + t.val) % 2 = t.val % 2 by omega]))) (by exact rfl) (cond3_iff t) (k0_off26_eq t)
      (k0_off25_eq t) (fun _ => sem_w_at _ ((k0_off24_eq t).trans (by rw [show (16 + t.val + 1) % 2 = (t.val + 1) % 2 by omega])))
      rfl (k0_off27_eq t) rfl (runV_succ _ _ _ _ ⟨t.val, ht⟩).symm) ?_
    rw [wp_ret]
    iintro H
    imodintro
    iexact H
  · iexact H
  iintro %acc
  rw [show Scf.trips _ _ _ = 8 from trips3]
  iexact Hk

/-- The loop on the slab of the device three places on. -/
theorem loop4 (m : Vec F S1x768x2 .f32) (X : Vec F S1x768x1024 .bf16) (b : FVec F S8 .f32) (v2 : BitVec 32)
    (O : CellTallies nD τ sig Unit) (hO : Above 0 O) :
    tripInv I K c RX ![(2 : Fin 3).val, 0, 0] (inbRX 2) X 3 1 (runV X m b (wV I c)) O 0
      ⊢ iprop((tripInv I K c RX ![(2 : Fin 3).val, 0, 0] (inbRX 2) X 3 1 (runV X m b (wV I c)) O 8
            -∗ wp frame (wpE (defs₀ (F := F)) 𝒱₀ c none) Set.univ (k ⟨⟩) Q)
          -∗ wp frame (wpE (defs₀ (F := F)) 𝒱₀ c none) Set.univ
            (Scf.Loop.for k0_t4_loop k0_t4_ok ⟨⟩ (k0_t4_body A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13 c v2 (iota .tc S256x768 32 [0] iota_S256x768_d0_w32) k0_pay31 (k0_pay52 (k0_pay26 m)) (k0_pay53 (k0_pay26 m)) b) >>= k) Q) := by
  iintro H Hk
  iapply (Scf.wp_for_bind (Fr := frame) (wpE := wpE (defs₀ (F := F)) 𝒱₀ c none) (Es := Set.univ) _ _ _ k0_t4_ok ⟨⟩ _
    (fun t _ => tripInv I K c RX ![(2 : Fin 3).val, 0, 0] (inbRX 2) X 3 1 (runV X m b (wV I c)) O t) ?_) $$ [H]
  · intro t u
    have ht : t.val < 8 := t.isLt.trans_eq trips4
    unfold k0_t4_body
    simp only [k0_part4_eq_skeleton]; unfold k0_part4_skel
    simp only [Prog.lift, Prog.bind_op, Prog.bind_ret, Prog.pure_eq_ret]
    refine step_close (trip I K c 3 (by decide) ⟨t.val, ht⟩ 1 (runV X m b (wV I c)) O hO
      (sem_w_at _ ((k0_off28_eq t).trans (by rw [show (24 + t.val) % 2 = t.val % 2 by omega]))) (by exact rfl) (cond4_iff t) (k0_off33_eq t)
      (k0_off32_eq t) (fun _ => sem_w_at _ ((k0_off31_eq t).trans (by rw [show (24 + t.val + 1) % 2 = (t.val + 1) % 2 by omega])))
      rfl (k0_off34_eq t) rfl (runV_succ _ _ _ _ ⟨t.val, ht⟩).symm) ?_
    rw [wp_ret]
    iintro H
    imodintro
    iexact H
  · iexact H
  iintro %acc
  rw [show Scf.trips _ _ _ = 8 from trips4]
  iexact Hk

end

end Cert.Moe

end
-- ==== Proof.Whole.lean ====
/-
  Whole buffers and their slabs.

  A load or a store of a whole buffer, and a buffer of three axes taken apart into the slabs its leading axis counts and
  put together again.
-/
module

public import proofs.«01_k».proof.Proof.Loops

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

section Full

variable {nD' : Nat} {τ' : Topo} {sig' : RefSig} {Val : EltTy → Type} {Λ : Labels}
variable {Ix : Type} [DecidableEq Ix] {Name : Type} [DecidableEq Name] {U : Type} [URA U] {Lvl : Type} [Preorder Lvl]

/-- The rectangle at the origin with the shape's own extents places each index at itself. -/
theorem emb_full {s : Shape} {off : Fin s.rank → ℕ} (h : ∀ a, off a = 0) (inb : ∀ a, off a + s.size a ≤ s.size a) (x : s.Idx) :
    (Rect.unit (s := s) off s.size inb).emb x = x := by
  funext a; apply Fin.ext
  show off a + 1 * (x a : ℕ) = x a
  rw [h a]; omega

/-- The slab the full rectangle cuts is the memref. -/
theorem owns_full (c : Thread nD' τ') {sp : Space} {s : Shape} {e : EltTy} (m : Memref sig' c.2.kind sp s e)
    {off : Fin s.rank → ℕ} (h : ∀ a, off a = 0) (inb : ∀ a, off a + s.size a ≤ s.size a)
    (hr : ∀ a, (Rect.unit (s := s) off s.size inb).stride a = 1) (q : PosShare TreeShare) (X : s.Idx → Val e) :
    (owns c (m.slice (Rect.unit (s := s) off s.size inb) hr) q X : sProp (MT nD' τ' sig' Ix Val Name U Lvl)) = owns c m q X := by
  have hset : (m.slice (Rect.unit (s := s) off s.size inb) hr).view.set = m.view.set := by
    obtain rfl : off = fun _ => 0 := funext h
    show (m.view.slice (Rect.whole s)).set = m.view.set
    rw [View.set_slice, Rect.set_whole]; rfl
  have hread (f : m.view.ty.Contents Val) :
      (m.slice (Rect.unit (s := s) off s.size inb) hr).view.read Val f = m.view.read Val f :=
    funext fun x => congrArg (m.view.read Val f) (emb_full h inb x)
  unfold owns
  rw [hset]
  exact congrArg _ (funext fun f => by rw [hread f])

variable {defs : Defs nD' τ' sig' Val Λ} (𝒱 : Variants) (c : Thread nD' τ') (bd : Option 𝒱.V) {Γ : PendingWaitsCtx sig' Ix}
variable {α : Type} {Q : α → sProp (MT nD' τ' sig' Ix Val Name U Lvl)} {Es : Set Name} {cs : CoreSpace} {s : Shape} {e : EltTy}

/-- A load of a whole memref reads its contents. -/
theorem load_full {m : Memref sig' c.2.kind cs s e} {off : Fin s.rank → ℕ} {inb : ∀ a, off a + s.size a ≤ s.size a}
    {hl : m.view.LoadsAt (Rect.unit (s := s) off s.size inb).toLoadRect}
    {k : (s.Idx → Val e) → Prog (TpuEff nD' τ' sig' Val Λ c.2) α} {q : PosShare TreeShare} {X : s.Idx → Val e}
    (h : ∀ a, off a = 0) :
    (owns c m q X : sProp (MT nD' τ' sig' Ix Val Name U Lvl))
      ⊢ iprop((owns c m q X -∗ wp frame (wpE' defs 𝒱 c bd Γ) Es (k X) Q)
        -∗ wp frame (wpE' defs 𝒱 c bd Γ) Es (.op (.load m (Rect.unit (s := s) off s.size inb).toLoadRect hl) k) Q) := by
  have := load_part (defs := defs) 𝒱 c bd (Γ := Γ) (Q := Q) (Es := Es) (m := m) (r := Rect.unit (s := s) off s.size inb)
    (hl := hl) (k := k) (q := q) (X := X)
  rwa [show (fun j => X ((Rect.unit (s := s) off s.size inb).emb j)) = X from
    funext fun j => congrArg X (emb_full h inb j)] at this

/-- A store over a whole memref replaces its contents. -/
theorem store_full {m : Memref sig' c.2.kind cs s e} {off : Fin s.rank → ℕ} {inb : ∀ a, off a + s.size a ≤ s.size a}
    {w : s.Idx → Val e}
    {hx : (m.access (Rect.unit (s := s) off s.size inb)).Stores Finset.univ}
    {hm : Finset.univ = Finset.univ ∨ ∀ a, (Rect.unit (s := s) off s.size inb).stride a = 1}
    {k : PUnit → Prog (TpuEff nD' τ' sig' Val Λ c.2) α} {X : s.Idx → Val e} (h : ∀ a, off a = 0) :
    (owns c m fullShare X : sProp (MT nD' τ' sig' Ix Val Name U Lvl))
      ⊢ iprop((owns c m fullShare w -∗ wp frame (wpE' defs 𝒱 c bd Γ) Es (k ⟨⟩) Q)
        -∗ wp frame (wpE' defs 𝒱 c bd Γ) Es
          (.op (.store m (Rect.unit (s := s) off s.size inb) w Finset.univ hx hm) k) Q) := by
  have := store_slab (defs := defs) 𝒱 c bd (Γ := Γ) (Q := Q) (Es := Es) (m := m) (r := Rect.unit (s := s) off s.size inb)
    (w := w) (hx := hx) (hm := hm) (k := k) (hr := fun _ => rfl) (X := X)
  rwa [owns_full c m h inb, owns_full c m h inb] at this

end Full

/-! ## Slabs -/

section Split

variable (c : Dev nD) {sp : Space} {n a b : ℕ} {e : EltTy} (m : Memref sig .tc sp ⟨3, ![n, a, b]⟩ e)

/-- Slab `d` lies inside. -/
theorem slab_inb (d : Fin n) (i : Fin 3) : (![d.val, 0, 0] : Fin 3 → ℕ) i + (⟨3, ![1, a, b]⟩ : Shape).size i ≤ (⟨3, ![n, a, b]⟩ : Shape).size i := by
  have := d.isLt
  fin_cases i
  · show d.val + 1 ≤ n; omega
  · show 0 + a ≤ a; omega
  · show 0 + b ≤ b; omega

/-- Slab `d` of a shape of three axes. -/
abbrev slabR (d : Fin n) : Rect ⟨3, ![n, a, b]⟩ := Rect.unit (s := ⟨3, ![n, a, b]⟩) ![d.val, 0, 0] (⟨3, ![1, a, b]⟩ : Shape).size (slab_inb d)

theorem slab_disjoint (d d' : Fin n) (h : d ≠ d') : Disjoint (slabR (a := a) (b := b) d).set (slabR d').set :=
  Rect.disjoint_of_axis _ _ (0 : Fin 3) fun j₁ h₁ j₂ h₂ => by
    have h₁' : j₁ < 1 := h₁
    have h₂' : j₂ < 1 := h₂
    have := Fin.val_ne_of_ne h
    show d.val + 1 * j₁ ≠ d'.val + 1 * j₂
    omega

theorem slab_cover : (Finset.univ : Finset (Fin n)).biUnion (fun d => (slabR (a := a) (b := b) d).set) = Finset.univ := by
  ext x
  simp only [Finset.mem_biUnion, Finset.mem_univ, true_and, iff_true]
  refine ⟨x 0, Rect.mem_set_unit.mpr fun i => ?_⟩
  fin_cases i
  · exact ⟨le_rfl, Nat.lt_succ_self _⟩
  · exact ⟨Nat.zero_le _, by show _ < 0 + a; rw [Nat.zero_add]; exact (x 1).isLt⟩
  · exact ⟨Nat.zero_le _, by show _ < 0 + b; rw [Nat.zero_add]; exact (x 2).isLt⟩

/-- A buffer taken apart into its slabs. -/
theorem slabs_split (X : (⟨3, ![n, a, b]⟩ : Shape).Idx → Elt F e) :
    (owns (c : Thread nD τ) m fullShare X : sProp 𝕄)
      ⊢ BI.bigSep (Finset.univ : Finset (Fin n)) fun d => owns (c : Thread nD τ) (m.slice (slabR d) (fun _ => rfl)) fullShare (fun j => X ((slabR d).emb j)) :=
  owns_rects (c : Thread nD τ) m fullShare slabR (fun _ _ => rfl) slab_disjoint slab_cover X

/-- Slabs at any contents put together. -/
theorem slabs_join :
    (BI.bigSep (Finset.univ : Finset (Fin n)) fun d => iprop(∃ Y : (⟨3, ![1, a, b]⟩ : Shape).Idx → Elt F e,
        owns (c : Thread nD τ) (m.slice (slabR d) (fun _ => rfl)) fullShare Y) : sProp 𝕄)
      ⊢ iprop(∃ X, owns (c : Thread nD τ) m fullShare X) := by
  refine (bigSep_exists_pi (Finset.univ : Finset (Fin n)) (fun d (Y : (⟨3, ![1, a, b]⟩ : Shape).Idx → Elt F e) =>
    owns (c : Thread nD τ) (m.slice (slabR d) (fun _ => rfl)) fullShare Y)).trans ?_
  iintro ⟨%Y, H⟩
  iexists fun x => Y (x 0) (fun i => ⟨(![0, (x 1).val, (x 2).val] : Fin 3 → ℕ) i, by
    fin_cases i
    · exact Nat.one_pos
    · exact (x 1).isLt
    · exact (x 2).isLt⟩)
  iapply (owns_of_rects (c : Thread nD τ) m fullShare slabR (fun _ _ => rfl) slab_disjoint slab_cover _)
  iapply (Entails.of_eq (BI.bigSep_congr fun d _ => ?_)) $$ H
  congr 1
  funext j
  have h0 : (slabR (a := a) (b := b) d).emb j 0 = d := by
    apply Fin.ext
    have : (j 0).val < 1 := (j 0).isLt
    show d.val + 1 * (j 0).val = d.val
    omega
  have hj : j = (fun i => ⟨(![0, ((slabR (a := a) (b := b) d).emb j 1).val, ((slabR (a := a) (b := b) d).emb j 2).val] : Fin 3 → ℕ) i, by
      fin_cases i
      · exact Nat.one_pos
      · exact ((slabR (a := a) (b := b) d).emb j 1).isLt
      · exact ((slabR (a := a) (b := b) d).emb j 2).isLt⟩ : (⟨3, ![1, a, b]⟩ : Shape).Idx) := by
    funext i
    apply Fin.ext
    fin_cases i
    · have : (j 0).val < 1 := (j 0).isLt
      show (j 0).val = 0; omega
    · show (j 1).val = 0 + 1 * (j 1).val; omega
    · show (j 2).val = 0 + 1 * (j 2).val; omega
  dsimp only
  rw [h0]
  exact congrArg (Y d) hj

end Split

/-- What holds of each device, told from device `c` on. -/
theorem rotate (c : Dev nD) (f : Fin 4 → sProp 𝕄) :
    BI.bigSep Finset.univ f = iprop(f c ∗ f (rot c 1) ∗ f (rot c 2) ∗ f (rot c 3)) := by
  have hu : (Finset.univ : Finset (Fin 4)) = insert c (insert (rot c 1) (insert (rot c 2) {rot c 3})) := by
    revert c; decide
  have h1 : c ∉ (insert (rot c 1) (insert (rot c 2) {rot c 3}) : Finset (Fin 4)) := by revert c; decide
  have h2 : rot c 1 ∉ (insert (rot c 2) {rot c 3} : Finset (Fin 4)) := by revert c; decide
  have h3 : rot c 2 ∉ ({rot c 3} : Finset (Fin 4)) := by revert c; decide
  rw [hu, BI.bigSep_insert h1, BI.bigSep_insert h2, BI.bigSep_insert h3, BI.bigSep_singleton]; rfl

theorem bigSep_three (f : Fin 3 → sProp 𝕄) : BI.bigSep Finset.univ f = iprop(f 0 ∗ f 1 ∗ f 2) := by
  rw [show (Finset.univ : Finset (Fin 3)) = insert 0 (insert 1 {2}) by decide,
    BI.bigSep_insert (by decide), BI.bigSep_insert (by decide), BI.bigSep_singleton]; rfl

theorem bigSep_two (f : Fin 2 → sProp 𝕄) : BI.bigSep Finset.univ f = iprop(f 0 ∗ f 1) := by
  rw [show (Finset.univ : Finset (Fin 2)) = insert 0 {1} by decide, BI.bigSep_insert (by decide), BI.bigSep_singleton]; rfl

end Cert.Moe

end
-- ==== Proof.Moves.lean ====
/-
  The steps of the kernel's body, as the body takes them: a load or a store of a slab, a load of one destination's row of
  places, a wait for a copy, a copy to a peer.
-/
module

public import proofs.«01_k».proof.Proof.Whole

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-- A memref of core `c`'s, whatever it holds. -/
def anyS (c : Dev nD) {sp : Space} {s : Shape} {e : EltTy} (m : Memref sig .tc sp s e) : sProp 𝕄 :=
  iprop(∃ Y : s.Idx → Elt F e, owns (c : Thread nD τ) m fullShare Y)

/-- A DMA cell one copy is on its way to. -/
def fresh (c : Dev nD) (n : Fin 24) : sProp 𝕄 := iprop(cred (tallyAt (cell c n) () (amt n.val)) ∗ atPos ER (cell c n) 0 ∅ 0)
/-- A DMA cell waited for. -/
def spent (c : Dev nD) (n : Fin 24) : sProp 𝕄 := atPos ER (cell c n) 1 ∅ 0
/-- What a copy of `c`'s to device `p`, on its own cell `n₁` and the peer's `n₂`, takes. -/
def toSend (c : Dev nD) (n₁ : Fin 24) (p : Dev nD) (n₂ : Fin 24) : sProp 𝕄 :=
  iprop(atPos ER (cell c n₁) 0 ∅ 0 ∗ dutyTok ER (cell c n₁) 0 0 ∗ reached ER (cell c n₁) 0 ∗ dutyTok ER (cell p n₂) 0 0)
/-- Device `p`'s landing slot `m`, lent to a peer, with its cell. -/
def slot (p : Dev nD) {s : Shape} {e : EltTy} (m : Memref sig .tc .vmem s e) (n : Fin 24) : sProp 𝕄 :=
  iprop(anyS (F := F) p m ∗ reached ER (cell p n) 0)

/-- What a peer's signal brings: its three landing slots. -/
theorem barPay_open (p : Dev nD) (k : Fin 3) : (barPay p k : sProp 𝕄)
    ⊢ iprop(slot p (rmS k) ⟨13 + k.val, by omega⟩ ∗ slot p (rxS k) ⟨7 + k.val, by omega⟩ ∗ slot p (rrS k) ⟨19 + k.val, by omega⟩) := by
  unfold barPay slot anyS
  iintro ⟨H1, H2, H3, #R1, #R2, #R3⟩
  isplitl [H1]
  · isplitl [H1]; · iexact H1
    iexact R1
  isplitl [H2]
  · isplitl [H2]; · iexact H2
    iexact R2
  isplitl [H3]; · iexact H3
  iexact R3

/-- The same, to hand over. -/
theorem barPay_close (p : Dev nD) (k : Fin 3) :
    iprop(slot p (rmS k) ⟨13 + k.val, by omega⟩ ∗ slot p (rxS k) ⟨7 + k.val, by omega⟩ ∗ slot p (rrS k) ⟨19 + k.val, by omega⟩)
    ⊢ (barPay p k : sProp 𝕄) := by
  unfold barPay slot anyS
  iintro ⟨⟨H1, #R1⟩, ⟨H2, #R2⟩, ⟨H3, #R3⟩⟩
  isplitl [H1]; · iexact H1
  isplitl [H2]; · iexact H2
  isplitl [H3]; · iexact H3
  isplitr; · iexact R1
  isplitr; · iexact R2
  iexact R3

variable (I : Inp F) (K : GSem nD τ sig → ℕ) (c : Dev nD)

section

variable {α : Type} {Q : α → sProp (MT nD τ sig Unit (Elt F) ℕ UU ℕ)}

/-- A load at a rectangle equal to a slab's reads the slab. -/
theorem load_at {cs : CoreSpace} {s : Shape} {e : EltTy} {M : Memref sig .tc cs s e} {off off' size : Fin s.rank → ℕ} (h : off = off')
    {inb : ∀ a, off a + size a ≤ s.size a} {inb' : ∀ a, off' a + size a ≤ s.size a}
    {hl : M.view.LoadsAt (Rect.unit off size inb).toLoadRect} {X : (⟨s.rank, size⟩ : Shape).Idx → Elt F e}
    {k : ((⟨s.rank, size⟩ : Shape).Idx → Elt F e) → Prog (TpuEff nD τ sig (Elt F) Λ₀ .tc) α} :
    (owns (c : Thread nD τ) (M.slice (Rect.unit off' size inb') (fun _ => rfl)) fullShare X : sProp 𝕄)
      ⊢ iprop((owns (c : Thread nD τ) (M.slice (Rect.unit off' size inb') (fun _ => rfl)) fullShare X
            -∗ wp frame (wpE (defs₀ (F := F)) 𝒱₀ c none) Set.univ (k X) Q)
          -∗ wp frame (wpE (defs₀ (F := F)) 𝒱₀ c none) Set.univ (.op (.load M (Rect.unit off size inb).toLoadRect hl) k) Q) := by
  subst h
  exact load_slab 𝒱₀ (c : Thread nD τ) none

/-- A load of a destination's row of a memref the core holds. -/
theorem load_row {M : Memref sig .tc .vmem S4x2048 .f32} (d : Fin 4) {off : Fin 2 → ℕ} (h : off = ![d.val, 0])
    {inb : ∀ a, off a + S1x2048.size a ≤ S4x2048.size a}
    {hl : M.view.LoadsAt (Rect.unit (s := S4x2048) off S1x2048.size inb).toLoadRect} (p : Dev nD)
    {k : Vec F S1x2048 .f32 → Prog (TpuEff nD τ sig (Elt F) Λ₀ .tc) α} :
    (owns (c : Thread nD τ) M fullShare (I.p p) : sProp 𝕄)
      ⊢ iprop((owns (c : Thread nD τ) M fullShare (I.p p)
            -∗ wp frame (wpE (defs₀ (F := F)) 𝒱₀ c none) Set.univ (k (rowV I p d)) Q)
          -∗ wp frame (wpE (defs₀ (F := F)) 𝒱₀ c none) Set.univ (.op (.load M (Rect.unit (s := S4x2048) off S1x2048.size inb).toLoadRect hl) k) Q) := by
  subst h
  exact load_part (defs := defs₀ (F := F)) (Q := Q) (Es := Set.univ) (Ix := Unit) (Name := ℕ) (U := UU) (Lvl := ℕ) 𝒱₀ (c : Thread nD τ) none
    (m := M) (r := Rect.unit (s := S4x2048) ![d.val, 0] S1x2048.size inb) (k := k) (q := fullShare) (X := I.p p)

/-- A load, whose value is not used, of a slab whatever it holds. -/
theorem peek {cs : CoreSpace} {s : Shape} {e : EltTy} {M : Memref sig .tc cs s e} {off size : Fin s.rank → ℕ}
    {inb : ∀ a, off a + size a ≤ s.size a} {inb' : ∀ a, off a + size a ≤ s.size a}
    {hl : M.view.LoadsAt (Rect.unit off size inb).toLoadRect}
    {k : Prog (TpuEff nD τ sig (Elt F) Λ₀ .tc) α} :
    (anyS c (M.slice (Rect.unit off size inb') (fun _ => rfl)) : sProp 𝕄)
      ⊢ iprop((anyS (F := F) c (M.slice (Rect.unit off size inb') (fun _ => rfl))
            -∗ wp frame (wpE (defs₀ (F := F)) 𝒱₀ c none) Set.univ k Q)
          -∗ wp frame (wpE (defs₀ (F := F)) 𝒱₀ c none) Set.univ (.op (.load M (Rect.unit off size inb).toLoadRect hl) (fun _ => k)) Q) := by
  unfold anyS
  iintro ⟨%Y, H⟩ Hk
  iapply (load_slab 𝒱₀ (c : Thread nD τ) none (r := Rect.unit off size inb)) $$ H
  iintro H
  iapply Hk
  iexists Y; iexact H

/-- A store over a slab whatever it holds. -/
theorem put {cs : CoreSpace} {s : Shape} {e : EltTy} {M : Memref sig .tc cs s e} {off size : Fin s.rank → ℕ}
    {inb : ∀ a, off a + size a ≤ s.size a} {inb' : ∀ a, off a + size a ≤ s.size a} {w : (⟨s.rank, size⟩ : Shape).Idx → Elt F e}
    {hx : (M.access (Rect.unit off size inb)).Stores Finset.univ}
    {hm : Finset.univ = Finset.univ ∨ ∀ a, (Rect.unit off size inb).stride a = 1}
    {k : PUnit → Prog (TpuEff nD τ sig (Elt F) Λ₀ .tc) α} :
    (anyS c (M.slice (Rect.unit off size inb') (fun _ => rfl)) : sProp 𝕄)
      ⊢ iprop((owns (c : Thread nD τ) (M.slice (Rect.unit off size inb') (fun _ => rfl)) fullShare w
            -∗ wp frame (wpE (defs₀ (F := F)) 𝒱₀ c none) Set.univ (k ⟨⟩) Q)
          -∗ wp frame (wpE (defs₀ (F := F)) 𝒱₀ c none) Set.univ (.op (.store M (Rect.unit off size inb) w Finset.univ hx hm) k) Q) := by
  unfold anyS
  iintro ⟨%Y, H⟩ Hk
  iapply (store_slab 𝒱₀ (c : Thread nD τ) none (r := Rect.unit off size inb)) $$ H
  iexact Hk

variable {k : PUnit → Prog (TpuEff nD τ sig (Elt F) Λ₀ .tc) α}

/-- A wait for a copy on its way. -/
theorem wait_one (n : Fin 24) (h4 : 4 ≤ n.val) {sm : DmaSem sig} (hsm : sm = n) {sp sp' : Space} {s : Shape} {e : EltTy}
    {src : Memref sig .tc sp s e} {dst : Memref sig .tc sp' s e} {h₁ : src.view.WordExact} {h₂ : dst.view.WordExact}
    (hN : dst.view.dmaCredit = amt n.val) (O : CellTallies nD τ sig Unit) (hO : Above (lvN n.val) O) :
    (iprop(allInv I K ∗ levAts L lv ∗ owe c O ∗ fresh (F := F) c n) : sProp 𝕄)
      ⊢ iprop(((owe c O ∗ spent (F := F) c n ∗ dmaPay I c n.val 0)
            -∗ wp frame (wpE (defs₀ (F := F)) 𝒱₀ c none) Set.univ (k ⟨⟩) Q)
          -∗ wp frame (wpE (defs₀ (F := F)) 𝒱₀ c none) Set.univ (.op (.waitDma2 sm src dst h₁ h₂) k) Q) := by
  unfold fresh spent
  iintro ⟨#Hi, #Hl, HO, Hc, Ha⟩ Hk
  iapply (wait_dma I K c n h4 0 hsm (duties_dma I c n h4) hN O hO) $$ [HO Hc Ha]
  · isplitr; · iexact Hi
    isplitr; · iexact Hl
    isplitl [Hc]; · iexact Hc
    isplitl [HO]; · iexact HO
    iexact Ha
  iintro ⟨HO, Ha, -, Hp⟩
  iapply Hk
  isplitl [HO]; · iexact HO
  isplitl [Ha]; · iexact Ha
  iexact Hp

/-- A copy of a slab to a peer's slot. -/
theorem send_one {S : Shape} {off off' size : Fin S.rank → ℕ} {s' : Shape} {e : EltTy} (n₁ n₂ : Fin 24) (h₁ : 4 ≤ n₁.val) (h₂ : 4 ≤ n₂.val)
    (p : Dev nD) {n : Dev nD} (hn : n = p) {M : Memref sig .tc .vmem S e} (h : off = off')
    {inb : ∀ a, off a + size a ≤ S.size a} {inb' : ∀ a, off' a + size a ≤ S.size a}
    {dst : Memref sig .tc .vmem ⟨S.rank, size⟩ e} {hq hq' : (⟨S.rank, size⟩ : Shape).Squeezes s'}
    {hsc : (dst.squeeze s' hq').view.ref.isScScratch = false} {s₁ s₂ : DmaSem sig} (hs₁ : s₁ = n₁) (hs₂ : s₂ = n₂)
    {hsrc : ((M.slice (Rect.unit off size inb) (fun _ => rfl)).squeeze s' hq).view.WordExact} {hdst : (dst.squeeze s' hq').view.WordExact}
    {hsem : DmaTarget.Typed .vmem (.dma s₂) (.remote (Dev.tc n : Thread nD τ) (dst.squeeze s' hq') (.dma s₁) hsc)}
    {X : (⟨S.rank, size⟩ : Shape).Idx → Elt F e} (hN : (dst.squeeze s' hq').view.dmaCredit = amt n₁.val) (ha₂ : amt n₂.val = amt n₁.val)
    {O₀ : CellTallies nD τ sig Unit} (O : CellTallies nD τ sig Unit) (hO : O₀ = O + tallyAt (cell p n₂) () (amt n₁.val))
    (hp₁ : (owns (c : Thread nD τ) (M.slice (Rect.unit off' size inb') (fun _ => rfl)) fullShare X : sProp 𝕄) ⊢ dmaPay I c n₁.val 0)
    (hp₂ : (owns (p : Thread nD τ) dst fullShare X : sProp 𝕄) ⊢ dmaPay I p n₂.val 0)
    (hr : τ.routes (c : Thread nD τ) (Dev.tc p : Thread nD τ) = true := by routes) :
    (iprop(allInv I K ∗ owns (c : Thread nD τ) (M.slice (Rect.unit off' size inb') (fun _ => rfl)) fullShare X ∗ slot (F := F) p dst n₂
        ∗ owe c O₀ ∗ toSend (F := F) c n₁ p n₂) : sProp 𝕄)
      ⊢ iprop(((fresh (F := F) c n₁ ∗ owe c O) -∗ wp frame (wpE (defs₀ (F := F)) 𝒱₀ c none) Set.univ (k ⟨⟩) Q)
          -∗ wp frame (wpE (defs₀ (F := F)) 𝒱₀ c none) Set.univ
            (.op (.enqueueDma ((M.slice (Rect.unit off size inb) (fun _ => rfl)).squeeze s' hq)
              (.remote (Dev.tc n : Thread nD τ) (dst.squeeze s' hq') (.dma s₁) hsc) (.dma s₂) hsrc hdst hsem) k) Q) := by
  subst h
  unfold slot anyS toSend fresh
  iintro ⟨#Hi, Hs, ⟨⟨%Y, Hd⟩, #Hr2⟩, HO, Ha, Ht1, #Hr1, Ht2⟩ Hk
  iapply (send_dma I K c n₁ n₂ h₁ h₂ p hn hs₁ hs₂ (amt n₁.val) hN rfl ha₂ O hO hp₁ hp₂ hr) $$ [Hs Hd HO Ht1 Ht2]
  · isplitr; · iexact Hi
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hc]; · iexact Hc
    iexact Ha
  iexact HO

end

end Cert.Moe

end
-- ==== Proof.Exchange.lean ====
/-
  The kernel's body up to the exchange of token rows: packing a slab for each device, the barrier, and the copies of
  metadata and token rows to the three peers.
-/
module

public import proofs.«01_k».proof.Proof.Moves

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (A0 : Memref sig .tc .vmem S2048x1024 .bf16) (h0 : A0.IsWhole) (A1 : Memref sig .tc .vmem S4x2048 .f32) (h1 : A1.IsWhole)
variable (A2 : Memref sig .tc .vmem S2048x2 .f32) (h2 : A2.IsWhole) (A4 : Memref sig .tc .vmem S2048x1024 .f32) (h4 : A4.IsWhole)
variable (I : Inp F) (K : GSem nD τ sig → ℕ) (c : Dev nD)

/-- The three arrays a core reads whole, at their contents. -/
def ins : sProp 𝕄 :=
  iprop(owns (c : Thread nD τ) A0 fullShare (I.x c) ∗ owns (c : Thread nD τ) A1 fullShare (I.p c) ∗ owns (c : Thread nD τ) A2 fullShare (I.l c))

/-- The slab for device `d`, packed, -/
abbrev xdAt (d : Fin 4) : sProp 𝕄 := owns (c : Thread nD τ) (xdS d) fullShare (xdV I c d)
/-- and its metadata. -/
abbrev mdAt (d : Fin 4) : sProp 𝕄 := owns (c : Thread nD τ) (mdS d) fullShare (mdV I c d)

theorem all_zero2 : ∀ a : Fin 2, (![0, 0] : Fin 2 → ℕ) a = 0 := by decide

/-- A core's number, as the kernel computes it from its place in the line of four. -/
theorem word_place (c : Dev nD) : Scalar.remsi (Scalar.divsi (Dev.word c) 1#32) 4#32 = Dev.word c := by revert c; decide

/-- The slab and the metadata for device 0. -/
theorem part5 {α : Type} {Q : α → sProp (MT nD τ sig Unit (Elt F) ℕ UU ℕ)}
    {k : (Σ' (_ : Dev nD) (_ : BitVec 32) (_ : IVec S768x2048 32) (_ : FVec F S768x2048 .bf16), FVec F S2048x1024 .bf16) → Prog (TpuEff nD τ sig (Elt F) Λ₀ .tc) α} :
    (iprop(ins A0 A1 A2 I c ∗ anyS (F := F) c (xdS 0) ∗ anyS (F := F) c (mdS 0)) : sProp 𝕄)
      ⊢ iprop(((ins A0 A1 A2 I c ∗ xdAt I c 0 ∗ mdAt I c 0)
            -∗ wp frame (wpE (defs₀ (F := F)) 𝒱₀ c none) Set.univ (k ⟨c, Dev.word c, (iota .tc S768x2048 32 [0] iota_S768x2048_d0_w32), k0_pay12 (rowV I c 1), k0_pay13 (I.x c)⟩) Q)
          -∗ wp frame (wpE (defs₀ (F := F)) 𝒱₀ c none) Set.univ
            (k0_part5 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
               >>= k) Q) := by
  simp only [k0_part5_eq_skeleton]; unfold k0_part5_skel
  simp only [Prog.lift, Prog.bind_op, Prog.bind_ret, Prog.pure_eq_ret]
  unfold ins
  iintro ⟨⟨H0, H1, H2⟩, HX, HM⟩ Hk
  rw [wp_deviceId]
  simp only [word_place]
  iapply (load_row I c 0 rfl c) $$ H1
  iintro H1
  iapply (load_full 𝒱₀ (c : Thread nD τ) none all_zero2) $$ H0
  iintro H0
  iapply (peek c) $$ HX
  iintro HX
  iapply (put c) $$ HX
  iintro HX
  iapply (load_full 𝒱₀ (c : Thread nD τ) none all_zero2) $$ H2
  iintro H2
  iapply (peek c) $$ HM
  iintro HM
  iapply (put c) $$ HM
  iintro HM
  iapply (load_row I c 1 rfl c) $$ H1
  iintro H1
  iapply (load_full 𝒱₀ (c : Thread nD τ) none all_zero2) $$ H0
  iintro H0
  iapply Hk
  isplitl [H0 H1 H2]
  · isplitl [H0]; · iexact H0
    isplitl [H1]; · iexact H1
    iexact H2
  isplitl [HX]; · iexact HX
  iexact HM

/-- The slab and the metadata for device 1, and the slab for device 2. -/
theorem part6 {α : Type} {Q : α → sProp (MT nD τ sig Unit (Elt F) ℕ UU ℕ)}
    {k : FVec F S1x768x2 .f32 → Prog (TpuEff nD τ sig (Elt F) Λ₀ .tc) α} :
    (iprop(ins A0 A1 A2 I c ∗ anyS (F := F) c (xdS 1) ∗ anyS (F := F) c (mdS 1) ∗ anyS (F := F) c (xdS 2) ∗ anyS (F := F) c (mdS 2)) : sProp 𝕄)
      ⊢ iprop(((ins A0 A1 A2 I c ∗ xdAt I c 1 ∗ mdAt I c 1 ∗ xdAt I c 2 ∗ anyS (F := F) c (mdS 2))
            -∗ wp frame (wpE (defs₀ (F := F)) 𝒱₀ c none) Set.univ (k (mdV I c 2)) Q)
          -∗ wp frame (wpE (defs₀ (F := F)) 𝒱₀ c none) Set.univ
            (k0_part6 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              (iota .tc S768x2048 32 [0] iota_S768x2048_d0_w32) (k0_pay12 (rowV I c 1)) (k0_pay13 (I.x c)) >>= k) Q) := by
  simp only [k0_part6_eq_skeleton]; unfold k0_part6_skel
  simp only [Prog.lift, Prog.bind_op, Prog.bind_ret, Prog.pure_eq_ret]
  unfold ins
  iintro ⟨⟨H0, H1, H2⟩, HX1, HM1, HX2, HM2⟩ Hk
  iapply (peek c) $$ HX1
  iintro HX1
  iapply (put c) $$ HX1
  iintro HX1
  iapply (load_full 𝒱₀ (c : Thread nD τ) none all_zero2) $$ H2
  iintro H2
  iapply (peek c) $$ HM1
  iintro HM1
  iapply (put c) $$ HM1
  iintro HM1
  iapply (load_row I c 2 rfl c) $$ H1
  iintro H1
  iapply (load_full 𝒱₀ (c : Thread nD τ) none all_zero2) $$ H0
  iintro H0
  iapply (peek c) $$ HX2
  iintro HX2
  iapply (put c) $$ HX2
  iintro HX2
  iapply (load_full 𝒱₀ (c : Thread nD τ) none all_zero2) $$ H2
  iintro H2
  iapply (peek c) $$ HM2
  iintro HM2
  iapply Hk
  isplitl [H0 H1 H2]
  · isplitl [H0]; · iexact H0
    isplitl [H1]; · iexact H1
    iexact H2
  isplitl [HX1]; · iexact HX1
  isplitl [HM1]; · iexact HM1
  isplitl [HX2]; · iexact HX2
  iexact HM2

/-- The metadata for device 2, the slab and the metadata for device 3, and the first two signals. -/
theorem part7 {α : Type} {Q : α → sProp (MT nD τ sig Unit (Elt F) ℕ UU ℕ)}
    {k : Sems sig S_ → Prog (TpuEff nD τ sig (Elt F) Λ₀ .tc) α} :
    (iprop(ins A0 A1 A2 I c ∗ anyS (F := F) c (mdS 2) ∗ anyS (F := F) c (xdS 3) ∗ anyS (F := F) c (mdS 3)
      ∗ allInv I K ∗ reached ER (bar (rot c 1)) 0 ∗ reached ER (bar (rot c 2)) 0 ∗ dutyTok ER (bar (rot c 1)) 0 1 ∗ dutyTok ER (bar (rot c 2)) 0 2
      ∗ barPay (F := F) c 0 ∗ barPay (F := F) c 1 ∗ owe c (O₀ c)) : sProp 𝕄)
      ⊢ iprop(((ins A0 A1 A2 I c ∗ mdAt I c 2 ∗ xdAt I c 3 ∗ mdAt I c 3 ∗ owe c (oB3 c))
            -∗ wp frame (wpE (defs₀ (F := F)) 𝒱₀ c none) Set.univ (k (SemArray.scalar (sig.barrier 0 rfl))) Q)
          -∗ wp frame (wpE (defs₀ (F := F)) 𝒱₀ c none) Set.univ
            (k0_part7 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S768x2048 32 [0] iota_S768x2048_d0_w32) (mdV I c 2) >>= k) Q) := by
  simp only [k0_part7_eq_skeleton]; unfold k0_part7_skel
  simp only [Prog.lift, Prog.bind_op, Prog.bind_ret, Prog.pure_eq_ret, semSignalWord]
  unfold ins
  iintro ⟨⟨H0, H1, H2⟩, HM2, HX3, HM3, #Hi, #HR1, #HR2, HT1, HT2, HB1, HB2, HO⟩ Hk
  iapply (put c) $$ HM2
  iintro HM2
  iapply (load_row I c 3 rfl c) $$ H1
  iintro H1
  iapply (load_full 𝒱₀ (c : Thread nD τ) none all_zero2) $$ H0
  iintro H0
  iapply (peek c) $$ HX3
  iintro HX3
  iapply (put c) $$ HX3
  iintro HX3
  iapply (load_full 𝒱₀ (c : Thread nD τ) none all_zero2) $$ H2
  iintro H2
  iapply (peek c) $$ HM3
  iintro HM3
  iapply (put c) $$ HM3
  iintro HM3
  iapply (signal_bar I K c (rot c 1) 1 (by decide) (rot_31 c) (Fin.ext (k0_dev1_eq c)) rfl (by decide) (oB2 c) rfl) $$ [HO HT1 HB1]
  · isplitr; · iexact Hi
    isplitr; · iexact HR1
    isplitl [HO]; · iexact HO
    isplitl [HT1]; · iexact HT1
    iexact HB1
  iintro HO
  iapply (signal_bar I K c (rot c 2) 2 (by decide) (rot_22 c) (Fin.ext (k0_dev2_eq c)) rfl (by decide) (oB3 c) rfl) $$ [HO HT2 HB2]
  · isplitr; · iexact Hi
    isplitr; · iexact HR2
    isplitl [HO]; · iexact HO
    isplitl [HT2]; · iexact HT2
    iexact HB2
  iintro HO
  iapply Hk
  isplitl [H0 H1 H2]
  · isplitl [H0]; · iexact H0
    isplitl [H1]; · iexact H1
    iexact H2
  isplitl [HM2]; · iexact HM2
  isplitl [HX3]; · iexact HX3
  isplitl [HM3]; · iexact HM3
  iexact HO

/-- The third signal, the wait for the three peers', and the first copy of metadata. -/
theorem part8 {α : Type} {Q : α → sProp (MT nD τ sig Unit (Elt F) ℕ UU ℕ)}
    {k : (Σ' (_ : BitVec 32), BitVec 32) → Prog (TpuEff nD τ sig (Elt F) Λ₀ .tc) α} :
    (iprop(allInv I K ∗ levAts L lv ∗ reached ER (bar (rot c 3)) 0 ∗ dutyTok ER (bar (rot c 3)) 0 3 ∗ barPay (F := F) c 2 ∗ owe c (oB3 c)
      ∗ cred (tallyAt (bar c) () 3) ∗ atPos ER (bar c) 0 ∅ 0 ∗ mdAt I c (rot c 1) ∗ toSend (F := F) c 10 (rot c 1) 15) : sProp 𝕄)
      ⊢ iprop(((owe c (oM2 c) ∗ atPos ER (bar c) 1 ∅ 0 ∗ fresh (F := F) c 10 ∗ slot (F := F) (rot c 1) (rxS 2) 9 ∗ slot (F := F) (rot c 1) (rrS 2) 21
      ∗ barPay (F := F) (rot c 2) 1 ∗ barPay (F := F) (rot c 3) 0)
            -∗ wp frame (wpE (defs₀ (F := F)) 𝒱₀ c none) Set.univ (k ⟨devW (Dev.word c) 1#32, devW (Dev.word c) 2#32⟩) Q)
          -∗ wp frame (wpE (defs₀ (F := F)) 𝒱₀ c none) Set.univ
            (k0_part8 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (SemArray.scalar (sig.barrier 0 rfl)) >>= k) Q) := by
  simp only [k0_part8_eq_skeleton]; unfold k0_part8_skel
  simp only [Prog.lift, Prog.bind_op, Prog.bind_ret, Prog.pure_eq_ret, semSignalWord, semWaitWord]
  iintro ⟨#Hi, #Hl, #HR3, HT3, HB3, HO, Hc, Ha, HM1, HT1⟩ Hk
  iapply (signal_bar I K c (rot c 3) 3 (by decide) (rot_13 c) (Fin.ext (k0_dev3_eq c)) rfl (by decide) (oM1 c) rfl) $$ [HO HT3 HB3]
  · isplitr; · iexact Hi
    isplitr; · iexact HR3
    isplitl [HO]; · iexact HO
    isplitl [HT3]; · iexact HT3
    iexact HB3
  iintro HO
  iapply (wait_bar I K c rfl (by decide) (oM1 c) (above_M1 c)) $$ [Hc HO Ha]
  · isplitr; · iexact Hi
    isplitr; · iexact Hl
    isplitl [Hc]; · iexact Hc
    isplitl [HO]; · iexact HO
    iexact Ha
  iintro ⟨HO, Ha, HP3, HP2, HP1⟩
  icases (barPay_open (rot c 1) 2) $$ HP1 with ⟨HS1, HS1x, HS1r⟩
  iapply (send_one I K c 10 15 (by decide) (by decide) (rot c 1) (Fin.ext (k0_dev4_eq c)) (k0_off1_eq c 0) (inb' := inbMD (rot c 1))
    (sem_m_snd 0) (sem_m_rcv 2) (by exact rfl) (by exact rfl) (oM2 c) (by exact rfl) .rfl
    (by show _ ⊢ owns (rot c 1 : Thread nD τ) (rmS 2) fullShare (mdV I (rot (rot c 1) 3) (rot c 1)); rw [rot_31]; exact .rfl)) $$ [HM1 HS1 HO HT1]
  · isplitr; · iexact Hi
    isplitl [HM1]; · iexact HM1
    isplitl [HS1]; · iexact HS1
    isplitl [HO]; · iexact HO
    iexact HT1
  iintro ⟨HF1, HO⟩
  iapply Hk
  isplitl [HO]; · iexact HO
  isplitl [Ha]; · iexact Ha
  isplitl [HF1]; · iexact HF1
  isplitl [HS1x]; · iexact HS1x
  isplitl [HS1r]; · iexact HS1r
  isplitl [HP2]; · iexact HP2
  iexact HP3

/-- The other two copies of metadata and the first of token rows. -/
theorem part9 {α : Type} {Q : α → sProp (MT nD τ sig Unit (Elt F) ℕ UU ℕ)}
    {k : BitVec 32 → Prog (TpuEff nD τ sig (Elt F) Λ₀ .tc) α} :
    (iprop(allInv I K ∗ mdAt I c (rot c 2) ∗ slot (F := F) (rot c 2) (rmS 1) 14 ∗ toSend (F := F) c 11 (rot c 2) 14
      ∗ mdAt I c (rot c 3) ∗ slot (F := F) (rot c 3) (rmS 0) 13 ∗ toSend (F := F) c 12 (rot c 3) 13
      ∗ xdAt I c (rot c 1) ∗ slot (F := F) (rot c 1) (rxS 2) 9 ∗ toSend (F := F) c 4 (rot c 1) 9 ∗ owe c (oM2 c)) : sProp 𝕄)
      ⊢ iprop(((fresh (F := F) c 11 ∗ fresh (F := F) c 12 ∗ fresh (F := F) c 4 ∗ owe c (oX2 c))
            -∗ wp frame (wpE (defs₀ (F := F)) 𝒱₀ c none) Set.univ (k (devW (Dev.word c) 3#32)) Q)
          -∗ wp frame (wpE (defs₀ (F := F)) 𝒱₀ c none) Set.univ
            (k0_part9 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) >>= k) Q) := by
  simp only [k0_part9_eq_skeleton]; unfold k0_part9_skel
  simp only [Prog.lift, Prog.bind_op, Prog.bind_ret, Prog.pure_eq_ret]
  iintro ⟨#Hi, HM2, HS2, HT2, HM3, HS3, HT3, HX1, HS1, HT1, HO⟩ Hk
  iapply (send_one I K c 11 14 (by decide) (by decide) (rot c 2) (Fin.ext (k0_dev5_eq c)) (k0_off1_eq c 1) (inb' := inbMD (rot c 2))
    (sem_m_snd 1) (sem_m_rcv 1) (by exact rfl) (by exact rfl) (oM3 c) (by exact rfl) .rfl
    (by show _ ⊢ owns (rot c 2 : Thread nD τ) (rmS 1) fullShare (mdV I (rot (rot c 2) 2) (rot c 2)); rw [rot_22]; exact .rfl)) $$ [HM2 HS2 HO HT2]
  · isplitr; · iexact Hi
    isplitl [HM2]; · iexact HM2
    isplitl [HS2]; · iexact HS2
    isplitl [HO]; · iexact HO
    iexact HT2
  iintro ⟨HF2, HO⟩
  iapply (send_one I K c 12 13 (by decide) (by decide) (rot c 3) (Fin.ext (k0_dev6_eq c)) (k0_off1_eq c 2) (inb' := inbMD (rot c 3))
    (sem_m_snd 2) (sem_m_rcv 0) (by exact rfl) (by exact rfl) (oX1 c) (by exact rfl) .rfl
    (by show _ ⊢ owns (rot c 3 : Thread nD τ) (rmS 0) fullShare (mdV I (rot (rot c 3) 1) (rot c 3)); rw [rot_13]; exact .rfl)) $$ [HM3 HS3 HO HT3]
  · isplitr; · iexact Hi
    isplitl [HM3]; · iexact HM3
    isplitl [HS3]; · iexact HS3
    isplitl [HO]; · iexact HO
    iexact HT3
  iintro ⟨HF3, HO⟩
  iapply (send_one I K c 4 9 (by decide) (by decide) (rot c 1) (Fin.ext (k0_dev7_eq c)) (k0_off2_eq c 0) (inb' := inbXD (rot c 1))
    (sem_x_snd 0) (sem_x_rcv 2) (by exact rfl) (by exact rfl) (oX2 c) (by exact rfl) .rfl
    (by show _ ⊢ owns (rot c 1 : Thread nD τ) (rxS 2) fullShare (xdV I (rot (rot c 1) 3) (rot c 1)); rw [rot_31]; exact .rfl)) $$ [HX1 HS1 HO HT1]
  · isplitr; · iexact Hi
    isplitl [HX1]; · iexact HX1
    isplitl [HS1]; · iexact HS1
    isplitl [HO]; · iexact HO
    iexact HT1
  iintro ⟨HF1, HO⟩
  iapply Hk
  isplitl [HF2]; · iexact HF2
  isplitl [HF3]; · iexact HF3
  isplitl [HF1]; · iexact HF1
  iexact HO

/-- The other two copies of token rows, and the wait for the third peer's metadata. -/
theorem part10 (w w' : BitVec 32) {α : Type} {Q : α → sProp (MT nD τ sig Unit (Elt F) ℕ UU ℕ)}
    {k : BitVec 32 → Prog (TpuEff nD τ sig (Elt F) Λ₀ .tc) α} :
    (iprop(allInv I K ∗ levAts L lv ∗ xdAt I c (rot c 2) ∗ slot (F := F) (rot c 2) (rxS 1) 8 ∗ toSend (F := F) c 5 (rot c 2) 8
      ∗ xdAt I c (rot c 3) ∗ slot (F := F) (rot c 3) (rxS 0) 7 ∗ toSend (F := F) c 6 (rot c 3) 7 ∗ fresh (F := F) c 15 ∗ owe c (oX2 c)) : sProp 𝕄)
      ⊢ iprop(((fresh (F := F) c 5 ∗ fresh (F := F) c 6 ∗ spent (F := F) c 15 ∗ owns (c : Thread nD τ) (rmS 2) fullShare (mdV I (rot c 3) c) ∗ owe c (oP1 c))
            -∗ wp frame (wpE (defs₀ (F := F)) 𝒱₀ c none) Set.univ (k (Scalar.muli w' 1#32)) Q)
          -∗ wp frame (wpE (defs₀ (F := F)) 𝒱₀ c none) Set.univ
            (k0_part10 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) w w' >>= k) Q) := by
  simp only [k0_part10_eq_skeleton]; unfold k0_part10_skel
  simp only [Prog.lift, Prog.bind_op, Prog.bind_ret, Prog.pure_eq_ret]
  iintro ⟨#Hi, #Hl, HX2, HS2, HT2, HX3, HS3, HT3, HF15, HO⟩ Hk
  iapply (send_one I K c 5 8 (by decide) (by decide) (rot c 2) (Fin.ext (k0_dev8_eq c)) (k0_off2_eq c 1) (inb' := inbXD (rot c 2))
    (sem_x_snd 1) (sem_x_rcv 1) (by exact rfl) (by exact rfl) (oX3 c) (by exact rfl) .rfl
    (by show _ ⊢ owns (rot c 2 : Thread nD τ) (rxS 1) fullShare (xdV I (rot (rot c 2) 2) (rot c 2)); rw [rot_22]; exact .rfl)) $$ [HX2 HS2 HO HT2]
  · isplitr; · iexact Hi
    isplitl [HX2]; · iexact HX2
    isplitl [HS2]; · iexact HS2
    isplitl [HO]; · iexact HO
    iexact HT2
  iintro ⟨HF2, HO⟩
  iapply (send_one I K c 6 7 (by decide) (by decide) (rot c 3) (Fin.ext (k0_dev9_eq c)) (k0_off2_eq c 2) (inb' := inbXD (rot c 3))
    (sem_x_snd 2) (sem_x_rcv 0) (by exact rfl) (by exact rfl) (oP1 c) (by exact rfl) .rfl
    (by show _ ⊢ owns (rot c 3 : Thread nD τ) (rxS 0) fullShare (xdV I (rot (rot c 3) 1) (rot c 3)); rw [rot_13]; exact .rfl)) $$ [HX3 HS3 HO HT3]
  · isplitr; · iexact Hi
    isplitl [HX3]; · iexact HX3
    isplitl [HS3]; · iexact HS3
    isplitl [HO]; · iexact HO
    iexact HT3
  iintro ⟨HF3, HO⟩
  iapply (wait_one I K c 15 (by decide) (sem_m_rcv 2) (by exact rfl) (oP1 c) (above_mono (above_P1 c) (by decide))) $$ [HO HF15]
  · isplitr; · iexact Hi
    isplitr; · iexact Hl
    isplitl [HO]; · iexact HO
    iexact HF15
  iintro ⟨HO, HA15, HR⟩
  ihave HR := (show (dmaPay I c (15 : Fin 24).val 0 : sProp 𝕄) ⊢ owns (c : Thread nD τ) (rmS 2) fullShare (mdV I (rot c 3) c) from .rfl) $$ HR
  iapply Hk
  isplitl [HF2]; · iexact HF2
  isplitl [HF3]; · iexact HF3
  isplitl [HA15]; · iexact HA15
  isplitl [HR]; · iexact HR
  iexact HO

/-- The waits for the other peers' metadata, and the loads of all four slabs' metadata. -/
theorem part11 (w w' : BitVec 32) (m : Vec F S1x768x2 .f32) {α : Type} {Q : α → sProp (MT nD τ sig Unit (Elt F) ℕ UU ℕ)}
    {k : (Σ' (_ : IVec S1x8 32) (_ : FVec F S768x2 .f32) (_ : FVec F S768x2 .f32) (_ : FVec F S768x2 .f32) (_ : FVec F S768x2 .f32) (_ : BitVec 32), BitVec 32) → Prog (TpuEff nD τ sig (Elt F) Λ₀ .tc) α} :
    (iprop(allInv I K ∗ levAts L lv ∗ fresh (F := F) c 14 ∗ fresh (F := F) c 13 ∗ owns (c : Thread nD τ) (mdS c) fullShare m ∗ owns (c : Thread nD τ) (rmS 2) fullShare (mdV I (rot c 3) c) ∗ owe c (oP1 c)) : sProp 𝕄)
      ⊢ iprop(((spent (F := F) c 14 ∗ spent (F := F) c 13 ∗ owns (c : Thread nD τ) (mdS c) fullShare m ∗ owns (c : Thread nD τ) (rmS 0) fullShare (mdV I (rot c 1) c)
      ∗ owns (c : Thread nD τ) (rmS 1) fullShare (mdV I (rot c 2) c) ∗ owns (c : Thread nD τ) (rmS 2) fullShare (mdV I (rot c 3) c) ∗ owe c (oP1 c))
            -∗ wp frame (wpE (defs₀ (F := F)) 𝒱₀ c none) Set.univ (k ⟨k0_pay22, k0_pay23 m, k0_pay24 (mdV I (rot c 1) c), k0_pay25 (mdV I (rot c 2) c), k0_pay26 (mdV I (rot c 3) c), Scalar.addi (Dev.word c) 0#32, 4#32⟩) Q)
          -∗ wp frame (wpE (defs₀ (F := F)) 𝒱₀ c none) Set.univ
            (k0_part11 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) w w' >>= k) Q) := by
  simp only [k0_part11_eq_skeleton]; unfold k0_part11_skel
  simp only [Prog.lift, Prog.bind_op, Prog.bind_ret, Prog.pure_eq_ret]
  iintro ⟨#Hi, #Hl, HF14, HF13, HM, HR2, HO⟩ Hk
  iapply (wait_one I K c 14 (by decide) (sem_m_rcv 1) (by exact rfl) (oP1 c) (above_mono (above_P1 c) (by decide))) $$ [HO HF14]
  · isplitr; · iexact Hi
    isplitr; · iexact Hl
    isplitl [HO]; · iexact HO
    iexact HF14
  iintro ⟨HO, HA14, HR1⟩
  ihave HR1 := (show (dmaPay I c (14 : Fin 24).val 0 : sProp 𝕄) ⊢ owns (c : Thread nD τ) (rmS 1) fullShare (mdV I (rot c 2) c) from .rfl) $$ HR1
  iapply (wait_one I K c 13 (by decide) (sem_m_rcv 0) (by exact rfl) (oP1 c) (above_mono (above_P1 c) (by decide))) $$ [HO HF13]
  · isplitr; · iexact Hi
    isplitr; · iexact Hl
    isplitl [HO]; · iexact HO
    iexact HF13
  iintro ⟨HO, HA13, HR0⟩
  ihave HR0 := (show (dmaPay I c (13 : Fin 24).val 0 : sProp 𝕄) ⊢ owns (c : Thread nD τ) (rmS 0) fullShare (mdV I (rot c 1) c) from .rfl) $$ HR0
  iapply (load_at c (k0_off3_eq c) (inb' := inbMD c)) $$ HM
  iintro HM
  iapply (load_at c rfl (inb' := inbRM 0)) $$ HR0
  iintro HR0
  iapply (load_at c rfl (inb' := inbRM 1)) $$ HR1
  iintro HR1
  iapply (load_at c rfl (inb' := inbRM 2)) $$ HR2
  iintro HR2
  iapply Hk
  isplitl [HA14]; · iexact HA14
  isplitl [HA13]; · iexact HA13
  isplitl [HM]; · iexact HM
  isplitl [HR0]; · iexact HR0
  isplitl [HR1]; · iexact HR1
  isplitl [HR2]; · iexact HR2
  iexact HO

end Cert.Moe

end
-- ==== Proof.Experts.lean ====
/-
  The kernel's body from the counts on: the experts on each of the four slabs, the copies of the three peers' results
  back, and the device's own tokens put together from the four results.
-/
module

public import proofs.«01_k».proof.Proof.Exchange

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (A0 : Memref sig .tc .vmem S2048x1024 .bf16) (h0 : A0.IsWhole) (A1 : Memref sig .tc .vmem S4x2048 .f32) (h1 : A1.IsWhole)
variable (A2 : Memref sig .tc .vmem S2048x2 .f32) (h2 : A2.IsWhole) (A4 : Memref sig .tc .vmem S2048x1024 .f32) (h4 : A4.IsWhole)
variable (I : Inp F) (K : GSem nD τ sig → ℕ) (c : Dev nD)

/-- The slab of token rows the device `s` places after device `p` packed for `p`, and its metadata, as `p` holds them. -/
abbrev cnt (I : Inp F) (p : Dev nD) (s : ℕ) : FVec F S8 .f32 := cntV (mdV I (rot p s) p)

/-- The rows of a result slab put where the places say, in an output of zeros. -/
def firstV (a : Vec F S1x768x1024 .bf16) (r : Vec F S1x2048 .f32) : Vec F S2048x1024 .f32 :=
  k0_pay38 (iota .tc S2048x768 32 [1] iota_S2048x768_d1_w32) a r
/-- The rows of a result slab added to an output where the places say. -/
def nextV (o : Vec F S2048x1024 .f32) (a : Vec F S1x768x1024 .bf16) (r : Vec F S1x2048 .f32) : Vec F S2048x1024 .f32 :=
  k0_pay57 (iota .tc S2048x768 32 [1] iota_S2048x768_d1_w32) o a r
/-- A device's output with its own result, -/
def out0V (I : Inp F) (p : Dev nD) : Vec F S2048x1024 .f32 := firstV (accV I p 0) (rowV I p p)
/-- and with the results of one, -/
def out1V (I : Inp F) (p : Dev nD) : Vec F S2048x1024 .f32 := nextV (out0V I p) (accV I (rot p 1) 3) (rowV I p (rot p 1))
/-- two -/
def out2V (I : Inp F) (p : Dev nD) : Vec F S2048x1024 .f32 := nextV (out1V I p) (accV I (rot p 2) 2) (rowV I p (rot p 2))
/-- and three peers. -/
def outV (I : Inp F) (p : Dev nD) : Vec F S2048x1024 .f32 := nextV (out2V I p) (accV I (rot p 3) 1) (rowV I p (rot p 3))

/-- At the first trip the slab's first copy is in flight, -/
theorem wAt_first (q : ℕ) : (wFly I c (8 * q + 0) : sProp 𝕄) ⊢ wAt I c q 0 := Entails.of_eq (if_pos (by decide)).symm
/-- and after the last none is. -/
theorem wAt_last (q : ℕ) : (wAt I c q 8 : sProp 𝕄) ⊢ wIdle I c (8 * q + 8) := Entails.of_eq (if_neg (by decide))

/-- Nothing held of a slab but that it is the core's. -/
theorem to_any {sp : Space} {s : Shape} {e : EltTy} (m : Memref sig .tc sp s e) (X : s.Idx → Elt F e) :
    (owns (c : Thread nD τ) m fullShare X : sProp 𝕄) ⊢ anyS (F := F) c m := by
  unfold anyS
  iintro H
  iexists X; iexact H

/-- The counts of each slab's tokens by expert, and the numbers of the four devices from this one on. -/
theorem part12 {α : Type} {Q : α → sProp (MT nD τ sig Unit (Elt F) ℕ UU ℕ)}
    {k : (Σ' (_ : BitVec 32) (_ : BitVec 32) (_ : BitVec 32) (_ : BitVec 32) (_ : FVec F S8 .f32) (_ : FVec F S8 .f32) (_ : FVec F S8 .f32) (_ : FVec F S8 .f32) (_ : IVec S256x768 32) (_ : IVec S8 32) (_ : FVec F S768 .f32) (_ : FVec F S768 .f32) (_ : FVec F S8 .f32) (_ : BitVec 1), F .f32) → Prog (TpuEff nD τ sig (Elt F) Λ₀ .tc) α} :
    (wp frame (wpE (defs₀ (F := F)) 𝒱₀ c none) Set.univ (k ⟨(srcW c 0), (srcW c 1), (srcW c 2), (srcW c 3), (cnt I c 0), (cnt I c 1), (cnt I c 2), (cnt I c 3), (iota .tc S256x768 32 [0] iota_S256x768_d0_w32), k0_pay31, k0_pay32 (k0_pay23 (mdV I (rot c 0) c)), k0_pay33 (k0_pay23 (mdV I (rot c 0) c)), k0_pay34, Scalar.cmpi .slt (srcW c 0) (srcW c 0), (Scalar.ofBits .f32 0x3F800000#32)⟩) Q : sProp 𝕄)
      ⊢ wp frame (wpE (defs₀ (F := F)) 𝒱₀ c none) Set.univ (k0_part12 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
          (Dev.word c) k0_pay22 (k0_pay23 (mdV I (rot c 0) c)) (k0_pay24 (mdV I (rot c 1) c)) (k0_pay25 (mdV I (rot c 2) c)) (k0_pay26 (mdV I (rot c 3) c)) (Scalar.addi (Dev.word c) 0#32) 4#32 >>= k) Q := by
  simp only [k0_part12_eq_skeleton]; unfold k0_part12_skel
  simp only [Prog.bind_ret, Prog.pure_eq_ret]
  exact .rfl

/-- The experts on the device's own slab. -/
theorem part13 {α : Type} {Q : α → sProp (MT nD τ sig Unit (Elt F) ℕ UU ℕ)}
    {k : (Σ' (_ : IVec S2048x768 32), Vec F S1x768x1024 .bf16) → Prog (TpuEff nD τ sig (Elt F) Λ₀ .tc) α} :
    (iprop(allInv I K ∗ levAts L lv ∗ owe c (oP1 c) ∗ wIdle I c 0 ∗ owns (c : Thread nD τ) (xdS c) fullShare (xdV I (rot c 0) c) ∗ anyS (F := F) c (acS 0)) : sProp 𝕄)
      ⊢ iprop(((owe c (oP1 c) ∗ wIdle I c 8 ∗ owns (c : Thread nD τ) (xdS c) fullShare (xdV I (rot c 0) c) ∗ owns (c : Thread nD τ) (acS 0) fullShare (accV I c 0))
            -∗ wp frame (wpE (defs₀ (F := F)) 𝒱₀ c none) Set.univ (k ⟨(iota .tc S2048x768 32 [1] iota_S2048x768_d1_w32), accV I c 0⟩) Q)
          -∗ wp frame (wpE (defs₀ (F := F)) 𝒱₀ c none) Set.univ
            (k0_part13 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (srcW c 0) (srcW c 1) (srcW c 2) (srcW c 3) (cnt I c 0) (cnt I c 1) (cnt I c 2) (cnt I c 3) (iota .tc S256x768 32 [0] iota_S256x768_d0_w32) k0_pay31 (k0_pay32 (k0_pay23 (mdV I (rot c 0) c))) (k0_pay33 (k0_pay23 (mdV I (rot c 0) c))) k0_pay34 (Scalar.cmpi .slt (srcW c 0) (srcW c 0)) (Scalar.ofBits .f32 0x3F800000#32) >>= k) Q) := by
  simp only [k0_part13_eq_skeleton]; unfold k0_part13_skel
  simp only [Prog.lift, Prog.bind_op, Prog.bind_ret, Prog.pure_eq_ret, Prog.bind_assoc]
  iintro ⟨#Hi, #Hl, HO, HW, HX, HA⟩ Hk
  iapply (peek c) $$ HA
  iintro HA
  iapply (put c) $$ HA
  iintro HA
  iapply (issue_w I K c 0 (by decide) rfl rfl (sem_w_at 0 rfl)) $$ [HW]
  · isplitr; · iexact Hi
    iexact HW
  iintro HW
  iapply (loop1 A0 h0 A1 h1 A2 h2 A4 h4 I K c (mdV I (rot c 0) c) (xdV I (rot c 0) c) (srcW c 0) (srcW c 1) (srcW c 2) (srcW c 3) (cnt I c 0) (cnt I c 1) (cnt I c 2) (cnt I c 3) (Dev.word c) (oP1 c) (above_mono (above_P1 c) (by decide))) $$ [HW HA HX HO]
  · unfold tripInv
    isplitr; · iexact Hi
    isplitr; · iexact Hl
    isplitl [HO]; · iexact HO
    isplitl [HW]; · iapply (wAt_first I c 0); iexact HW
    isplitl [HX]; · iexact HX
    iexact HA
  unfold tripInv
  iintro ⟨-, -, HO, HW, HX, HA⟩
  ihave HW := (wAt_last I c 0) $$ HW
  ihave HA := (show (owns (c : Thread nD τ) (acS 0) fullShare (runV (xdV I (rot c 0) c) (mdV I (rot c 0) c) (baseV (srcW c 0) (srcW c 1) (srcW c 2) (srcW c 3) (srcW c 0) (cnt I c 0) (cnt I c 1) (cnt I c 2) (cnt I c 3)) (wV I c) 8) : sProp 𝕄) ⊢ owns (c : Thread nD τ) (acS 0) fullShare (accV I c 0) from .rfl) $$ HA
  iapply (load_at c rfl (inb' := inbAC 0)) $$ HA
  iintro HA
  iapply Hk
  isplitl [HO]; · iexact HO
  isplitl [HW]; · iexact HW
  isplitl [HX]; · iexact HX
  iexact HA

/-- The device's own result put in its output, and the wait for the first peer's token rows. -/
theorem part14 {α : Type} {Q : α → sProp (MT nD τ sig Unit (Elt F) ℕ UU ℕ)}
    {k : (Σ' (_ : FVec F S768 .f32) (_ : FVec F S768 .f32) (_ : FVec F S8 .f32), F .f32) → Prog (TpuEff nD τ sig (Elt F) Λ₀ .tc) α} :
    (iprop(allInv I K ∗ levAts L lv ∗ owns (c : Thread nD τ) A1 fullShare (I.p c) ∗ anyS (F := F) c A4 ∗ fresh (F := F) c 7 ∗ owe c (oP1 c)) : sProp 𝕄)
      ⊢ iprop(((owns (c : Thread nD τ) A1 fullShare (I.p c) ∗ owns (c : Thread nD τ) A4 fullShare (out0V I c) ∗ spent (F := F) c 7 ∗ owns (c : Thread nD τ) (rxS 0) fullShare (xdV I (rot c 1) c) ∗ owe c (oP1 c))
            -∗ wp frame (wpE (defs₀ (F := F)) 𝒱₀ c none) Set.univ (k ⟨k0_pay39 (k0_pay24 (mdV I (rot c 1) c)), k0_pay40 (k0_pay24 (mdV I (rot c 1) c)), k0_pay41 (srcW c 0) (srcW c 1) (cnt I c 0) (cnt I c 1), k0_pay42 (srcW c 1) (srcW c 2)⟩) Q)
          -∗ wp frame (wpE (defs₀ (F := F)) 𝒱₀ c none) Set.univ
            (k0_part14 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (k0_pay24 (mdV I (rot c 1) c)) (srcW c 0) (srcW c 1) (srcW c 2) (cnt I c 0) (cnt I c 1) (iota .tc S2048x768 32 [1] iota_S2048x768_d1_w32) (accV I c 0) >>= k) Q) := by
  simp only [k0_part14_eq_skeleton]; unfold k0_part14_skel
  simp only [Prog.lift, Prog.bind_op, Prog.bind_ret, Prog.pure_eq_ret]
  iintro ⟨#Hi, #Hl, H1, H4, HF7, HO⟩ Hk
  iapply (load_row I c c (k0_off12_eq c) c) $$ H1
  iintro H1
  unfold anyS
  icases H4 with ⟨%Y, H4⟩
  iapply (load_full 𝒱₀ (c : Thread nD τ) none all_zero2) $$ H4
  iintro H4
  iapply (store_full 𝒱₀ (c : Thread nD τ) none all_zero2) $$ H4
  iintro H4
  iapply (wait_one I K c 7 (by decide) (sem_x_rcv 0) (by exact rfl) (oP1 c) (above_mono (above_P1 c) (by decide))) $$ [HO HF7]
  · isplitr; · iexact Hi
    isplitr; · iexact Hl
    isplitl [HO]; · iexact HO
    iexact HF7
  iintro ⟨HO, HA7, HX⟩
  ihave HX := (show (dmaPay I c (7 : Fin 24).val 0 : sProp 𝕄) ⊢ owns (c : Thread nD τ) (rxS 0) fullShare (xdV I (rot c 1) c) from .rfl) $$ HX
  iapply Hk
  isplitl [H1]; · iexact H1
  isplitl [H4]; · iexact H4
  isplitl [HA7]; · iexact HA7
  isplitl [HX]; · iexact HX
  iexact HO

/-- The experts on the first peer's slab. -/
theorem part15 {α : Type} {Q : α → sProp (MT nD τ sig Unit (Elt F) ℕ UU ℕ)}
    {k : PUnit → Prog (TpuEff nD τ sig (Elt F) Λ₀ .tc) α} :
    (iprop(allInv I K ∗ levAts L lv ∗ owe c (oP1 c) ∗ wIdle I c 8 ∗ owns (c : Thread nD τ) (rxS 0) fullShare (xdV I (rot c 1) c) ∗ anyS (F := F) c (acS 1)) : sProp 𝕄)
      ⊢ iprop(((owe c (oP1 c) ∗ wIdle I c 16 ∗ owns (c : Thread nD τ) (rxS 0) fullShare (xdV I (rot c 1) c) ∗ owns (c : Thread nD τ) (acS 1) fullShare (accV I c 1))
            -∗ wp frame (wpE (defs₀ (F := F)) 𝒱₀ c none) Set.univ (k ⟨⟩) Q)
          -∗ wp frame (wpE (defs₀ (F := F)) 𝒱₀ c none) Set.univ
            (k0_part15 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              (Dev.word c) (srcW c 1) (srcW c 3) (cnt I c 2) (cnt I c 3) (iota .tc S256x768 32 [0] iota_S256x768_d0_w32) k0_pay31 (k0_pay39 (k0_pay24 (mdV I (rot c 1) c))) (k0_pay40 (k0_pay24 (mdV I (rot c 1) c))) (k0_pay41 (srcW c 0) (srcW c 1) (cnt I c 0) (cnt I c 1)) (k0_pay42 (srcW c 1) (srcW c 2)) >>= k) Q) := by
  simp only [k0_part15_eq_skeleton]; unfold k0_part15_skel
  simp only [Prog.lift, Prog.bind_op, Prog.bind_ret, Prog.pure_eq_ret, Prog.bind_assoc]
  iintro ⟨#Hi, #Hl, HO, HW, HX, HA⟩ Hk
  iapply (peek c) $$ HA
  iintro HA
  iapply (put c) $$ HA
  iintro HA
  iapply (issue_w I K c 8 (by decide) rfl rfl (sem_w_at 8 rfl)) $$ [HW]
  · isplitr; · iexact Hi
    iexact HW
  iintro HW
  iapply (loop2 A0 h0 A1 h1 A2 h2 A4 h4 I K c (mdV I (rot c 1) c) (xdV I (rot c 1) c) (srcW c 0) (srcW c 1) (srcW c 2) (srcW c 3) (cnt I c 0) (cnt I c 1) (cnt I c 2) (cnt I c 3) (Dev.word c) (oP1 c) (above_mono (above_P1 c) (by decide))) $$ [HW HA HX HO]
  · unfold tripInv
    isplitr; · iexact Hi
    isplitr; · iexact Hl
    isplitl [HO]; · iexact HO
    isplitl [HW]; · iapply (wAt_first I c 1); iexact HW
    isplitl [HX]; · iexact HX
    iexact HA
  unfold tripInv
  iintro ⟨-, -, HO, HW, HX, HA⟩
  ihave HW := (wAt_last I c 1) $$ HW
  ihave HA := (show (owns (c : Thread nD τ) (acS 1) fullShare (runV (xdV I (rot c 1) c) (mdV I (rot c 1) c) (baseV (srcW c 0) (srcW c 1) (srcW c 2) (srcW c 3) (srcW c 1) (cnt I c 0) (cnt I c 1) (cnt I c 2) (cnt I c 3)) (wV I c) 8) : sProp 𝕄) ⊢ owns (c : Thread nD τ) (acS 1) fullShare (accV I c 1) from .rfl) $$ HA
  iapply Hk
  isplitl [HO]; · iexact HO
  isplitl [HW]; · iexact HW
  isplitl [HX]; · iexact HX
  iexact HA

/-- The copy of its result to the first peer, and the wait for the second peer's token rows. -/
theorem part16 {α : Type} {Q : α → sProp (MT nD τ sig Unit (Elt F) ℕ UU ℕ)}
    {k : (Σ' (_ : FVec F S768 .f32) (_ : FVec F S768 .f32) (_ : FVec F S8 .f32), FVec F S768x1024 .bf16) → Prog (TpuEff nD τ sig (Elt F) Λ₀ .tc) α} :
    (iprop(allInv I K ∗ levAts L lv ∗ owns (c : Thread nD τ) (acS 1) fullShare (accV I c 1) ∗ slot (F := F) (rot c 1) (rrS 2) 21 ∗ toSend (F := F) c 16 (rot c 1) 21 ∗ fresh (F := F) c 8 ∗ owe c (oP1 c)) : sProp 𝕄)
      ⊢ iprop(((fresh (F := F) c 16 ∗ spent (F := F) c 8 ∗ owns (c : Thread nD τ) (rxS 1) fullShare (xdV I (rot c 2) c) ∗ owe c (oP2 c))
            -∗ wp frame (wpE (defs₀ (F := F)) 𝒱₀ c none) Set.univ (k ⟨k0_pay46 (k0_pay25 (mdV I (rot c 2) c)), k0_pay47 (k0_pay25 (mdV I (rot c 2) c)), baseOf I c 2, k0_pay49⟩) Q)
          -∗ wp frame (wpE (defs₀ (F := F)) 𝒱₀ c none) Set.univ
            (k0_part16 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (k0_pay25 (mdV I (rot c 2) c)) (srcW c 0) (srcW c 1) (srcW c 2) (srcW c 3) (cnt I c 0) (cnt I c 1) (cnt I c 2) (cnt I c 3) >>= k) Q) := by
  simp only [k0_part16_eq_skeleton]; unfold k0_part16_skel
  simp only [Prog.lift, Prog.bind_op, Prog.bind_ret, Prog.pure_eq_ret]
  iintro ⟨#Hi, #Hl, HA1, HS1, HT1, HF8, HO⟩ Hk
  iapply (send_one I K c 16 21 (by decide) (by decide) (rot c 1) (Fin.ext (k0_dev10_eq c)) rfl (inb' := inbAC 1)
    (sem_p_snd 0) (sem_p_rcv 2) (by exact rfl) (by exact rfl) (oP2 c) (by exact rfl) .rfl
    (by show _ ⊢ owns (rot c 1 : Thread nD τ) (rrS 2) fullShare (accV I (rot (rot c 1) 3) 1); rw [rot_31]; exact .rfl)) $$ [HA1 HS1 HO HT1]
  · isplitr; · iexact Hi
    isplitl [HA1]; · iexact HA1
    isplitl [HS1]; · iexact HS1
    isplitl [HO]; · iexact HO
    iexact HT1
  iintro ⟨HF1, HO⟩
  iapply (wait_one I K c 8 (by decide) (sem_x_rcv 1) (by exact rfl) (oP2 c) (above_P2 c)) $$ [HO HF8]
  · isplitr; · iexact Hi
    isplitr; · iexact Hl
    isplitl [HO]; · iexact HO
    iexact HF8
  iintro ⟨HO, HA8, HX⟩
  ihave HX := (show (dmaPay I c (8 : Fin 24).val 0 : sProp 𝕄) ⊢ owns (c : Thread nD τ) (rxS 1) fullShare (xdV I (rot c 2) c) from .rfl) $$ HX
  iapply Hk
  isplitl [HF1]; · iexact HF1
  isplitl [HA8]; · iexact HA8
  isplitl [HX]; · iexact HX
  iexact HO

/-- The experts on the second peer's slab, and the copy of its result. -/
theorem part17 {α : Type} {Q : α → sProp (MT nD τ sig Unit (Elt F) ℕ UU ℕ)}
    {k : PUnit → Prog (TpuEff nD τ sig (Elt F) Λ₀ .tc) α} :
    (iprop(allInv I K ∗ levAts L lv ∗ owe c (oP2 c) ∗ wIdle I c 16 ∗ owns (c : Thread nD τ) (rxS 1) fullShare (xdV I (rot c 2) c) ∗ anyS (F := F) c (acS 0)
      ∗ slot (F := F) (rot c 2) (rrS 1) 20 ∗ toSend (F := F) c 17 (rot c 2) 20) : sProp 𝕄)
      ⊢ iprop(((owe c (oP3 c) ∗ wIdle I c 24 ∗ owns (c : Thread nD τ) (rxS 1) fullShare (xdV I (rot c 2) c) ∗ fresh (F := F) c 17)
            -∗ wp frame (wpE (defs₀ (F := F)) 𝒱₀ c none) Set.univ (k ⟨⟩) Q)
          -∗ wp frame (wpE (defs₀ (F := F)) 𝒱₀ c none) Set.univ
            (k0_part17 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S256x768 32 [0] iota_S256x768_d0_w32) k0_pay31 (k0_pay46 (k0_pay25 (mdV I (rot c 2) c))) (k0_pay47 (k0_pay25 (mdV I (rot c 2) c))) (baseOf I c 2) k0_pay49 >>= k) Q) := by
  simp only [k0_part17_eq_skeleton]; unfold k0_part17_skel
  simp only [Prog.lift, Prog.bind_op, Prog.bind_ret, Prog.pure_eq_ret, Prog.bind_assoc]
  iintro ⟨#Hi, #Hl, HO, HW, HX, HA, HS2, HT2⟩ Hk
  iapply (peek c) $$ HA
  iintro HA
  iapply (put c) $$ HA
  iintro HA
  iapply (issue_w I K c 16 (by decide) rfl rfl (sem_w_at 16 rfl)) $$ [HW]
  · isplitr; · iexact Hi
    iexact HW
  iintro HW
  iapply (loop3 A0 h0 A1 h1 A2 h2 A4 h4 I K c (mdV I (rot c 2) c) (xdV I (rot c 2) c) (baseOf I c 2) k0_pay49 (Dev.word c) (oP2 c) (above_mono (above_P2 c) (by decide))) $$ [HW HA HX HO]
  · unfold tripInv
    isplitr; · iexact Hi
    isplitr; · iexact Hl
    isplitl [HO]; · iexact HO
    isplitl [HW]; · iapply (wAt_first I c 2); iexact HW
    isplitl [HX]; · iexact HX
    iexact HA
  unfold tripInv
  iintro ⟨-, -, HO, HW, HX, HA⟩
  ihave HW := (wAt_last I c 2) $$ HW
  ihave HA := (show (owns (c : Thread nD τ) (acS 0) fullShare (runV (xdV I (rot c 2) c) (mdV I (rot c 2) c) (baseOf I c 2) (wV I c) 8) : sProp 𝕄) ⊢ owns (c : Thread nD τ) (acS 0) fullShare (accV I c 2) from .rfl) $$ HA
  iapply (send_one I K c 17 20 (by decide) (by decide) (rot c 2) (Fin.ext (k0_dev11_eq c)) rfl (inb' := inbAC 0)
    (sem_p_snd 1) (sem_p_rcv 1) (by exact rfl) (by exact rfl) (oP3 c) (by exact rfl) .rfl
    (by show _ ⊢ owns (rot c 2 : Thread nD τ) (rrS 1) fullShare (accV I (rot (rot c 2) 2) 2); rw [rot_22]; exact .rfl)) $$ [HA HS2 HO HT2]
  · isplitr; · iexact Hi
    isplitl [HA]; · iexact HA
    isplitl [HS2]; · iexact HS2
    isplitl [HO]; · iexact HO
    iexact HT2
  iintro ⟨HF2, HO⟩
  iapply Hk
  isplitl [HO]; · iexact HO
  isplitl [HW]; · iexact HW
  isplitl [HX]; · iexact HX
  iexact HF2

/-- The waits for the third peer's token rows and for the first result copy's buffer. -/
theorem part18 {α : Type} {Q : α → sProp (MT nD τ sig Unit (Elt F) ℕ UU ℕ)}
    {k : (Σ' (_ : FVec F S768 .f32) (_ : FVec F S768 .f32), FVec F S8 .f32) → Prog (TpuEff nD τ sig (Elt F) Λ₀ .tc) α} :
    (iprop(allInv I K ∗ levAts L lv ∗ fresh (F := F) c 9 ∗ fresh (F := F) c 16 ∗ owe c (oP3 c)) : sProp 𝕄)
      ⊢ iprop(((spent (F := F) c 9 ∗ owns (c : Thread nD τ) (rxS 2) fullShare (xdV I (rot c 3) c) ∗ spent (F := F) c 16 ∗ owns (c : Thread nD τ) (acS 1) fullShare (accV I c 1) ∗ owe c (oP3 c))
            -∗ wp frame (wpE (defs₀ (F := F)) 𝒱₀ c none) Set.univ (k ⟨k0_pay52 (k0_pay26 (mdV I (rot c 3) c)), k0_pay53 (k0_pay26 (mdV I (rot c 3) c)), baseOf I c 3⟩) Q)
          -∗ wp frame (wpE (defs₀ (F := F)) 𝒱₀ c none) Set.univ
            (k0_part18 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (k0_pay26 (mdV I (rot c 3) c)) (srcW c 0) (srcW c 1) (srcW c 2) (srcW c 3) (cnt I c 0) (cnt I c 1) (cnt I c 2) (cnt I c 3) >>= k) Q) := by
  simp only [k0_part18_eq_skeleton]; unfold k0_part18_skel
  simp only [Prog.lift, Prog.bind_op, Prog.bind_ret, Prog.pure_eq_ret]
  iintro ⟨#Hi, #Hl, HF9, HF16, HO⟩ Hk
  iapply (wait_one I K c 9 (by decide) (sem_x_rcv 2) (by exact rfl) (oP3 c) (above_P3 c)) $$ [HO HF9]
  · isplitr; · iexact Hi
    isplitr; · iexact Hl
    isplitl [HO]; · iexact HO
    iexact HF9
  iintro ⟨HO, HA9, HX⟩
  ihave HX := (show (dmaPay I c (9 : Fin 24).val 0 : sProp 𝕄) ⊢ owns (c : Thread nD τ) (rxS 2) fullShare (xdV I (rot c 3) c) from .rfl) $$ HX
  iapply (wait_one I K c 16 (by decide) (sem_p_snd 0) (by exact rfl) (oP3 c) (above_mono (above_P3 c) (by decide))) $$ [HO HF16]
  · isplitr; · iexact Hi
    isplitr; · iexact Hl
    isplitl [HO]; · iexact HO
    iexact HF16
  iintro ⟨HO, HA16, HA⟩
  ihave HA := (show (dmaPay I c (16 : Fin 24).val 0 : sProp 𝕄) ⊢ owns (c : Thread nD τ) (acS 1) fullShare (accV I c 1) from .rfl) $$ HA
  iapply Hk
  isplitl [HA9]; · iexact HA9
  isplitl [HX]; · iexact HX
  isplitl [HA16]; · iexact HA16
  isplitl [HA]; · iexact HA
  iexact HO

/-- The experts on the third peer's slab, and the copy of its result. -/
theorem part19 {α : Type} {Q : α → sProp (MT nD τ sig Unit (Elt F) ℕ UU ℕ)}
    {k : BitVec 32 → Prog (TpuEff nD τ sig (Elt F) Λ₀ .tc) α} :
    (iprop(allInv I K ∗ levAts L lv ∗ owe c (oP3 c) ∗ wIdle I c 24 ∗ owns (c : Thread nD τ) (rxS 2) fullShare (xdV I (rot c 3) c) ∗ anyS (F := F) c (acS 1)
      ∗ slot (F := F) (rot c 3) (rrS 0) 19 ∗ toSend (F := F) c 18 (rot c 3) 19) : sProp 𝕄)
      ⊢ iprop(((owe c 0 ∗ wIdle I c 32 ∗ owns (c : Thread nD τ) (rxS 2) fullShare (xdV I (rot c 3) c) ∗ fresh (F := F) c 18)
            -∗ wp frame (wpE (defs₀ (F := F)) 𝒱₀ c none) Set.univ (k 1#32) Q)
          -∗ wp frame (wpE (defs₀ (F := F)) 𝒱₀ c none) Set.univ
            (k0_part19 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S256x768 32 [0] iota_S256x768_d0_w32) k0_pay31 (k0_pay52 (k0_pay26 (mdV I (rot c 3) c))) (k0_pay53 (k0_pay26 (mdV I (rot c 3) c))) (baseOf I c 3) >>= k) Q) := by
  simp only [k0_part19_eq_skeleton]; unfold k0_part19_skel
  simp only [Prog.lift, Prog.bind_op, Prog.bind_ret, Prog.pure_eq_ret, Prog.bind_assoc]
  iintro ⟨#Hi, #Hl, HO, HW, HX, HA, HS3, HT3⟩ Hk
  iapply (peek c) $$ HA
  iintro HA
  iapply (put c) $$ HA
  iintro HA
  iapply (issue_w I K c 24 (by decide) rfl rfl (sem_w_at 24 rfl)) $$ [HW]
  · isplitr; · iexact Hi
    iexact HW
  iintro HW
  iapply (loop4 A0 h0 A1 h1 A2 h2 A4 h4 I K c (mdV I (rot c 3) c) (xdV I (rot c 3) c) (baseOf I c 3) (Dev.word c) (oP3 c) (above_mono (above_P3 c) (by decide))) $$ [HW HA HX HO]
  · unfold tripInv
    isplitr; · iexact Hi
    isplitr; · iexact Hl
    isplitl [HO]; · iexact HO
    isplitl [HW]; · iapply (wAt_first I c 3); iexact HW
    isplitl [HX]; · iexact HX
    iexact HA
  unfold tripInv
  iintro ⟨-, -, HO, HW, HX, HA⟩
  ihave HW := (wAt_last I c 3) $$ HW
  ihave HA := (show (owns (c : Thread nD τ) (acS 1) fullShare (runV (xdV I (rot c 3) c) (mdV I (rot c 3) c) (baseOf I c 3) (wV I c) 8) : sProp 𝕄) ⊢ owns (c : Thread nD τ) (acS 1) fullShare (accV I c 3) from .rfl) $$ HA
  iapply (send_one I K c 18 19 (by decide) (by decide) (rot c 3) (Fin.ext (k0_dev12_eq c)) rfl (inb' := inbAC 1)
    (sem_p_snd 2) (sem_p_rcv 0) (by exact rfl) (by exact rfl) 0 (by exact rfl) .rfl
    (by show _ ⊢ owns (rot c 3 : Thread nD τ) (rrS 0) fullShare (accV I (rot (rot c 3) 1) 3); rw [rot_13]; exact .rfl)) $$ [HA HS3 HO HT3]
  · isplitr; · iexact Hi
    isplitl [HA]; · iexact HA
    isplitl [HS3]; · iexact HS3
    isplitl [HO]; · iexact HO
    iexact HT3
  iintro ⟨HF3, HO⟩
  iapply Hk
  isplitl [HO]; · iexact HO
  isplitl [HW]; · iexact HW
  isplitl [HX]; · iexact HX
  iexact HF3

/-- The first peer's result put in the output. -/
theorem part20 (w : BitVec 32) {α : Type} {Q : α → sProp (MT nD τ sig Unit (Elt F) ℕ UU ℕ)}
    {k : PUnit → Prog (TpuEff nD τ sig (Elt F) Λ₀ .tc) α} :
    (iprop(allInv I K ∗ levAts L lv ∗ fresh (F := F) c 19 ∗ owns (c : Thread nD τ) A1 fullShare (I.p c) ∗ owns (c : Thread nD τ) A4 fullShare (out0V I c) ∗ owe c 0) : sProp 𝕄)
      ⊢ iprop(((spent (F := F) c 19 ∗ owns (c : Thread nD τ) A1 fullShare (I.p c) ∗ owns (c : Thread nD τ) A4 fullShare (out1V I c) ∗ owns (c : Thread nD τ) (rrS 0) fullShare (accV I (rot c 1) 3) ∗ owe c 0)
            -∗ wp frame (wpE (defs₀ (F := F)) 𝒱₀ c none) Set.univ (k ⟨⟩) Q)
          -∗ wp frame (wpE (defs₀ (F := F)) 𝒱₀ c none) Set.univ
            (k0_part20 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S2048x768 32 [1] iota_S2048x768_d1_w32) w >>= k) Q) := by
  simp only [k0_part20_eq_skeleton]; unfold k0_part20_skel
  simp only [Prog.lift, Prog.bind_op, Prog.bind_ret, Prog.pure_eq_ret]
  iintro ⟨#Hi, #Hl, HF19, H1, H4, HO⟩ Hk
  iapply (wait_one I K c 19 (by decide) (sem_p_rcv 0) (by exact rfl) 0 (above_zero _)) $$ [HO HF19]
  · isplitr; · iexact Hi
    isplitr; · iexact Hl
    isplitl [HO]; · iexact HO
    iexact HF19
  iintro ⟨HO, HA19, HR⟩
  ihave HR := (show (dmaPay I c (19 : Fin 24).val 0 : sProp 𝕄) ⊢ owns (c : Thread nD τ) (rrS 0) fullShare (accV I (rot c 1) 3) from .rfl) $$ HR
  iapply (load_full 𝒱₀ (c : Thread nD τ) none all_zero2) $$ H4
  iintro H4
  iapply (load_at c rfl (inb' := inbRX 0)) $$ HR
  iintro HR
  iapply (load_row I c (rot c 1) (k0_off35_eq c 0) c) $$ H1
  iintro H1
  iapply (load_full 𝒱₀ (c : Thread nD τ) none all_zero2) $$ H4
  iintro H4
  iapply (store_full 𝒱₀ (c : Thread nD τ) none all_zero2) $$ H4
  iintro H4
  iapply Hk
  isplitl [HA19]; · iexact HA19
  isplitl [H1]; · iexact H1
  isplitl [H4]; · iexact H4
  isplitl [HR]; · iexact HR
  iexact HO

/-- The second peer's result put in the output, and the wait for the third's. -/
theorem part21 {α : Type} {Q : α → sProp (MT nD τ sig Unit (Elt F) ℕ UU ℕ)}
    {k : PUnit → Prog (TpuEff nD τ sig (Elt F) Λ₀ .tc) α} :
    (iprop(allInv I K ∗ levAts L lv ∗ fresh (F := F) c 20 ∗ fresh (F := F) c 21 ∗ owns (c : Thread nD τ) A1 fullShare (I.p c) ∗ owns (c : Thread nD τ) A4 fullShare (out1V I c) ∗ owe c 0) : sProp 𝕄)
      ⊢ iprop(((spent (F := F) c 20 ∗ spent (F := F) c 21 ∗ owns (c : Thread nD τ) A1 fullShare (I.p c) ∗ owns (c : Thread nD τ) A4 fullShare (out2V I c) ∗ owns (c : Thread nD τ) (rrS 1) fullShare (accV I (rot c 2) 2) ∗ owns (c : Thread nD τ) (rrS 2) fullShare (accV I (rot c 3) 1) ∗ owe c 0)
            -∗ wp frame (wpE (defs₀ (F := F)) 𝒱₀ c none) Set.univ (k ⟨⟩) Q)
          -∗ wp frame (wpE (defs₀ (F := F)) 𝒱₀ c none) Set.univ
            (k0_part21 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S2048x768 32 [1] iota_S2048x768_d1_w32) >>= k) Q) := by
  simp only [k0_part21_eq_skeleton]; unfold k0_part21_skel
  simp only [Prog.lift, Prog.bind_op, Prog.bind_ret, Prog.pure_eq_ret]
  iintro ⟨#Hi, #Hl, HF20, HF21, H1, H4, HO⟩ Hk
  iapply (wait_one I K c 20 (by decide) (sem_p_rcv 1) (by exact rfl) 0 (above_zero _)) $$ [HO HF20]
  · isplitr; · iexact Hi
    isplitr; · iexact Hl
    isplitl [HO]; · iexact HO
    iexact HF20
  iintro ⟨HO, HA20, HR⟩
  ihave HR := (show (dmaPay I c (20 : Fin 24).val 0 : sProp 𝕄) ⊢ owns (c : Thread nD τ) (rrS 1) fullShare (accV I (rot c 2) 2) from .rfl) $$ HR
  iapply (load_full 𝒱₀ (c : Thread nD τ) none all_zero2) $$ H4
  iintro H4
  iapply (load_at c rfl (inb' := inbRX 1)) $$ HR
  iintro HR
  iapply (load_row I c (rot c 2) (k0_off35_eq c 1) c) $$ H1
  iintro H1
  iapply (load_full 𝒱₀ (c : Thread nD τ) none all_zero2) $$ H4
  iintro H4
  iapply (store_full 𝒱₀ (c : Thread nD τ) none all_zero2) $$ H4
  iintro H4
  iapply (wait_one I K c 21 (by decide) (sem_p_rcv 2) (by exact rfl) 0 (above_zero _)) $$ [HO HF21]
  · isplitr; · iexact Hi
    isplitr; · iexact Hl
    isplitl [HO]; · iexact HO
    iexact HF21
  iintro ⟨HO, HA21, HR2⟩
  ihave HR2 := (show (dmaPay I c (21 : Fin 24).val 0 : sProp 𝕄) ⊢ owns (c : Thread nD τ) (rrS 2) fullShare (accV I (rot c 3) 1) from .rfl) $$ HR2
  iapply Hk
  isplitl [HA20]; · iexact HA20
  isplitl [HA21]; · iexact HA21
  isplitl [H1]; · iexact H1
  isplitl [H4]; · iexact H4
  isplitl [HR]; · iexact HR
  isplitl [HR2]; · iexact HR2
  iexact HO

/-- The third peer's result put in the output, and the wait for the first metadata copy's slab. -/
theorem part22 {α : Type} {Q : α → sProp (MT nD τ sig Unit (Elt F) ℕ UU ℕ)}
    {k : PUnit → Prog (TpuEff nD τ sig (Elt F) Λ₀ .tc) α} :
    (iprop(allInv I K ∗ levAts L lv ∗ fresh (F := F) c 10 ∗ owns (c : Thread nD τ) A1 fullShare (I.p c) ∗ owns (c : Thread nD τ) A4 fullShare (out2V I c) ∗ owns (c : Thread nD τ) (rrS 2) fullShare (accV I (rot c 3) 1) ∗ owe c 0) : sProp 𝕄)
      ⊢ iprop(((spent (F := F) c 10 ∗ owns (c : Thread nD τ) A1 fullShare (I.p c) ∗ owns (c : Thread nD τ) A4 fullShare (outV I c) ∗ owns (c : Thread nD τ) (rrS 2) fullShare (accV I (rot c 3) 1) ∗ mdAt I c (rot c 1) ∗ owe c 0)
            -∗ wp frame (wpE (defs₀ (F := F)) 𝒱₀ c none) Set.univ (k ⟨⟩) Q)
          -∗ wp frame (wpE (defs₀ (F := F)) 𝒱₀ c none) Set.univ
            (k0_part22 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c (Dev.word c) (iota .tc S2048x768 32 [1] iota_S2048x768_d1_w32) >>= k) Q) := by
  simp only [k0_part22_eq_skeleton]; unfold k0_part22_skel
  simp only [Prog.lift, Prog.bind_op, Prog.bind_ret, Prog.pure_eq_ret]
  iintro ⟨#Hi, #Hl, HF10, H1, H4, HR, HO⟩ Hk
  iapply (load_full 𝒱₀ (c : Thread nD τ) none all_zero2) $$ H4
  iintro H4
  iapply (load_at c rfl (inb' := inbRX 2)) $$ HR
  iintro HR
  iapply (load_row I c (rot c 3) (k0_off35_eq c 2) c) $$ H1
  iintro H1
  iapply (load_full 𝒱₀ (c : Thread nD τ) none all_zero2) $$ H4
  iintro H4
  iapply (store_full 𝒱₀ (c : Thread nD τ) none all_zero2) $$ H4
  iintro H4
  iapply (wait_one I K c 10 (by decide) (sem_m_snd 0) (by exact rfl) 0 (above_zero _)) $$ [HO HF10]
  · isplitr; · iexact Hi
    isplitr; · iexact Hl
    isplitl [HO]; · iexact HO
    iexact HF10
  iintro ⟨HO, HA10, HM⟩
  ihave HM := (show (dmaPay I c (10 : Fin 24).val 0 : sProp 𝕄) ⊢ mdAt I c (rot c 1) from .rfl) $$ HM
  iapply Hk
  isplitl [HA10]; · iexact HA10
  isplitl [H1]; · iexact H1
  isplitl [H4]; · iexact H4
  isplitl [HR]; · iexact HR
  isplitl [HM]; · iexact HM
  iexact HO

/-- The waits for the slabs of the copies of metadata and of token rows. -/
theorem part23 {α : Type} {Q : α → sProp (MT nD τ sig Unit (Elt F) ℕ UU ℕ)}
    {k : PUnit → Prog (TpuEff nD τ sig (Elt F) Λ₀ .tc) α} :
    (iprop(allInv I K ∗ levAts L lv ∗ fresh (F := F) c 11 ∗ fresh (F := F) c 12 ∗ fresh (F := F) c 4 ∗ fresh (F := F) c 5 ∗ owe c 0) : sProp 𝕄)
      ⊢ iprop(((spent (F := F) c 11 ∗ spent (F := F) c 12 ∗ spent (F := F) c 4 ∗ spent (F := F) c 5 ∗ mdAt I c (rot c 2) ∗ mdAt I c (rot c 3) ∗ xdAt I c (rot c 1) ∗ xdAt I c (rot c 2) ∗ owe c 0)
            -∗ wp frame (wpE (defs₀ (F := F)) 𝒱₀ c none) Set.univ (k ⟨⟩) Q)
          -∗ wp frame (wpE (defs₀ (F := F)) 𝒱₀ c none) Set.univ
            (k0_part23 A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13
              c >>= k) Q) := by
  simp only [k0_part23_eq_skeleton]; unfold k0_part23_skel
  simp only [Prog.lift, Prog.bind_op, Prog.bind_ret, Prog.pure_eq_ret]
  iintro ⟨#Hi, #Hl, HF11, HF12, HF4, HF5, HO⟩ Hk
  iapply (wait_one I K c 11 (by decide) (sem_m_snd 1) (by exact rfl) 0 (above_zero _)) $$ [HO HF11]
  · isplitr; · iexact Hi
    isplitr; · iexact Hl
    isplitl [HO]; · iexact HO
    iexact HF11
  iintro ⟨HO, HA11, H1⟩
  ihave H1 := (show (dmaPay I c (11 : Fin 24).val 0 : sProp 𝕄) ⊢ mdAt I c (rot c 2) from .rfl) $$ H1
  iapply (wait_one I K c 12 (by decide) (sem_m_snd 2) (by exact rfl) 0 (above_zero _)) $$ [HO HF12]
  · isplitr; · iexact Hi
    isplitr; · iexact Hl
    isplitl [HO]; · iexact HO
    iexact HF12
  iintro ⟨HO, HA12, H2⟩
  ihave H2 := (show (dmaPay I c (12 : Fin 24).val 0 : sProp 𝕄) ⊢ mdAt I c (rot c 3) from .rfl) $$ H2
  iapply (wait_one I K c 4 (by decide) (sem_x_snd 0) (by exact rfl) 0 (above_zero _)) $$ [HO HF4]
  · isplitr; · iexact Hi
    isplitr; · iexact Hl
    isplitl [HO]; · iexact HO
    iexact HF4
  iintro ⟨HO, HA4, H3⟩
  ihave H3 := (show (dmaPay I c (4 : Fin 24).val 0 : sProp 𝕄) ⊢ xdAt I c (rot c 1) from .rfl) $$ H3
  iapply (wait_one I K c 5 (by decide) (sem_x_snd 1) (by exact rfl) 0 (above_zero _)) $$ [HO HF5]
  · isplitr; · iexact Hi
    isplitr; · iexact Hl
    isplitl [HO]; · iexact HO
    iexact HF5
  iintro ⟨HO, HA5, H5⟩
  ihave H5 := (show (dmaPay I c (5 : Fin 24).val 0 : sProp 𝕄) ⊢ xdAt I c (rot c 2) from .rfl) $$ H5
  iapply Hk
  isplitl [HA11]; · iexact HA11
  isplitl [HA12]; · iexact HA12
  isplitl [HA4]; · iexact HA4
  isplitl [HA5]; · iexact HA5
  isplitl [H1]; · iexact H1
  isplitl [H2]; · iexact H2
  isplitl [H3]; · iexact H3
  isplitl [H5]; · iexact H5
  iexact HO

end Cert.Moe

end
-- ==== Proof.Body.lean ====
/-
  The kernel's body run whole, from the steps: what a core holds when it starts, and what it is left with.
-/
module

public import proofs.«01_k».proof.Proof.Experts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (A0 : Memref sig .tc .vmem S2048x1024 .bf16) (h0 : A0.IsWhole) (A1 : Memref sig .tc .vmem S4x2048 .f32) (h1 : A1.IsWhole)
variable (A2 : Memref sig .tc .vmem S2048x2 .f32) (h2 : A2.IsWhole) (A4 : Memref sig .tc .vmem S2048x1024 .f32) (h4 : A4.IsWhole)
variable (I : Inp F) (K : GSem nD τ sig → ℕ) (c : Dev nD)

/-- The four slabs of the packed rows and of their metadata, whatever they hold. -/
def anyPacked : sProp 𝕄 :=
  iprop((anyS (F := F) c (xdS 0) ∗ anyS (F := F) c (xdS 1) ∗ anyS (F := F) c (xdS 2) ∗ anyS (F := F) c (xdS 3))
    ∗ (anyS (F := F) c (mdS 0) ∗ anyS (F := F) c (mdS 1) ∗ anyS (F := F) c (mdS 2) ∗ anyS (F := F) c (mdS 3)))
/-- The two slabs results are accumulated in. -/
def anyAcc : sProp 𝕄 := iprop(anyS (F := F) c (acS 0) ∗ anyS (F := F) c (acS 1))
/-- The landing slots: rows, metadata and results, one each per peer. -/
def anyLanded : sProp 𝕄 :=
  iprop((anyS (F := F) c (rxS 0) ∗ anyS (F := F) c (rxS 1) ∗ anyS (F := F) c (rxS 2))
    ∗ (anyS (F := F) c (rmS 0) ∗ anyS (F := F) c (rmS 1) ∗ anyS (F := F) c (rmS 2))
    ∗ (anyS (F := F) c (rrS 0) ∗ anyS (F := F) c (rrS 1) ∗ anyS (F := F) c (rrS 2)))
/-- The core's part of the barrier: the place at its own, its credit, and the tokens of its three signals. -/
def barStart : sProp 𝕄 :=
  iprop(cred (tallyAt (bar c) () 3) ∗ atPos ER (bar c) 0 ∅ 0
    ∗ dutyTok ER (bar (rot c 1)) 0 1 ∗ dutyTok ER (bar (rot c 2)) 0 2 ∗ dutyTok ER (bar (rot c 3)) 0 3
    ∗ reached ER (bar (rot c 1)) 0 ∗ reached ER (bar (rot c 2)) 0 ∗ reached ER (bar (rot c 3)) 0)
/-- The nine cells the peers' copies are counted on. -/
def freshRcv : sProp 𝕄 :=
  iprop((fresh (F := F) c 7 ∗ fresh (F := F) c 8 ∗ fresh (F := F) c 9) ∗ (fresh (F := F) c 13 ∗ fresh (F := F) c 14 ∗ fresh (F := F) c 15) ∗ (fresh (F := F) c 19 ∗ fresh (F := F) c 20 ∗ fresh (F := F) c 21))
/-- What the nine copies to the peers take. -/
def toSendAll : sProp 𝕄 :=
  iprop((toSend (F := F) c 4 (rot c 1) 9 ∗ toSend (F := F) c 5 (rot c 2) 8 ∗ toSend (F := F) c 6 (rot c 3) 7) ∗ (toSend (F := F) c 10 (rot c 1) 15 ∗ toSend (F := F) c 11 (rot c 2) 14 ∗ toSend (F := F) c 12 (rot c 3) 13) ∗ (toSend (F := F) c 16 (rot c 1) 21 ∗ toSend (F := F) c 17 (rot c 2) 20 ∗ toSend (F := F) c 18 (rot c 3) 19))
/-- The eighteen cells of the copies, waited for. -/
def spentAll : sProp 𝕄 :=
  iprop((spent (F := F) c 4 ∗ spent (F := F) c 5 ∗ spent (F := F) c 6) ∗ (spent (F := F) c 7 ∗ spent (F := F) c 8 ∗ spent (F := F) c 9) ∗ (spent (F := F) c 10 ∗ spent (F := F) c 11 ∗ spent (F := F) c 12) ∗ (spent (F := F) c 13 ∗ spent (F := F) c 14 ∗ spent (F := F) c 15) ∗ (spent (F := F) c 16 ∗ spent (F := F) c 17 ∗ spent (F := F) c 18) ∗ (spent (F := F) c 19 ∗ spent (F := F) c 20 ∗ spent (F := F) c 21))

/-- What a core holds when its body starts. -/
def bodyPre : sProp 𝕄 :=
  iprop(allInv I K ∗ levAts L lv ∗ ins A0 A1 A2 I c ∗ anyS (F := F) c A4 ∗ anyPacked (F := F) c ∗ anyAcc (F := F) c
    ∗ (barPay (F := F) c 0 ∗ barPay (F := F) c 1 ∗ barPay (F := F) c 2) ∗ wIdle I c 0 ∗ owe c (O₀ c)
    ∗ barStart (F := F) c ∗ freshRcv (F := F) c ∗ toSendAll (F := F) c)
/-- What it is left with. -/
def bodyPost : sProp 𝕄 :=
  iprop(ins A0 A1 A2 I c ∗ owns (c : Thread nD τ) A4 fullShare (outV I c) ∗ anyPacked (F := F) c ∗ anyAcc (F := F) c
    ∗ anyLanded (F := F) c ∗ wIdle I c 32 ∗ owe c 0 ∗ atPos ER (bar c) 1 ∅ 0 ∗ spentAll (F := F) c)

/-- The four slabs told from the core's own on. -/
theorem turn (f : Fin 4 → sProp 𝕄) : iprop(f 0 ∗ f 1 ∗ f 2 ∗ f 3) ⊢ iprop(f c ∗ f (rot c 1) ∗ f (rot c 2) ∗ f (rot c 3)) :=
  Entails.of_eq ((rotate 0 f).symm.trans (rotate c f))
/-- and back. -/
theorem unturn (f : Fin 4 → sProp 𝕄) : iprop(f c ∗ f (rot c 1) ∗ f (rot c 2) ∗ f (rot c 3)) ⊢ iprop(f 0 ∗ f 1 ∗ f 2 ∗ f 3) :=
  Entails.of_eq ((rotate c f).symm.trans (rotate 0 f))

theorem own_slab : (xdAt I c c : sProp 𝕄) ⊢ owns (c : Thread nD τ) (xdS c) fullShare (xdV I (rot c 0) c) := by rw [rot_zero]
theorem slab_own : (owns (c : Thread nD τ) (xdS c) fullShare (xdV I (rot c 0) c) : sProp 𝕄) ⊢ xdAt I c c := by rw [rot_zero]
theorem own_meta : (mdAt I c c : sProp 𝕄) ⊢ owns (c : Thread nD τ) (mdS c) fullShare (mdV I (rot c 0) c) := by rw [rot_zero]
theorem meta_own : (owns (c : Thread nD τ) (mdS c) fullShare (mdV I (rot c 0) c) : sProp 𝕄) ⊢ mdAt I c c := by rw [rot_zero]

/-- The body's run: from what a core holds at the start, every path reaches the end with what it is left with. -/
theorem body_run {Q : PUnit → sProp (MT nD τ sig Unit (Elt F) ℕ UU ℕ)} :
    (bodyPre A0 A1 A2 A4 I K c : sProp 𝕄)
      ⊢ iprop((bodyPost A0 A1 A2 A4 I c -∗ Q ⟨⟩)
          -∗ wp frame (wpE (defs₀ (F := F)) 𝒱₀ c none) Set.univ (cc0_body A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13) Q) := by
  rw [cc0_body_eq_skeleton]; unfold cc0_body_skel
  simp only [Prog.lift, Prog.bind_op, Prog.bind_ret, Prog.pure_eq_ret]
  unfold bodyPre anyPacked anyAcc barStart freshRcv toSendAll
  iintro ⟨#Hi, #Hl, Hin, H4, ⟨⟨X0, X1, X2, X3⟩, M0, M1, M2, M3⟩, ⟨C0, C1⟩, ⟨B0, B1, B2⟩, HW, HO, ⟨HcB, HaB, D1, D2, D3, #R1, #R2, #R3⟩, ⟨⟨F7, F8, F9⟩, ⟨F13, F14, F15⟩, F19, F20, F21⟩, ⟨T4, T5, T6⟩, ⟨T10, T11, T12⟩, T16, T17, T18⟩ Hk
  iapply (part5 A0 h0 A1 h1 A2 h2 A4 h4 I c) $$ [Hin X0 M0]
  · isplitl [Hin]; · iexact Hin
    isplitl [X0]; · iexact X0
    iexact M0
  iintro ⟨Hin, X0, M0⟩
  iapply (part6 A0 h0 A1 h1 A2 h2 A4 h4 I c) $$ [Hin X1 M1 X2 M2]
  · isplitl [Hin]; · iexact Hin
    isplitl [X1]; · iexact X1
    isplitl [M1]; · iexact M1
    isplitl [X2]; · iexact X2
    iexact M2
  iintro ⟨Hin, X1, M1, X2, M2⟩
  iapply (part7 A0 h0 A1 h1 A2 h2 A4 h4 I K c) $$ [Hin M2 X3 M3 D1 D2 B0 B1 HO]
  · isplitl [Hin]; · iexact Hin
    isplitl [M2]; · iexact M2
    isplitl [X3]; · iexact X3
    isplitl [M3]; · iexact M3
    isplitr; · iexact Hi
    isplitr; · iexact R1
    isplitr; · iexact R2
    isplitl [D1]; · iexact D1
    isplitl [D2]; · iexact D2
    isplitl [B0]; · iexact B0
    isplitl [B1]; · iexact B1
    iexact HO
  iintro ⟨Hin, M2, X3, M3, HO⟩
  ihave HX := (turn c (fun d => xdAt I c d)) $$ [X0 X1 X2 X3]
  · isplitl [X0]; · iexact X0
    isplitl [X1]; · iexact X1
    isplitl [X2]; · iexact X2
    iexact X3
  icases HX with ⟨X0, X1, X2, X3⟩
  ihave HM := (turn c (fun d => mdAt I c d)) $$ [M0 M1 M2 M3]
  · isplitl [M0]; · iexact M0
    isplitl [M1]; · iexact M1
    isplitl [M2]; · iexact M2
    iexact M3
  icases HM with ⟨M0, M1, M2, M3⟩
  ihave X0 := (own_slab I c) $$ X0
  ihave M0 := (own_meta I c) $$ M0
  iapply (part8 A0 h0 A1 h1 A2 h2 A4 h4 I K c) $$ [D3 B2 HO HcB HaB M1 T10]
  · isplitr; · iexact Hi
    isplitr; · iexact Hl
    isplitr; · iexact R3
    isplitl [D3]; · iexact D3
    isplitl [B2]; · iexact B2
    isplitl [HO]; · iexact HO
    isplitl [HcB]; · iexact HcB
    isplitl [HaB]; · iexact HaB
    isplitl [M1]; · iexact M1
    iexact T10
  iintro ⟨HO, HaB, F10, Sx9, Sr21, P2, P3⟩
  ihave P2 := (barPay_open (rot c 2) 1) $$ P2
  icases P2 with ⟨Sm14, Sx8, Sr20⟩
  ihave P3 := (barPay_open (rot c 3) 0) $$ P3
  icases P3 with ⟨Sm13, Sx7, Sr19⟩
  iapply (part9 A0 h0 A1 h1 A2 h2 A4 h4 I K c) $$ [M2 Sm14 T11 M3 Sm13 T12 X1 Sx9 T4 HO]
  · isplitr; · iexact Hi
    isplitl [M2]; · iexact M2
    isplitl [Sm14]; · iexact Sm14
    isplitl [T11]; · iexact T11
    isplitl [M3]; · iexact M3
    isplitl [Sm13]; · iexact Sm13
    isplitl [T12]; · iexact T12
    isplitl [X1]; · iexact X1
    isplitl [Sx9]; · iexact Sx9
    isplitl [T4]; · iexact T4
    iexact HO
  iintro ⟨F11, F12, F4, HO⟩
  iapply (part10 A0 h0 A1 h1 A2 h2 A4 h4 I K c _ _) $$ [X2 Sx8 T5 X3 Sx7 T6 F15 HO]
  · isplitr; · iexact Hi
    isplitr; · iexact Hl
    isplitl [X2]; · iexact X2
    isplitl [Sx8]; · iexact Sx8
    isplitl [T5]; · iexact T5
    isplitl [X3]; · iexact X3
    isplitl [Sx7]; · iexact Sx7
    isplitl [T6]; · iexact T6
    isplitl [F15]; · iexact F15
    iexact HO
  iintro ⟨F5, F6, A15, Rm2, HO⟩
  iapply (part11 A0 h0 A1 h1 A2 h2 A4 h4 I K c _ _ (mdV I (rot c 0) c)) $$ [F14 F13 M0 Rm2 HO]
  · isplitr; · iexact Hi
    isplitr; · iexact Hl
    isplitl [F14]; · iexact F14
    isplitl [F13]; · iexact F13
    isplitl [M0]; · iexact M0
    isplitl [Rm2]; · iexact Rm2
    iexact HO
  iintro ⟨A14, A13, M0, Rm0, Rm1, Rm2, HO⟩
  iapply (part12 A0 h0 A1 h1 A2 h2 A4 h4 I c)
  iapply (part13 A0 h0 A1 h1 A2 h2 A4 h4 I K c) $$ [HO HW X0 C0]
  · isplitr; · iexact Hi
    isplitr; · iexact Hl
    isplitl [HO]; · iexact HO
    isplitl [HW]; · iexact HW
    isplitl [X0]; · iexact X0
    iexact C0
  iintro ⟨HO, HW, X0, C0⟩
  unfold ins
  icases Hin with ⟨HI0, HI1, HI2⟩
  iapply (part14 A0 h0 A1 h1 A2 h2 A4 h4 I K c) $$ [HI1 H4 F7 HO]
  · isplitr; · iexact Hi
    isplitr; · iexact Hl
    isplitl [HI1]; · iexact HI1
    isplitl [H4]; · iexact H4
    isplitl [F7]; · iexact F7
    iexact HO
  iintro ⟨HI1, H4, A7, Rx0, HO⟩
  iapply (part15 A0 h0 A1 h1 A2 h2 A4 h4 I K c) $$ [HO HW Rx0 C1]
  · isplitr; · iexact Hi
    isplitr; · iexact Hl
    isplitl [HO]; · iexact HO
    isplitl [HW]; · iexact HW
    isplitl [Rx0]; · iexact Rx0
    iexact C1
  iintro ⟨HO, HW, Rx0, C1⟩
  ihave C0 := (to_any c (acS 0) _) $$ C0
  iapply (part16 A0 h0 A1 h1 A2 h2 A4 h4 I K c) $$ [C1 Sr21 T16 F8 HO]
  · isplitr; · iexact Hi
    isplitr; · iexact Hl
    isplitl [C1]; · iexact C1
    isplitl [Sr21]; · iexact Sr21
    isplitl [T16]; · iexact T16
    isplitl [F8]; · iexact F8
    iexact HO
  iintro ⟨F16, A8, Rx1, HO⟩
  iapply (part17 A0 h0 A1 h1 A2 h2 A4 h4 I K c) $$ [HO HW Rx1 C0 Sr20 T17]
  · isplitr; · iexact Hi
    isplitr; · iexact Hl
    isplitl [HO]; · iexact HO
    isplitl [HW]; · iexact HW
    isplitl [Rx1]; · iexact Rx1
    isplitl [C0]; · iexact C0
    isplitl [Sr20]; · iexact Sr20
    iexact T17
  iintro ⟨HO, HW, Rx1, F17⟩
  iapply (part18 A0 h0 A1 h1 A2 h2 A4 h4 I K c) $$ [F9 F16 HO]
  · isplitr; · iexact Hi
    isplitr; · iexact Hl
    isplitl [F9]; · iexact F9
    isplitl [F16]; · iexact F16
    iexact HO
  iintro ⟨A9, Rx2, A16, C1, HO⟩
  ihave C1 := (to_any c (acS 1) _) $$ C1
  iapply (part19 A0 h0 A1 h1 A2 h2 A4 h4 I K c) $$ [HO HW Rx2 C1 Sr19 T18]
  · isplitr; · iexact Hi
    isplitr; · iexact Hl
    isplitl [HO]; · iexact HO
    isplitl [HW]; · iexact HW
    isplitl [Rx2]; · iexact Rx2
    isplitl [C1]; · iexact C1
    isplitl [Sr19]; · iexact Sr19
    iexact T18
  iintro ⟨HO, HW, Rx2, F18⟩
  iapply (part20 A0 h0 A1 h1 A2 h2 A4 h4 I K c _) $$ [F19 HI1 H4 HO]
  · isplitr; · iexact Hi
    isplitr; · iexact Hl
    isplitl [F19]; · iexact F19
    isplitl [HI1]; · iexact HI1
    isplitl [H4]; · iexact H4
    iexact HO
  iintro ⟨A19, HI1, H4, Rr0, HO⟩
  iapply (part21 A0 h0 A1 h1 A2 h2 A4 h4 I K c) $$ [F20 F21 HI1 H4 HO]
  · isplitr; · iexact Hi
    isplitr; · iexact Hl
    isplitl [F20]; · iexact F20
    isplitl [F21]; · iexact F21
    isplitl [HI1]; · iexact HI1
    isplitl [H4]; · iexact H4
    iexact HO
  iintro ⟨A20, A21, HI1, H4, Rr1, Rr2, HO⟩
  iapply (part22 A0 h0 A1 h1 A2 h2 A4 h4 I K c) $$ [F10 HI1 H4 Rr2 HO]
  · isplitr; · iexact Hi
    isplitr; · iexact Hl
    isplitl [F10]; · iexact F10
    isplitl [HI1]; · iexact HI1
    isplitl [H4]; · iexact H4
    isplitl [Rr2]; · iexact Rr2
    iexact HO
  iintro ⟨A10, HI1, H4, Rr2, M1, HO⟩
  iapply (part23 A0 h0 A1 h1 A2 h2 A4 h4 I K c) $$ [F11 F12 F4 F5 HO]
  · isplitr; · iexact Hi
    isplitr; · iexact Hl
    isplitl [F11]; · iexact F11
    isplitl [F12]; · iexact F12
    isplitl [F4]; · iexact F4
    isplitl [F5]; · iexact F5
    iexact HO
  iintro ⟨A11, A12, A4, A5, M2, M3, X1, X2, HO⟩
  iapply (wait_one I K c 6 (by decide) (sem_x_snd 2) (by exact rfl) 0 (above_zero _)) $$ [HO F6]
  · isplitr; · iexact Hi
    isplitr; · iexact Hl
    isplitl [HO]; · iexact HO
    iexact F6
  iintro ⟨HO, A6, X3⟩
  ihave X3 := (show (dmaPay I c (6 : Fin 24).val 0 : sProp 𝕄) ⊢ xdAt I c (rot c 3) from .rfl) $$ X3
  iapply (wait_one I K c 17 (by decide) (sem_p_snd 1) (by exact rfl) 0 (above_zero _)) $$ [HO F17]
  · isplitr; · iexact Hi
    isplitr; · iexact Hl
    isplitl [HO]; · iexact HO
    iexact F17
  iintro ⟨HO, A17, C0⟩
  ihave C0 := (show (dmaPay I c (17 : Fin 24).val 0 : sProp 𝕄) ⊢ owns (c : Thread nD τ) (acS 0) fullShare (accV I c 2) from .rfl) $$ C0
  iapply (wait_one I K c 18 (by decide) (sem_p_snd 2) (by exact rfl) 0 (above_zero _)) $$ [HO F18]
  · isplitr; · iexact Hi
    isplitr; · iexact Hl
    isplitl [HO]; · iexact HO
    iexact F18
  iintro ⟨HO, A18, C1⟩
  ihave C1 := (show (dmaPay I c (18 : Fin 24).val 0 : sProp 𝕄) ⊢ owns (c : Thread nD τ) (acS 1) fullShare (accV I c 3) from .rfl) $$ C1
  ihave X0 := (slab_own I c) $$ X0
  ihave M0 := (meta_own I c) $$ M0
  ihave HX := (unturn c (fun d => xdAt I c d)) $$ [X0 X1 X2 X3]
  · isplitl [X0]; · iexact X0
    isplitl [X1]; · iexact X1
    isplitl [X2]; · iexact X2
    iexact X3
  icases HX with ⟨X0, X1, X2, X3⟩
  ihave HM := (unturn c (fun d => mdAt I c d)) $$ [M0 M1 M2 M3]
  · isplitl [M0]; · iexact M0
    isplitl [M1]; · iexact M1
    isplitl [M2]; · iexact M2
    iexact M3
  icases HM with ⟨M0, M1, M2, M3⟩
  rw [wp_ret]; imodintro
  iapply Hk
  unfold bodyPost ins anyPacked anyAcc anyLanded spentAll
  isplitl [HI0 HI1 HI2]
  · isplitl [HI0]; · iexact HI0
    isplitl [HI1]; · iexact HI1
    iexact HI2
  isplitl [H4]; · iexact H4
  isplitl [X0 X1 X2 X3 M0 M1 M2 M3]
  · isplitl [X0 X1 X2 X3]
    · isplitl [X0]; · iapply (to_any c (xdS 0) _) $$ X0
      isplitl [X1]; · iapply (to_any c (xdS 1) _) $$ X1
      isplitl [X2]; · iapply (to_any c (xdS 2) _) $$ X2
      iapply (to_any c (xdS 3) _) $$ X3
    isplitl [M0]; · iapply (to_any c (mdS 0) _) $$ M0
    isplitl [M1]; · iapply (to_any c (mdS 1) _) $$ M1
    isplitl [M2]; · iapply (to_any c (mdS 2) _) $$ M2
    iapply (to_any c (mdS 3) _) $$ M3
  isplitl [C0 C1]
  · isplitl [C0]; · iapply (to_any c (acS 0) _) $$ C0
    iapply (to_any c (acS 1) _) $$ C1
  isplitl [Rx0 Rx1 Rx2 Rm0 Rm1 Rm2 Rr0 Rr1 Rr2]
  · isplitl [Rx0 Rx1 Rx2]
    · isplitl [Rx0]; · iapply (to_any c (rxS 0) _) $$ Rx0
      isplitl [Rx1]; · iapply (to_any c (rxS 1) _) $$ Rx1
      iapply (to_any c (rxS 2) _) $$ Rx2
    isplitl [Rm0 Rm1 Rm2]
    · isplitl [Rm0]; · iapply (to_any c (rmS 0) _) $$ Rm0
      isplitl [Rm1]; · iapply (to_any c (rmS 1) _) $$ Rm1
      iapply (to_any c (rmS 2) _) $$ Rm2
    isplitl [Rr0]; · iapply (to_any c (rrS 0) _) $$ Rr0
    isplitl [Rr1]; · iapply (to_any c (rrS 1) _) $$ Rr1
    iapply (to_any c (rrS 2) _) $$ Rr2
  isplitl [HW]; · iexact HW
  isplitl [HO]; · iexact HO
  isplitl [HaB]; · iexact HaB
  isplitl [A4 A5 A6]
  · isplitl [A4]; · iexact A4
    isplitl [A5]; · iexact A5
    iexact A6
  isplitl [A7 A8 A9]
  · isplitl [A7]; · iexact A7
    isplitl [A8]; · iexact A8
    iexact A9
  isplitl [A10 A11 A12]
  · isplitl [A10]; · iexact A10
    isplitl [A11]; · iexact A11
    iexact A12
  isplitl [A13 A14 A15]
  · isplitl [A13]; · iexact A13
    isplitl [A14]; · iexact A14
    iexact A15
  isplitl [A16 A17 A18]
  · isplitl [A16]; · iexact A16
    isplitl [A17]; · iexact A17
    iexact A18
  isplitl [A19]; · iexact A19
  isplitl [A20]; · iexact A20
  iexact A21

end Cert.Moe

end
-- ==== Proof.Cells.lean ====
module

public import proofs.«01_k».proof.Proof.Body
public import Idealize.ShloMosaic.Lib.Rounds.Family

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-- Two families over a finite type, as one of pairs, -/
theorem pair {T : Type} [Fintype T] {A B : T → sProp 𝕄} :
    iprop(bigSep Finset.univ A ∗ bigSep Finset.univ B) ⊢ bigSep Finset.univ (fun c => iprop(A c ∗ B c)) :=
  Entails.of_eq (bigSep_sep' _ _ _).symm
/-- and back. -/
theorem unpair {T : Type} [Fintype T] {A B : T → sProp 𝕄} :
    bigSep Finset.univ (fun c => iprop(A c ∗ B c)) ⊢ iprop(bigSep Finset.univ A ∗ bigSep Finset.univ B) :=
  Entails.of_eq (bigSep_sep' _ _ _)

/-! ## The cells at the start and at the end -/

/-- The kernel's own semaphores: its twenty DMA cells. -/
abbrev osem (k : Fin 20) : SemLoc sig := .dma (⟨4 + k.val, by omega⟩ : Fin 24)
/-- Device `c`'s `k`-th of them. -/
abbrev dcell (c : Dev nD) (k : Fin 20) : GSem nD τ sig := cell c ⟨4 + k.val, by omega⟩

variable (I : Inp F) (K : GSem nD τ sig → ℕ) (c : Dev nD)

/-- A cell of `c`'s where it stands at first. -/
def st (n : Fin 24) : sProp 𝕄 := iprop(atPos ER (cell c n) 0 ∅ 0 ∗ reached ER (cell c n) 0)

/-- All twenty. -/
def opened : sProp 𝕄 := bigSep Finset.univ (fun k : Fin 20 => iprop(atPos ER (dcell c k) 0 ∅ 0 ∗ reached ER (dcell c k) 0))

theorem opened_list : (opened c : sProp 𝕄) = iprop(st (F := F) c 4 ∗ st (F := F) c 5 ∗ st (F := F) c 6 ∗ st (F := F) c 7 ∗ st (F := F) c 8 ∗ st (F := F) c 9 ∗ st (F := F) c 10 ∗ st (F := F) c 11 ∗ st (F := F) c 12 ∗ st (F := F) c 13 ∗ st (F := F) c 14 ∗ st (F := F) c 15 ∗ st (F := F) c 16 ∗ st (F := F) c 17 ∗ st (F := F) c 18 ∗ st (F := F) c 19 ∗ st (F := F) c 20 ∗ st (F := F) c 21 ∗ st (F := F) c 22 ∗ st (F := F) c 23) :=
  bigSep_univ_eq_bigSepL [0, 1, 2, 3, 4, 5, 6, 7, 8, 9, 10, 11, 12, 13, 14, 15, 16, 17, 18, 19] (by decide) (by decide) _

/-- How far ahead of the core that pays a duty is the device whose cell it is paid on. -/
def ahead : Fin 18 → ℕ := ![0, 0, 0, 3, 2, 1, 0, 0, 0, 3, 2, 1, 0, 0, 0, 3, 2, 1]
/-- The tokens of the duties that `c`'s copies to its peers pay: on its own cells and on theirs. -/
def sendToks : sProp 𝕄 :=
  bigSep Finset.univ (fun k : Fin 18 => dutyTok ER (cell (rot c (ahead k)) ⟨4 + k.val, by omega⟩) 0 0)

theorem sendToks_list : (sendToks c : sProp 𝕄) = iprop(dutyTok ER (cell c 4) 0 0 ∗ dutyTok ER (cell c 5) 0 0 ∗ dutyTok ER (cell c 6) 0 0 ∗ dutyTok ER (cell (rot c 3) 7) 0 0 ∗ dutyTok ER (cell (rot c 2) 8) 0 0 ∗ dutyTok ER (cell (rot c 1) 9) 0 0 ∗ dutyTok ER (cell c 10) 0 0 ∗ dutyTok ER (cell c 11) 0 0 ∗ dutyTok ER (cell c 12) 0 0 ∗ dutyTok ER (cell (rot c 3) 13) 0 0 ∗ dutyTok ER (cell (rot c 2) 14) 0 0 ∗ dutyTok ER (cell (rot c 1) 15) 0 0 ∗ dutyTok ER (cell c 16) 0 0 ∗ dutyTok ER (cell c 17) 0 0 ∗ dutyTok ER (cell c 18) 0 0 ∗ dutyTok ER (cell (rot c 3) 19) 0 0 ∗ dutyTok ER (cell (rot c 2) 20) 0 0 ∗ dutyTok ER (cell (rot c 1) 21) 0 0) := by
  refine (bigSep_univ_eq_bigSepL [0, 1, 2, 3, 4, 5, 6, 7, 8, 9, 10, 11, 12, 13, 14, 15, 16, 17] (by decide) (by decide) _).trans ?_
  have h : rot c (ahead 0) = c := rot_zero c
  show iprop(dutyTok ER (cell (rot c 0) 4) 0 0 ∗ dutyTok ER (cell (rot c 0) 5) 0 0 ∗ dutyTok ER (cell (rot c 0) 6) 0 0 ∗ _ ∗ _ ∗ _
    ∗ dutyTok ER (cell (rot c 0) 10) 0 0 ∗ dutyTok ER (cell (rot c 0) 11) 0 0 ∗ dutyTok ER (cell (rot c 0) 12) 0 0 ∗ _ ∗ _ ∗ _
    ∗ dutyTok ER (cell (rot c 0) 16) 0 0 ∗ dutyTok ER (cell (rot c 0) 17) 0 0 ∗ dutyTok ER (cell (rot c 0) 18) 0 0 ∗ _) = _
  rw [rot_zero]
  rfl

/-- The tokens of `c`'s three barrier signals. -/
def barToks : sProp 𝕄 := bigSep Finset.univ (fun k : Fin 3 => dutyTok ER (bar (rot c (k.val + 1))) 0 k.succ)

theorem barToks_list : (barToks c : sProp 𝕄)
    = iprop(dutyTok ER (bar (rot c 1)) 0 1 ∗ dutyTok ER (bar (rot c 2)) 0 2 ∗ dutyTok ER (bar (rot c 3)) 0 3) :=
  bigSep_univ_eq_bigSepL [0, 1, 2] (by decide) (by decide) _

/-- Round 0 of every peer's barrier cell is reached. -/
def barOpen : sProp 𝕄 := iprop(reached ER (bar (rot c 1)) 0 ∗ reached ER (bar (rot c 2)) 0 ∗ reached ER (bar (rot c 3)) 0)

/-- The credit of the units the peers owe on `c`'s cells. -/
def dues : sProp 𝕄 := iprop(cred (tallyAt (bar c) () 3) ∗ cred (tallyAt (cell c 7) () (amt 7)) ∗ cred (tallyAt (cell c 8) () (amt 8)) ∗ cred (tallyAt (cell c 9) () (amt 9)) ∗ cred (tallyAt (cell c 13) () (amt 13)) ∗ cred (tallyAt (cell c 14) () (amt 14)) ∗ cred (tallyAt (cell c 15) () (amt 15)) ∗ cred (tallyAt (cell c 19) () (amt 19)) ∗ cred (tallyAt (cell c 20) () (amt 20)) ∗ cred (tallyAt (cell c 21) () (amt 21)))

/-- The rights to open the twenty. -/
def closedToks : sProp 𝕄 := bigSep Finset.univ (fun k : Fin 20 => openTok ER (dcell c k))

/-- What is common to both: the invariants, the barrier's place, and every token. -/
def carry : sProp 𝕄 :=
  iprop(allInv I K ∗ atPos ER (bar c) 0 ∅ 0 ∗ barOpen c ∗ barToks c ∗ sendToks c ∗ bigSep (Finset.Ico 0 32) (wTok c) ∗ dues c)

/-- What a core brings to the kernel from launch. -/
def Tk : sProp 𝕄 := iprop(∃ K, carry I K c ∗ closedToks c)
/-- The same, its cells opened. -/
def Xk : sProp 𝕄 := iprop(∃ K, carry I K c ∗ opened c ∗ levAts L lv)

theorem inv_cells : allInv I K ⊢ bigSep Finset.univ (fun k : Fin 20 => (cellInv ER (Rd I) (K (dcell c k)) (dcell c k) : sProp 𝕄)) := by
  refine (bigSep_subset (t := Finset.univ.map ⟨dcell c, fun a b h => (Prod.mk.inj (cell_inj (a₁ := (c, a)) (a₂ := (c, b)) h)).2⟩) ?_).trans
    (Entails.of_eq (bigSep_map _))
  intro g hg
  obtain ⟨k, -, rfl⟩ := Finset.mem_map.mp hg
  exact Finset.mem_union_right _ (mem_cell c _ (by simp))

/-- The twenty counters at zero. -/
theorem sems_list : (Pipeline.ownSems0 osem c : sProp 𝕄) = bigSep Finset.univ (fun k : Fin 20 => (semVal (dcell c k) 0 : sProp 𝕄)) := rfl

/-- The cells opened. -/
theorem open_cells : iprop(Tk I c ∗ Pipeline.ownSems0 osem c ∗ levAts L lv) ⊢ (|={Set.univ}=> Xk I c : sProp 𝕄) := by
  unfold Tk Xk carry closedToks
  iintro ⟨⟨%K, ⟨#Hi, Hc⟩, Ho⟩, Hs, Hl⟩
  ihave #Hk := (inv_cells I K c) $$ Hi
  imod (Rounds.cells_open ER (Rd I) Finset.univ (dcell c) (fun k => K (dcell c k)) (Es := Set.univ) (fun _ _ => Set.mem_univ _)) $$ [Ho Hs] with Hat
  · isplitl [Ho]
    · iapply pair
      isplitr; · iexact Hk
      iexact Ho
    · iapply (Entails.of_eq (sems_list c)) $$ Hs
  imodintro
  iexists K
  isplitl [Hc]
  · isplitr; · iexact Hi
    iexact Hc
  isplitl [Hat]; · unfold opened; iexact Hat
  iexact Hl

/-- The round each of the twenty ends at. -/
def endRound (k : Fin 20) : ℕ := if k.val < 18 then 1 else 16

theorem ends_list : bigSep Finset.univ (fun k : Fin 20 => (atPos ER (dcell c k) (endRound k) ∅ 0 : sProp 𝕄))
    = iprop(atPos ER (cell c 4) 1 ∅ 0 ∗ atPos ER (cell c 5) 1 ∅ 0 ∗ atPos ER (cell c 6) 1 ∅ 0 ∗ atPos ER (cell c 7) 1 ∅ 0 ∗ atPos ER (cell c 8) 1 ∅ 0 ∗ atPos ER (cell c 9) 1 ∅ 0 ∗ atPos ER (cell c 10) 1 ∅ 0 ∗ atPos ER (cell c 11) 1 ∅ 0 ∗ atPos ER (cell c 12) 1 ∅ 0 ∗ atPos ER (cell c 13) 1 ∅ 0 ∗ atPos ER (cell c 14) 1 ∅ 0 ∗ atPos ER (cell c 15) 1 ∅ 0 ∗ atPos ER (cell c 16) 1 ∅ 0 ∗ atPos ER (cell c 17) 1 ∅ 0 ∗ atPos ER (cell c 18) 1 ∅ 0 ∗ atPos ER (cell c 19) 1 ∅ 0 ∗ atPos ER (cell c 20) 1 ∅ 0 ∗ atPos ER (cell c 21) 1 ∅ 0 ∗ atPos ER (cell c 22) 16 ∅ 0 ∗ atPos ER (cell c 23) 16 ∅ 0) :=
  bigSep_univ_eq_bigSepL [0, 1, 2, 3, 4, 5, 6, 7, 8, 9, 10, 11, 12, 13, 14, 15, 16, 17, 18, 19] (by decide) (by decide) _

/-- The cells closed. -/
theorem close_cells : iprop(allInv I K ∗ atPos ER (bar c) 1 ∅ 0 ∗ bigSep Finset.univ (fun k : Fin 20 => (atPos ER (dcell c k) (endRound k) ∅ 0 : sProp 𝕄)))
    ⊢ (|={Set.univ}=> iprop(semVal (bar c) 0 ∗ Pipeline.ownSems0 osem c) : sProp 𝕄) := by
  rw [sems_list]
  iintro ⟨#Hi, Hb, Hd⟩
  ihave #Hk := (inv_cells I K c) $$ Hi
  imod (Rounds.cell_close ER (Rd I) (κ := K (bar c)) (g := bar c) (R := 1) (Es := Set.univ) (Set.mem_univ _) (fun h => h) (fun r hr => duties_bar_later I c r hr)) $$ [Hb] with Hv
  · isplitr; · iapply (inv_bar I K c); iexact Hi
    iexact Hb
  imod (Rounds.cells_close ER (Rd I) Finset.univ (dcell c) (fun k => K (dcell c k)) (Es := Set.univ) (fun _ _ => Set.mem_univ _)
      (fun _ _ h => h) endRound (fun k _ r hr => by
        unfold endRound at hr
        split at hr
        · exact duties_dma_later I c _ (by simp only; omega) r hr
        · exact duties_w_later I c _ (by simp only; omega) r hr)) $$ [Hd] with Hs
  · iapply pair
    isplitr; · iexact Hk
    iexact Hd
  imodintro
  isplitl [Hv]; · iexact Hv
  iexact Hs

end Cert.Moe

end
-- ==== Proof.Gather.lean ====
module

public import proofs.«01_k».proof.Proof.Cells

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (I : Inp F) (K : GSem nD τ sig → ℕ) (c : Dev nD)

/-! ## The scratch buffers and their slabs -/

section Any
variable {n a b : ℕ} {e : EltTy} {sp : Space} (m : Memref sig .tc sp ⟨3, ![n, a, b]⟩ e)

/-- A buffer at any contents is its slabs at any contents, -/
theorem any_split : anyS (F := F) c m ⊢ bigSep Finset.univ (fun d : Fin n => anyS (F := F) c (m.slice (slabR d) (fun _ => rfl))) := by
  unfold anyS
  iintro ⟨%X, H⟩
  ihave H' := (slabs_split c m X) $$ H
  have h : bigSep Finset.univ (fun d : Fin n => (owns (c : Thread nD τ) (m.slice (slabR d) (fun _ => rfl)) fullShare (fun j => X ((slabR d).emb j)) : sProp 𝕄))
      ⊢ bigSep Finset.univ (fun d : Fin n => iprop(∃ Y, owns (c : Thread nD τ) (m.slice (slabR d) (fun _ => rfl)) fullShare Y)) :=
    bigSep_mono fun d _ => to_any c (m.slice (slabR d) (fun _ => rfl)) (fun j => X ((slabR d).emb j))
  iapply h $$ H'
/-- and back. -/
theorem any_join : bigSep Finset.univ (fun d : Fin n => anyS (F := F) c (m.slice (slabR d) (fun _ => rfl))) ⊢ anyS (F := F) c m :=
  slabs_join c m
/-- A whole buffer held at any contents. -/
theorem any_whole (b : Ref sig .tc) : (anyS (F := F) c (Memref.whole b) : sProp 𝕄)
    = iprop(∃ f : Buf (Elt F) ((c : Thread nD τ).loc b), ((c : Thread nD τ).loc b) ↦{fullShare} f) := by
  unfold anyS
  exact congrArg _ (funext fun f => owns_whole (c : Thread nD τ) b fullShare f)
end Any

theorem splitXD : anyS (F := F) c XD ⊢ iprop(anyS (F := F) c (xdS 0) ∗ anyS (F := F) c (xdS 1) ∗ anyS (F := F) c (xdS 2) ∗ anyS (F := F) c (xdS 3)) :=
  (any_split c XD).trans (Entails.of_eq (bigSep_univ_eq_bigSepL [0, 1, 2, 3] (by decide) (by decide) _))
theorem joinXD : iprop(anyS (F := F) c (xdS 0) ∗ anyS (F := F) c (xdS 1) ∗ anyS (F := F) c (xdS 2) ∗ anyS (F := F) c (xdS 3)) ⊢ anyS (F := F) c XD :=
  (Entails.of_eq (bigSep_univ_eq_bigSepL [0, 1, 2, 3] (by decide) (by decide) (fun d => anyS (F := F) c (xdS d))).symm).trans (any_join c XD)
theorem splitMD : anyS (F := F) c MD ⊢ iprop(anyS (F := F) c (mdS 0) ∗ anyS (F := F) c (mdS 1) ∗ anyS (F := F) c (mdS 2) ∗ anyS (F := F) c (mdS 3)) :=
  (any_split c MD).trans (Entails.of_eq (bigSep_univ_eq_bigSepL [0, 1, 2, 3] (by decide) (by decide) _))
theorem joinMD : iprop(anyS (F := F) c (mdS 0) ∗ anyS (F := F) c (mdS 1) ∗ anyS (F := F) c (mdS 2) ∗ anyS (F := F) c (mdS 3)) ⊢ anyS (F := F) c MD :=
  (Entails.of_eq (bigSep_univ_eq_bigSepL [0, 1, 2, 3] (by decide) (by decide) (fun d => anyS (F := F) c (mdS d))).symm).trans (any_join c MD)
theorem splitRX : anyS (F := F) c RX ⊢ iprop(anyS (F := F) c (rxS 0) ∗ anyS (F := F) c (rxS 1) ∗ anyS (F := F) c (rxS 2)) :=
  (any_split c RX).trans (Entails.of_eq (bigSep_univ_eq_bigSepL [0, 1, 2] (by decide) (by decide) _))
theorem joinRX : iprop(anyS (F := F) c (rxS 0) ∗ anyS (F := F) c (rxS 1) ∗ anyS (F := F) c (rxS 2)) ⊢ anyS (F := F) c RX :=
  (Entails.of_eq (bigSep_univ_eq_bigSepL [0, 1, 2] (by decide) (by decide) (fun d => anyS (F := F) c (rxS d))).symm).trans (any_join c RX)
theorem splitRM : anyS (F := F) c RM ⊢ iprop(anyS (F := F) c (rmS 0) ∗ anyS (F := F) c (rmS 1) ∗ anyS (F := F) c (rmS 2)) :=
  (any_split c RM).trans (Entails.of_eq (bigSep_univ_eq_bigSepL [0, 1, 2] (by decide) (by decide) _))
theorem joinRM : iprop(anyS (F := F) c (rmS 0) ∗ anyS (F := F) c (rmS 1) ∗ anyS (F := F) c (rmS 2)) ⊢ anyS (F := F) c RM :=
  (Entails.of_eq (bigSep_univ_eq_bigSepL [0, 1, 2] (by decide) (by decide) (fun d => anyS (F := F) c (rmS d))).symm).trans (any_join c RM)
theorem splitRR : anyS (F := F) c RR ⊢ iprop(anyS (F := F) c (rrS 0) ∗ anyS (F := F) c (rrS 1) ∗ anyS (F := F) c (rrS 2)) :=
  (any_split c RR).trans (Entails.of_eq (bigSep_univ_eq_bigSepL [0, 1, 2] (by decide) (by decide) _))
theorem joinRR : iprop(anyS (F := F) c (rrS 0) ∗ anyS (F := F) c (rrS 1) ∗ anyS (F := F) c (rrS 2)) ⊢ anyS (F := F) c RR :=
  (Entails.of_eq (bigSep_univ_eq_bigSepL [0, 1, 2] (by decide) (by decide) (fun d => anyS (F := F) c (rrS d))).symm).trans (any_join c RR)
theorem splitAC : anyS (F := F) c AC ⊢ iprop(anyS (F := F) c (acS 0) ∗ anyS (F := F) c (acS 1)) :=
  (any_split c AC).trans (Entails.of_eq (bigSep_univ_eq_bigSepL [0, 1] (by decide) (by decide) _))
theorem joinAC : iprop(anyS (F := F) c (acS 0) ∗ anyS (F := F) c (acS 1)) ⊢ anyS (F := F) c AC :=
  (Entails.of_eq (bigSep_univ_eq_bigSepL [0, 1] (by decide) (by decide) (fun d => anyS (F := F) c (acS d))).symm).trans (any_join c AC)
theorem splitWV : anyS (F := F) c WV ⊢ iprop(anyS (F := F) c (wvS 0) ∗ anyS (F := F) c (wvS 1)) :=
  (any_split c WV).trans (Entails.of_eq (bigSep_univ_eq_bigSepL [0, 1] (by decide) (by decide) _))
theorem joinWV : iprop(anyS (F := F) c (wvS 0) ∗ anyS (F := F) c (wvS 1)) ⊢ anyS (F := F) c WV :=
  (Entails.of_eq (bigSep_univ_eq_bigSepL [0, 1] (by decide) (by decide) (fun d => anyS (F := F) c (wvS d))).symm).trans (any_join c WV)

/-- The seven scratch buffers, slab by slab, whatever they hold. -/
def scratch : sProp 𝕄 :=
  iprop(anyPacked (F := F) c ∗ anyAcc (F := F) c ∗ anyLanded (F := F) c ∗ wBuf (F := F) c 0 ∗ wBuf (F := F) c 1)

theorem scoped_eq : (Pipeline.scopedRest (Ix := Unit) (Name := ℕ) (U := UU) (Lvl := ℕ) (Val := Elt F) spec0 c : sProp 𝕄) = iprop(anyS (F := F) c XD ∗ anyS (F := F) c MD ∗ anyS (F := F) c RX ∗ anyS (F := F) c RM ∗ anyS (F := F) c RR ∗ anyS (F := F) c AC ∗ anyS (F := F) c WV) := by
  rw [scopedRest0_eq c]
  simp only [any_whole]

theorem scratch_split : (Pipeline.scopedRest (Ix := Unit) (Name := ℕ) (U := UU) (Lvl := ℕ) (Val := Elt F) spec0 c : sProp 𝕄) ⊢ scratch c := by
  rw [scoped_eq]
  refine (BIClass.sep_mono (splitXD c) <| BIClass.sep_mono (splitMD c) <| BIClass.sep_mono (splitRX c) <| BIClass.sep_mono (splitRM c) <| BIClass.sep_mono (splitRR c) <|
    BIClass.sep_mono (splitAC c) (splitWV c)).trans ?_
  unfold scratch anyPacked anyAcc anyLanded
  iintro ⟨H0, H1, H2, H3, H4, H5, ⟨H6, H7⟩⟩
  isplitl [H0 H1]; · isplitl [H0] <;> iassumption
  isplitl [H5]; · iexact H5
  isplitl [H2 H3 H4]
  · isplitl [H2]; · iexact H2
    isplitl [H3] <;> iassumption
  isplitl [H6]; · iapply (show anyS (F := F) c (wvS 0) ⊢ wBuf (F := F) c 0 from .rfl) $$ H6
  iapply (show anyS (F := F) c (wvS 1) ⊢ wBuf (F := F) c 1 from .rfl) $$ H7

theorem scratch_join : scratch c ⊢ (Pipeline.scopedRest (Ix := Unit) (Name := ℕ) (U := UU) (Lvl := ℕ) (Val := Elt F) spec0 c : sProp 𝕄) := by
  rw [scoped_eq]
  refine BIClass.entails_trans ?_ (BIClass.sep_mono (joinXD c) <| BIClass.sep_mono (joinMD c) <| BIClass.sep_mono (joinRX c) <| BIClass.sep_mono (joinRM c) <| BIClass.sep_mono (joinRR c) <|
    BIClass.sep_mono (joinAC c) (joinWV c))
  unfold scratch anyPacked anyAcc anyLanded
  iintro ⟨⟨H0, H1⟩, H5, ⟨H2, H3, H4⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iapply (show wBuf (F := F) c 0 ⊢ anyS (F := F) c (wvS 0) from .rfl) $$ H6
  iapply (show wBuf (F := F) c 1 ⊢ anyS (F := F) c (wvS 1) from .rfl) $$ H7

/-- The weights expert by expert, -/
theorem weights_split : (owns (c : Thread nD τ) WH fullShare (I.w c) : sProp 𝕄) ⊢ wRest I c Finset.univ := slabs_split c WH (I.w c)
/-- and back. -/
theorem weights_join : wRest I c Finset.univ ⊢ (owns (c : Thread nD τ) WH fullShare (I.w c) : sProp 𝕄) :=
  owns_of_rects (c : Thread nD τ) WH fullShare (slabR (n := 8) (a := 1024) (b := 1024)) (fun _ _ => rfl) slab_disjoint slab_cover (I.w c)

/-- Everything a core holds, put in the order its body takes it. -/
theorem gather : iprop(carry I K c ∗ opened c ∗ anyLanded (F := F) c ∗ wBuf (F := F) c 0 ∗ wBuf (F := F) c 1 ∗ wRest I c Finset.univ)
    ⊢ iprop(allInv I K ∗ (barPay c 0 ∗ barPay c 1 ∗ barPay c 2) ∗ wIdle I c 0 ∗ barStart (F := F) c ∗ freshRcv (F := F) c ∗ toSendAll (F := F) c) := by
  unfold carry dues barOpen anyLanded
  rw [opened_list, sendToks_list, barToks_list]
  unfold st
  iintro ⟨⟨#Hi, AB, ⟨#RB1, #RB2, #RB3⟩, ⟨TB1, TB2, TB3⟩, ⟨T4, T5, T6, T7, T8, T9, T10, T11, T12, T13, T14, T15, T16, T17, T18, T19, T20, T21⟩, TW, CB, C7, C8, C9, C13, C14, C15, C19, C20, C21⟩, ⟨⟨A4, #R4⟩, ⟨A5, #R5⟩, ⟨A6, #R6⟩, ⟨A7, #R7⟩, ⟨A8, #R8⟩, ⟨A9, #R9⟩, ⟨A10, #R10⟩, ⟨A11, #R11⟩, ⟨A12, #R12⟩, ⟨A13, #R13⟩, ⟨A14, #R14⟩, ⟨A15, #R15⟩, ⟨A16, #R16⟩, ⟨A17, #R17⟩, ⟨A18, #R18⟩, ⟨A19, #R19⟩, ⟨A20, #R20⟩, ⟨A21, #R21⟩, ⟨A22, #R22⟩, ⟨A23, #R23⟩⟩,
    ⟨⟨RX0, RX1, RX2⟩, ⟨RM0, RM1, RM2⟩, ⟨RR0, RR1, RR2⟩⟩, B0, B1, HW⟩
  isplitr; · iexact Hi
  isplitl [RX0 RX1 RX2 RM0 RM1 RM2 RR0 RR1 RR2]
  · isplitl [RX0 RM0 RR0]
    · iapply (barPay_close c 0)
      unfold slot
      isplitl [RM0]
      · isplitl [RM0]; · iexact RM0
        iexact R13
      isplitl [RX0]
      · isplitl [RX0]; · iexact RX0
        iexact R7
      · isplitl [RR0]; · iexact RR0
        iexact R19
    isplitl [RX1 RM1 RR1]
    · iapply (barPay_close c 1)
      unfold slot
      isplitl [RM1]
      · isplitl [RM1]; · iexact RM1
        iexact R14
      isplitl [RX1]
      · isplitl [RX1]; · iexact RX1
        iexact R8
      · isplitl [RR1]; · iexact RR1
        iexact R20
    · iapply (barPay_close c 2)
      unfold slot
      isplitl [RM2]
      · isplitl [RM2]; · iexact RM2
        iexact R15
      isplitl [RX2]
      · isplitl [RX2]; · iexact RX2
        iexact R9
      · isplitl [RR2]; · iexact RR2
        iexact R21
  isplitl [A22 A23 B0 B1 HW TW]
  · unfold wIdle wPos
    isplitl [A22 A23]
    · isplitl [A22]; · iexact A22
      isplitr; · iexact R22
      isplitl [A23]; · iexact A23
      iexact R23
    isplitl [B0]; · iexact B0
    isplitl [B1]; · iexact B1
    isplitl [HW]; · iexact HW
    iexact TW
  isplitl [CB AB TB1 TB2 TB3]
  · unfold barStart
    isplitl [CB]; · iexact CB
    isplitl [AB]; · iexact AB
    isplitl [TB1]; · iexact TB1
    isplitl [TB2]; · iexact TB2
    isplitl [TB3]; · iexact TB3
    isplitr; · iexact RB1
    isplitr; · iexact RB2
    iexact RB3
  isplitl [C7 A7 C8 A8 C9 A9 C13 A13 C14 A14 C15 A15 C19 A19 C20 A20 C21 A21]
  · unfold freshRcv fresh
    isplitl [C7 A7 C8 A8 C9 A9]
    · isplitl [C7 A7]
      · isplitl [C7]; · iexact C7
        iexact A7
      isplitl [C8 A8]
      · isplitl [C8]; · iexact C8
        iexact A8
      isplitl [C9]; · iexact C9
      iexact A9
    isplitl [C13 A13 C14 A14 C15 A15]
    · isplitl [C13 A13]
      · isplitl [C13]; · iexact C13
        iexact A13
      isplitl [C14 A14]
      · isplitl [C14]; · iexact C14
        iexact A14
      isplitl [C15]; · iexact C15
      iexact A15
    isplitl [C19 A19]
    · isplitl [C19]; · iexact C19
      iexact A19
    isplitl [C20 A20]
    · isplitl [C20]; · iexact C20
      iexact A20
    isplitl [C21]; · iexact C21
    iexact A21
  unfold toSendAll toSend
  isplitl [A4 T4 T9 A5 T5 T8 A6 T6 T7]
  · isplitl [A4 T4 T9]
    · isplitl [A4]; · iexact A4
      isplitl [T4]; · iexact T4
      isplitr; · iexact R4
      iexact T9
    isplitl [A5 T5 T8]
    · isplitl [A5]; · iexact A5
      isplitl [T5]; · iexact T5
      isplitr; · iexact R5
      iexact T8
    isplitl [A6]; · iexact A6
    isplitl [T6]; · iexact T6
    isplitr; · iexact R6
    iexact T7
  isplitl [A10 T10 T15 A11 T11 T14 A12 T12 T13]
  · isplitl [A10 T10 T15]
    · isplitl [A10]; · iexact A10
      isplitl [T10]; · iexact T10
      isplitr; · iexact R10
      iexact T15
    isplitl [A11 T11 T14]
    · isplitl [A11]; · iexact A11
      isplitl [T11]; · iexact T11
      isplitr; · iexact R11
      iexact T14
    isplitl [A12]; · iexact A12
    isplitl [T12]; · iexact T12
    isplitr; · iexact R12
    iexact T13
  isplitl [A16 T16 T21]
  · isplitl [A16]; · iexact A16
    isplitl [T16]; · iexact T16
    isplitr; · iexact R16
    iexact T21
  isplitl [A17 T17 T20]
  · isplitl [A17]; · iexact A17
    isplitl [T17]; · iexact T17
    isplitr; · iexact R17
    iexact T20
  isplitl [A18]; · iexact A18
  isplitl [T18]; · iexact T18
  isplitr; · iexact R18
  iexact T19

/-- The places of the twenty cells at the end, from what the body leaves. -/
theorem places : iprop(spentAll (F := F) c ∗ wPos (F := F) c 32)
    ⊢ bigSep Finset.univ (fun k : Fin 20 => (atPos ER (dcell c k) (endRound k) ∅ 0 : sProp 𝕄)) := by
  rw [ends_list]
  unfold spentAll spent wPos
  iintro ⟨⟨⟨A4, A5, A6⟩, ⟨A7, A8, A9⟩, ⟨A10, A11, A12⟩, ⟨A13, A14, A15⟩, ⟨A16, A17, A18⟩, ⟨A19, A20, A21⟩⟩, A22, -, A23, -⟩
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  iexact A23

variable (A0 : Memref sig .tc .vmem S2048x1024 .bf16) (h0 : A0.IsWhole) (A1 : Memref sig .tc .vmem S4x2048 .f32) (h1 : A1.IsWhole)
variable (A2 : Memref sig .tc .vmem S2048x2 .f32) (h2 : A2.IsWhole) (A4 : Memref sig .tc .vmem S2048x1024 .f32) (h4 : A4.IsWhole)

/-- What the kernel's one point is entered with, beside the staged arrays, -/
def enter : sProp 𝕄 := iprop(Xk I c ∗ scratch (F := F) c ∗ owns (c : Thread nD τ) WH fullShare (I.w c))
/-- and what it leaves: every counter at zero. -/
def leave : sProp 𝕄 :=
  iprop((semVal (bar c) 0 ∗ Pipeline.ownSems0 osem c) ∗ scratch (F := F) c ∗ owns (c : Thread nD τ) WH fullShare (I.w c))

/-- The body run whole, its cells closed behind it. -/
theorem body_closed {Q : PUnit → sProp 𝕄} : iprop(enter I c ∗ ins A0 A1 A2 I c ∗ anyS (F := F) c A4 ∗ owe (F := F) c (O₀ c))
    ⊢ iprop((iprop(leave I c ∗ ins A0 A1 A2 I c ∗ owns (c : Thread nD τ) A4 fullShare (outV I c) ∗ owe (F := F) c 0) -∗ Q ⟨⟩)
      -∗ wp frame (wpE (defs₀ (F := F)) 𝒱₀ c none) Set.univ (cc0_body (F := F) A0 h0 A1 h1 A2 h2 WH (Memref.isWhole_whole _) A4 h4 XD (Memref.isWhole_whole _) MD (Memref.isWhole_whole _) RX (Memref.isWhole_whole _) RM (Memref.isWhole_whole _) RR (Memref.isWhole_whole _) AC (Memref.isWhole_whole _) WV (Memref.isWhole_whole _) cc0_scratch7 cc0_scratch8 cc0_scratch9 cc0_scratch10 cc0_scratch11 cc0_scratch12 cc0_scratch13) Q) := by
  unfold enter leave Xk scratch
  iintro ⟨⟨⟨%K, HC, HO, #HL⟩, ⟨HP, HA, HN, HB0, HB1⟩, HW⟩, Hin, H4, Howe⟩ Hk
  ihave HW := (weights_split I c) $$ HW
  ihave HG := (gather I K c) $$ [HC HO HN HB0 HB1 HW]
  · isplitl [HC]; · iexact HC
    isplitl [HO]; · iexact HO
    isplitl [HN]; · iexact HN
    isplitl [HB0]; · iexact HB0
    isplitl [HB1]; · iexact HB1
    iexact HW
  icases HG with ⟨#Hi, Hpay, HI, HBS, HF, HT⟩
  iapply (wp_fupd)
  iapply (body_run A0 h0 A1 h1 A2 h2 A4 h4 I K c) $$ [HP HA Hin H4 Howe Hpay HI HBS HF HT]
  · unfold bodyPre
    isplitr; · iexact Hi
    isplitr; · iexact HL
    isplitl [Hin]; · iexact Hin
    isplitl [H4]; · iexact H4
    isplitl [HP]; · iexact HP
    isplitl [HA]; · iexact HA
    isplitl [Hpay]; · iexact Hpay
    isplitl [HI]; · iexact HI
    isplitl [Howe]; · iexact Howe
    isplitl [HBS]; · iexact HBS
    isplitl [HF]; · iexact HF
    iexact HT
  unfold bodyPost wIdle
  iintro ⟨Hin, H4, HP, HA, HN, ⟨HWP, HB0, HB1, HW, -⟩, Howe, HB, HS⟩
  imod (close_cells I K c) $$ [HB HS HWP] with Hz
  · isplitr; · iexact Hi
    isplitl [HB]; · iexact HB
    iapply (places c)
    isplitl [HS]; · iexact HS
    iexact HWP
  imodintro
  iapply Hk
  isplitr [Hin H4 Howe]
  · isplitl [Hz]; · iexact Hz
    isplitr [HW]
    · isplitl [HP]; · iexact HP
      isplitl [HA]; · iexact HA
      isplitl [HN]; · iexact HN
      isplitl [HB0]; · iexact HB0
      iexact HB1
    iapply (weights_join I c) $$ HW
  isplitl [Hin]; · iexact Hin
  isplitl [H4]; · iexact H4
  iexact Howe

end Cert.Moe

end
-- ==== Proof.Region.lean ====
module

public import proofs.«01_k».proof.Proof.Gather
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## The kernel's one point as a region of the program -/

/-- What the kernel is entered with: the arrays the host operations before it leave. -/
def inp : Inp F where
  x c := V23 m c main_v22
  p c := V23 m c main_v68
  l c := V23 m c main_v27
  w c := V23 m c main_v69

/-- What it leaves in the buffers it may write: its result, and the weights as they were. -/
def outs : Outs (F := F) := fun _ r c => Function.update (fun r : Ref sig .tc => V23 m c r) main_v70 (outV (inp m) c) r

/-- Each device's buffers when the kernel has ended. -/
abbrev VN (c : Dev nD) : Valuation τ sig (Elt F) := V24 m (outs m) c

theorem outs_v70 (J : ℕ) : outs m J main_v70 c = outV (inp m) c := Function.update_self _ _ _
theorem outs_v69 (J : ℕ) : outs m J main_v69 c = V23 m c main_v69 :=
  Function.update_of_ne (show (main_v69 : Ref sig .tc) ≠ main_v70 by decide) _ _

theorem VN_v70 : VN m c main_v70 = outV (inp m) c := by
  unfold VN V24
  rw [Function.update_of_ne (by decide), Function.update_self, outs_v70]
theorem VN_v69 : VN m c main_v69 = V23 m c main_v69 := by
  unfold VN V24
  rw [Function.update_self, outs_v69]
theorem VN_w : VN m c main_v69 = (inp m).w c := by rw [VN_v69]; rfl

/-- The kernel's staged arrays at entry and at exit, what is held at its two ends, and what is owed. -/
def dat0 (c : Dev nD) : Dat τ (Elt F) Unit ℕ UU ℕ (cfg0) c where
  A w := match w with
    | 0 => V23 m c main_v22 | 1 => V23 m c main_v68 | 2 => V23 m c main_v27 | 3 => V23 m c main_v70
    | ⟨_ + 4, h⟩ => absurd h (Nat.not_lt.2 (Nat.le_add_left _ _))
  after w _ := match w with
    | 0 => V23 m c main_v22 | 1 => V23 m c main_v68 | 2 => V23 m c main_v27 | 3 => outV (inp m) c
    | ⟨_ + 4, h⟩ => absurd h (Nat.not_lt.2 (Nat.le_add_left _ _))
  Φ t := if t.val = 0 then iprop(enter (inp m) c ∗ ∃ r, prngReg c r) else iprop(leave (inp m) c ∗ ∃ r, prngReg c r)
  q _ := fullShare
  owed t := if t.val = 0 then O₀ c else 0

def pdats : (p : Fin 1) → (c : Dev nD) → Dat τ (Elt F) Unit ℕ UU ℕ (cfgs p) c
  | 0 => dat0 m

theorem owed_first : (dat0 m c).owed t0_0.castSucc = O₀ c :=
  (if_pos rfl : (if (0 : ℕ) = 0 then O₀ c else 0) = O₀ c)
theorem owed_zero : (pdats m 0 c).owed 0 = O₀ c :=
  (if_pos rfl : (if (0 : ℕ) = 0 then O₀ c else 0) = O₀ c)
theorem owed_last : (pdats m 0 c).owed (Fin.last _) = 0 :=
  (if_neg Nat.one_ne_zero : (if (1 : ℕ) = 0 then O₀ c else 0) = 0)

theorem owes_in (t : Fin (cfg0.N + 1)) (O : CellTallies nD τ sig Unit) (h : (dat0 m c).owed t = O) :
    owe c O ⊢ ((dat0 m c).owesAt () t : sProp 𝕄) := by
  unfold owe Dat.owesAt Pipeline.owesWithin Dat.bound
  rw [h, show (dat0 m c).recorded t = Set.univ from rfl]
  iintro ⟨%W, HO⟩
  iexists W
  isplitr; · ipureintro; exact fun _ _ => Or.inl trivial
  iexact HO
theorem owes_out (t : Fin (cfg0.N + 1)) (O : CellTallies nD τ sig Unit) (h : (dat0 m c).owed t = O) :
    ((dat0 m c).owesAt () t : sProp 𝕄) ⊢ owe c O := by
  unfold owe Dat.owesAt Pipeline.owesWithin
  rw [h]
  iintro ⟨%W, -, HO⟩
  iexists W; iexact HO

/-- The one block of each staged array is the array. -/
theorem read_x (f : Buf (Elt F) ((c : Thread nD τ).loc main_v22)) : (win0_0.blk t0_0).view.read (Elt F) f = f :=
  Memref.read_access_unit_zero (Elt F) main_v22
    (show (fun a => (win0_0.index t0_0) a * main_v22.ty.shape.size a) = fun _ => 0 from funext fun a => by fin_cases a <;> decide)
    (fun a => by fin_cases a <;> decide) f
theorem read_p (f : Buf (Elt F) ((c : Thread nD τ).loc main_v68)) : (win0_1.blk t0_0).view.read (Elt F) f = f :=
  Memref.read_access_unit_zero (Elt F) main_v68
    (show (fun a => (win0_1.index t0_0) a * main_v68.ty.shape.size a) = fun _ => 0 from funext fun a => by fin_cases a <;> decide)
    (fun a => by fin_cases a <;> decide) f
theorem read_l (f : Buf (Elt F) ((c : Thread nD τ).loc main_v27)) : (win0_2.blk t0_0).view.read (Elt F) f = f :=
  Memref.read_access_unit_zero (Elt F) main_v27
    (show (fun a => (win0_2.index t0_0) a * main_v27.ty.shape.size a) = fun _ => 0 from funext fun a => by fin_cases a <;> decide)
    (fun a => by fin_cases a <;> decide) f
theorem read_o (f : Buf (Elt F) ((c : Thread nD τ).loc main_v70)) : (win0_3.blk t0_0).view.read (Elt F) f = f :=
  Memref.read_access_unit_zero (Elt F) main_v70
    (show (fun a => (win0_3.index t0_0) a * main_v70.ty.shape.size a) = fun _ => 0 from funext fun a => by fin_cases a <;> decide)
    (fun a => by fin_cases a <;> decide) f

theorem before_x (d) : (dat0 m c).before 0 t0_0 d = (inp m).x c := by
  unfold Dat.before
  rw [if_pos (fetch0_0 t0_0)]
  exact (show (dat0 m c).fetched 0 t0_0 d = (win0_0.blk t0_0).view.read (Elt F) (V23 m c main_v22) from funext fun _ => rfl).trans
    (read_x (F := F) c (V23 m c main_v22))
theorem before_p (d) : (dat0 m c).before 1 t0_0 d = (inp m).p c := by
  unfold Dat.before
  rw [if_pos (fetch0_1 t0_0)]
  exact (show (dat0 m c).fetched 1 t0_0 d = (win0_1.blk t0_0).view.read (Elt F) (V23 m c main_v68) from funext fun _ => rfl).trans
    (read_p (F := F) c (V23 m c main_v68))
theorem before_l (d) : (dat0 m c).before 2 t0_0 d = (inp m).l c := by
  unfold Dat.before
  rw [if_pos (fetch0_2 t0_0)]
  exact (show (dat0 m c).fetched 2 t0_0 d = (win0_2.blk t0_0).view.read (Elt F) (V23 m c main_v27) from funext fun _ => rfl).trans
    (read_l (F := F) c (V23 m c main_v27))

/-- The result array after the kernel's one write-back. -/
theorem arr_out : (dat0 m c).arrAt 3 cfg0.N = outV (inp m) c := by
  have hw : ((cfg0.win 3).blk t0_0).view.read (Elt F) ((dat0 m c).arrAt 3 cfg0.N) = (dat0 m c).flushed 3 t0_0 := by
    rw [show cfg0.N = t0_0.val + 1 from rfl, (dat0 m c).arrAt_succ (3 : Fin 4) t0_0, flush0_3, if_pos rfl]
    exact View.read_write_univ _ _
  exact (read_o (F := F) c _).symm.trans (hw.trans (funext fun _ => rfl))

/-- The kernel's body at its one point. -/
theorem body0 : BodyObligation (dat0 m c) (defs₀ (F := F)) 𝒱₀ () Set.univ := fun t => by
  obtain rfl := fin_N0 t
  rw [bigSep_W0, bigSep_W0]
  rw [show (dat0 m c).Φ t0_0.castSucc = iprop(enter (inp m) c ∗ ∃ r, prngReg c r) from rfl,
    show (dat0 m c).Φ t0_0.succ = iprop(leave (inp m) c ∗ ∃ r, prngReg c r) from rfl]
  iintro ⟨⟨HE, Hr⟩, HO, ⟨%d0, H0⟩, ⟨%d1, H1⟩, ⟨%d2, H2⟩, ⟨%d3, H3⟩⟩
  rw [before_x, before_p, before_l]
  ihave HO := (owes_out m c _ _ (owed_first m c)) $$ HO
  iapply (body_closed (inp m) c (win0_0.stage (cfg0.slots t0_0 0)) (hstage0_0 0) (win0_1.stage (cfg0.slots t0_0 1)) (hstage0_1 0)
    (win0_2.stage (cfg0.slots t0_0 2)) (hstage0_2 0) (win0_3.stage (cfg0.slots t0_0 3)) (hstage0_3 0)) $$ [HE HO H0 H1 H2 H3]
  · isplitl [HE]; · iexact HE
    isplitl [H0 H1 H2]
    · unfold ins
      isplitl [H0]; · iexact H0
      isplitl [H1]; · iexact H1
      iexact H2
    isplitl [H3]
    · unfold anyS; iexists _; iexact H3
    iexact HO
  unfold ins
  iintro ⟨HL, ⟨H0, H1, H2⟩, H3, HO⟩
  isplitl [HL Hr]
  · isplitl [HL]; · iexact HL
    iexact Hr
  isplitl [HO]; · iapply (owes_in m c t0_0.succ 0 (owed_last m c)) $$ HO
  isplitl [H0]; · iexact H0
  isplitl [H1]; · iexact H1
  isplitl [H2]; · iexact H2
  iexact H3

/-! ## The region -/

/-- The buffer the body reads where it stands: the weights; -/
abbrev Hs : Finset (DevRef τ sig) := {Proc.devRef .tc main_v69}
/-- every buffer but the staged arrays. -/
abbrev Sr : Finset (DevRef τ sig) := Pipeline.ucRefs τ sig \ Pipeline.arrRefs spec0

theorem held_weights (V : Valuation τ sig (Elt F)) (h : V main_v69 = (inp m).w c) :
    (StableHlo.held (c : Thread nD τ) Hs V : sProp 𝕄) = owns (c : Thread nD τ) WH fullShare ((inp m).w c) := by
  unfold StableHlo.held
  rw [bigSep_singleton]
  refine Eq.trans ?_ (owns_whole (c : Thread nD τ) main_v69 fullShare ((inp m).w c)).symm
  rw [← h]

theorem region_in : iprop(Pipeline.scopedRest spec0 c ∗ (∃ r, prngReg c r) ∗ StableHlo.held (c : Thread nD τ) Hs (V23 m c) ∗ Xk (inp m) c)
    ⊢ ((pdats m 0 c).Φ 0 : sProp 𝕄) := by
  rw [show (pdats m 0 c).Φ 0 = iprop(enter (inp m) c ∗ ∃ r, prngReg c r) from rfl, held_weights m c (V23 m c) rfl]
  unfold enter
  iintro ⟨HS, Hr, HW, HX⟩
  ihave HS := (scratch_split (F := F) c) $$ HS
  isplitr [Hr]
  · isplitl [HX]; · iexact HX
    isplitl [HS]; · iexact HS
    iexact HW
  iexact Hr

theorem region_out : ((pdats m 0 c).Φ (Fin.last _) : sProp 𝕄)
    ⊢ iprop(Pipeline.scopedRest spec0 c ∗ (∃ r, prngReg c r) ∗ StableHlo.held (c : Thread nD τ) Hs (VN m c) ∗ Pipeline.ownSems0 osem c ∗ semVal (bar c) 0) := by
  rw [show (pdats m 0 c).Φ (Fin.last _) = iprop(leave (inp m) c ∗ ∃ r, prngReg c r) from rfl, held_weights m c (VN m c) (VN_w m c)]
  unfold leave
  iintro ⟨⟨⟨Hb, Hs⟩, HS, HW⟩, Hr⟩
  ihave HS := (scratch_join (F := F) c) $$ HS
  isplitl [HS]; · iexact HS
  isplitl [Hr]; · iexact Hr
  isplitl [HW]; · iexact HW
  isplitl [Hs]; · iexact Hs
  iexact Hb

theorem owed_cut (t) (g : GSem nD τ sig) (i : Unit) (h : 0 < (pdats m 0 c).owed t g i) : i ∈ L g ∧ (0 : ℕ) < lv g i := by
  have e : (pdats m 0 c).owed t = if t.val = 0 then O₀ c else 0 := rfl
  rw [e] at h
  split at h
  · obtain ⟨h1, h2⟩ := above_O c g i h
    refine ⟨?_, h2⟩
    unfold L; rw [if_pos h1]; exact Finset.mem_singleton_self _
  · exact absurd h (Nat.lt_irrefl 0)

theorem stage_level (w : Fin 4) (s : Fin (win0 w).nbuf) : lv ((c : Thread nD τ), .dma ((win0 w).sem s)) () = 0 := by
  fin_cases w <;> fin_cases s <;> rfl

theorem arr_first (w : Fin 4) : (pdats m 0 c).arrAt w 0 = V23 m c (Proc.devRef .tc (Pipeline.arrRef spec0 w)) := by
  match w with
  | 0 => rfl | 1 => rfl | 2 => rfl | 3 => rfl

theorem last_x : (dat0 m c).arrAt 0 cfg0.N = VN m c main_v22 :=
  ((dat0 m c).arrAt_in 0 rfl _).trans (V24_of m (outs m) c main_v22 (by decide)).symm
theorem last_p : (dat0 m c).arrAt 1 cfg0.N = VN m c main_v68 :=
  ((dat0 m c).arrAt_in 1 rfl _).trans (V24_of m (outs m) c main_v68 (by decide)).symm
theorem last_l : (dat0 m c).arrAt 2 cfg0.N = VN m c main_v27 :=
  ((dat0 m c).arrAt_in 2 rfl _).trans (V24_of m (outs m) c main_v27 (by decide)).symm
theorem last_o : (dat0 m c).arrAt 3 cfg0.N = VN m c main_v70 := (arr_out m c).trans (VN_v70 m c).symm
theorem arr_last (w : Fin 4) : (pdats m 0 c).arrAt w cfg0.N = VN m c (Proc.devRef .tc (Pipeline.arrRef spec0 w)) := by
  match w with
  | 0 => exact last_x m c
  | 1 => exact last_p m c
  | 2 => exact last_l m c
  | 3 => exact last_o m c

set_option backward.isDefEq.respectTransparency.types false in
/-- The kernel as a region entered with what launch dealt and left with every counter at zero. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr (by decide) launch0.toP rfl (fun c => (body0 m c).loose)
    (fun _ => 0) O₀ (fun c => (owed_zero m c).trans (zero_add _).symm) (owed_last m) (fun _ => rfl) (fun _ w => by fin_cases w <;> rfl)
    (V23 m) (VN m)
    (fun c b hb => by
      have h1 : b ≠ Proc.devRef .tc main_v70 := fun h => by subst h; revert hb; decide
      have h2 : b ≠ Proc.devRef .tc main_v69 := fun h => by subst h; revert hb; decide
      unfold VN V24
      rw [Function.update_of_ne h2, Function.update_of_ne h1])
    (Tk (inp m)) (fun c => semVal (bar c) 0) (Xk (inp m)) (fun c => semVal (bar c) 0)
    (open_cells (inp m)) (region_in m) (region_out m)
    (fun c => by iintro H; imodintro; iexact H)
    (fun _ => 0)
    ⟨fun c w s => Finset.mem_singleton_self _, fun c w s => le_of_eq (stage_level c w s), fun c t g i h => owed_cut m c t g i h⟩
    (fun _ => iprop(emp))
    (arr_first m)
    (arr_last m)

end Cert.Moe

end
-- ==== Proof.Launch.lean ====
module

public import proofs.«01_k».proof.Proof.Region

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## The kernel's one point as a region of the program -/
/-! ## The tokens, dealt -/

/-- The turn of every device by a number of places that depends on an index. -/
def turnAll {n : ℕ} (s : Fin n → ℕ) (hs : ∀ k, s k ≤ 4) : Dev nD × Fin n ≃ Dev nD × Fin n where
  toFun p := (rot p.1 (s p.2), p.2)
  invFun p := (rot p.1 (4 - s p.2), p.2)
  left_inv p := Prod.ext (Fin.ext (by have := hs p.2; have h4 : p.1.val < 4 := p.1.isLt; simp only [rot_val]; omega)) rfl
  right_inv p := Prod.ext (Fin.ext (by have := hs p.2; have h4 : p.1.val < 4 := p.1.isLt; simp only [rot_val]; omega)) rfl

/-- Each device hands its `k`-th item to the device `s k` places behind it. -/
theorem deal {n : ℕ} (s : Fin n → ℕ) (hs : ∀ k, s k ≤ 4) (Φ : Dev nD → Fin n → sProp 𝕄) :
    bigSep Finset.univ (fun c : Dev nD => bigSep Finset.univ (Φ c))
      = bigSep Finset.univ (fun c : Dev nD => bigSep Finset.univ (fun k => Φ (rot c (s k)) k)) := by
  have h1 := bigSep_univ_prod (fun p : Dev nD × Fin n => Φ p.1 p.2)
  have h2 := bigSep_univ_prod (fun p : Dev nD × Fin n => Φ (rot p.1 (s p.2)) p.2)
  rw [← h1, ← h2, bigSep_univ_equiv (turnAll s hs)]
  rfl

/-- The duties of one device's cells: semaphore, round, number. -/
def key : Fin 3 ⊕ (Fin 18 ⊕ Fin 32) → SemLoc sig × ℕ × Fin 4
  | .inl k => (.reg barrier0, 0, k.succ)
  | .inr (.inl k) => (.dma (⟨4 + k.val, by omega⟩ : Fin 24), 0, 0)
  | .inr (.inr i) => (.dma (wc i.val), i.val / 2, 0)

theorem key_inj : Function.Injective key := by
  rintro (k | k | i) (k' | k' | i') h <;> simp only [key, Prod.mk.injEq, reduceCtorEq, false_and, SemLoc.dma.injEq, Fin.mk.injEq, Fin.succ_inj, true_and, and_true] at h
  · rw [h]
  · rw [show k = k' from Fin.ext (by omega)]
  · exfalso; omega
  · exfalso; omega
  · rw [show i = i' from Fin.ext (by omega)]

def toks : Finset (GSem nD τ sig × ℕ × Fin 4) :=
  Finset.univ.map ⟨fun p : Dev nD × (Fin 3 ⊕ (Fin 18 ⊕ Fin 32)) => (((p.1 : Thread nD τ), (key p.2).1), (key p.2).2), fun p q h => by
    have h1 := congrArg (fun t : GSem nD τ sig × ℕ × Fin 4 => t.1.1.1) h
    have h2 := congrArg (fun t : GSem nD τ sig × ℕ × Fin 4 => (t.1.2, t.2)) h
    exact Prod.ext h1 (key_inj h2)⟩

/-- A device's weight tokens, as a family over a type. -/
theorem weight_toks (c : Dev nD) : bigSep Finset.univ (fun i : Fin 32 => (wTok c i.val : sProp 𝕄)) = bigSep (Finset.Ico 0 32) (wTok c) := by
  rw [show Finset.Ico 0 32 = (Finset.univ : Finset (Fin 32)).map Fin.valEmbedding from by decide, bigSep_map]
  rfl

/-- Every token, with the device that pays its duty. -/
theorem toks_deal : bigSep toks (fun x => (dutyTok ER x.1 x.2.1 x.2.2 : sProp 𝕄))
    = bigSep Finset.univ (fun c : Dev nD => iprop(barToks c ∗ sendToks c ∗ bigSep (Finset.Ico 0 32) (wTok c))) := by
  have hb := deal (fun k : Fin 3 => k.val + 1) (by decide) (fun (c : Dev nD) k => (dutyTok ER (bar c) 0 k.succ : sProp 𝕄))
  have hs := deal ahead (by decide) (fun (c : Dev nD) k => (dutyTok ER (cell c ⟨4 + k.val, by omega⟩) 0 0 : sProp 𝕄))
  have e : bigSep toks (fun x => (dutyTok ER x.1 x.2.1 x.2.2 : sProp 𝕄))
      = bigSep Finset.univ (fun c : Dev nD => iprop(bigSep Finset.univ (fun k : Fin 3 => dutyTok ER (bar c) 0 k.succ)
        ∗ bigSep Finset.univ (fun k : Fin 18 => dutyTok ER (cell c ⟨4 + k.val, by omega⟩) 0 0) ∗ bigSep Finset.univ (fun i : Fin 32 => wTok c i.val))) := by
    unfold toks
    rw [bigSep_map, bigSep_univ_prod]
    refine bigSep_congr fun c _ => ?_
    rw [bigSep_univ_sum, bigSep_univ_sum]
    rfl
  rw [e, bigSep_sep', bigSep_sep', hb, hs, bigSep_sep', bigSep_sep', bigSep_congr (fun c _ => weight_toks (F := F) c)]
  rfl

/-! ## The credit dealt -/

theorem at_cell (d c : Dev nD) (j : ℕ) (n n' : Fin 24) (A : ℕ) :
    (tallyAt (cell (rot d j) n) () A : CellTallies nD τ sig Unit) (cell c n') () = if n' = n ∧ rot d j = c then A else 0 := by
  by_cases h : n' = n ∧ rot d j = c
  · obtain ⟨rfl, rfl⟩ := h; rw [if_pos ⟨rfl, rfl⟩, tallyAt_apply, if_pos ⟨rfl, rfl⟩]
  · rw [if_neg h, tallyAt_apply, if_neg]
    rintro ⟨h1, -⟩
    have e1 := congrArg (fun g : GSem nD τ sig => g.1.1) h1
    have e2 := congrArg (fun g : GSem nD τ sig => g.2) h1
    exact h ⟨SemLoc.dma.inj e2, e1.symm⟩

theorem at_bar (d c : Dev nD) (j : ℕ) :
    (tallyAt (bar (rot d j)) () 1 : CellTallies nD τ sig Unit) (bar c) () = if rot d j = c then 1 else 0 := by
  by_cases h : rot d j = c
  · subst h; rw [if_pos rfl, tallyAt_apply, if_pos ⟨rfl, rfl⟩]
  · rw [if_neg h, tallyAt_apply, if_neg]
    rintro ⟨h1, -⟩
    exact h (congrArg (fun g : GSem nD τ sig => g.1.1) h1).symm

theorem bar_cell (d c : Dev nD) (j : ℕ) (n : Fin 24) : (tallyAt (bar (rot d j)) () 1 : CellTallies nD τ sig Unit) (cell c n) () = 0 := by
  rw [tallyAt_apply, if_neg]
  rintro ⟨h1, -⟩
  have e := congrArg (fun g : GSem nD τ sig => g.2) h1
  simp only [reduceCtorEq] at e
theorem cell_bar (d c : Dev nD) (j : ℕ) (n : Fin 24) (A : ℕ) : (tallyAt (cell (rot d j) n) () A : CellTallies nD τ sig Unit) (bar c) () = 0 := by
  rw [tallyAt_apply, if_neg]
  rintro ⟨h1, -⟩
  have e := congrArg (fun g : GSem nD τ sig => g.2) h1
  simp only [reduceCtorEq] at e

theorem rot_sum (c : Dev nD) (j A : ℕ) : (∑ d : Dev nD, if rot d j = c then A else 0) = A := by
  have h : ∀ d : Dev nD, (rot d j = c) ↔ d = rot c (4 - j % 4) := fun d => by
    have hd : d.val < 4 := d.isLt
    have hc : c.val < 4 := c.isLt
    constructor
    · intro e; have e := congrArg Fin.val e; rw [rot_val] at e; apply Fin.ext; rw [rot_val]; omega
    · intro e; have e := congrArg Fin.val e; rw [rot_val] at e; apply Fin.ext; rw [rot_val]; omega
  simp only [h, Finset.sum_ite_eq', Finset.mem_univ, if_true]

/-- What all the devices owe on one cell. -/
theorem owed_cells (c : Dev nD) (n : Fin 24) (h : n ∈ ([7, 8, 9, 13, 14, 15, 19, 20, 21] : List (Fin 24))) :
    (∑ d : Dev nD, O₀ d (cell c n) ()) = amt n.val := by
  simp only [O₀, oB2, oB3, oM1, oM2, oM3, oX1, oX2, oX3, oP1, oP2, oP3, Pi.add_apply, Finsupp.add_apply, at_cell, bar_cell]
  simp only [List.mem_cons, List.not_mem_nil, or_false] at h
  rcases h with rfl | rfl | rfl | rfl | rfl | rfl | rfl | rfl | rfl <;> simp [rot_sum, amt]

theorem owed_bars (c : Dev nD) : (∑ d : Dev nD, O₀ d (bar c) ()) = 3 := by
  simp only [O₀, oB2, oB3, oM1, oM2, oM3, oX1, oX2, oX3, oP1, oP2, oP3, Pi.add_apply, Finsupp.add_apply, at_bar, cell_bar, Finset.sum_add_distrib, rot_sum]
  simp

theorem launch_cell (c : Dev nD) (n : Fin 24) (h : n ∈ ([7, 8, 9, 13, 14, 15, 19, 20, 21] : List (Fin 24))) :
    tallyOn (cell c n) (launchCredit (Pipeline.owing O₀) 0 (cell c n)) = (tallyAt (cell c n) () (amt n.val) : CellTallies nD τ sig Unit) := by
  unfold tallyAt; refine congrArg _ (Finsupp.ext fun u => ?_); cases u
  rw [Pipeline.launchCredit_owing, Finsupp.single_eq_same, owed_cells c n h]
theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, owed_bars c]

/-- The semaphores on which the peers owe. -/
def dueSems : Finset (SemLoc sig) :=
  {.reg barrier0, .dma 7, .dma 8, .dma 9, .dma 13, .dma 14, .dma 15, .dma 19, .dma 20, .dma 21}

theorem creds (c : Dev nD) : (Pipeline.launchCred O₀ c : sProp 𝕄) ⊢ dues c := by
  unfold Pipeline.launchCred
  have h : bigSep dueSems (fun sm : SemLoc sig => (cred (tallyOn ((c : Thread nD τ), sm) (launchCredit (Pipeline.owing O₀) 0 ((c : Thread nD τ), sm))) : sProp 𝕄)) = dues c := by
    refine (bigSep_eq_bigSepL_of_eq (S := dueSems) ([.reg barrier0, .dma 7, .dma 8, .dma 9, .dma 13, .dma 14, .dma 15, .dma 19, .dma 20, .dma 21] : List (SemLoc sig)) (by decide) (by decide) _).trans ?_
    have e := fun n h => launch_cell c n h
    unfold dues
    rw [← launch_bar c]
    simp only [bigSepL, e 7 (by decide), e 8 (by decide), e 9 (by decide), e 13 (by decide), e 14 (by decide), e 15 (by decide), e 19 (by decide), e 20 (by decide), e 21 (by decide)]
    rfl
  rw [← h]
  exact bigSep_subset (Finset.subset_univ _)

end Cert.Moe

end
-- ==== Proof.Run.lean ====
module

public import proofs.«01_k».proof.Proof.Launch
public import Idealize.ShloMosaic.Lib.Quiescent

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## The kernel's one point as a region of the program -/
variable (m : (ℓ : Loc nD τ sig) → Buf (Elt F) ℓ) (ρ : Dev nD → PrngReg)

/-! ## Launch -/

theorem disjoint_cells : Disjoint barCells dmaCells := by
  rw [Finset.disjoint_left]
  rintro g h₁ h₂
  obtain ⟨c, -, rfl⟩ := Finset.mem_map.mp h₁
  obtain ⟨p, -, h⟩ := Finset.mem_map.mp h₂
  have e := congrArg (fun g : GSem nD τ sig => g.2) h
  simp only [Function.Embedding.coeFn_mk, reduceCtorEq] at e

/-- The launch element: the staging cells' part, and the protocol's. -/
def u₀ : UU := (initOf (Pipeline.cells cfgs cellOf_inj) (Pipeline.launchToks cfgs cellOf_inj), launchOf barCells dmaCells toks)

/-- All of the protocol's part of the launch element, left with device 0. -/
def Gh (c : Dev nD) : sProp 𝕄 := if c = 0 then BI.own (ER (launchOf barCells dmaCells toks)) else iprop(emp)
theorem ghost_whole : bigSep Finset.univ (Gh (F := F)) = BI.own (ER (launchOf barCells dmaCells toks)) := by
  rw [bigSep_univ_at _ (0 : Dev nD), bigSep_congr (s := Finset.univ.erase (0 : Dev nD)) (Ψ := fun _ => (BI.emp : sProp 𝕄))
      fun c hc => by unfold Gh; rw [if_neg (Finset.ne_of_mem_erase hc)]; rfl, BI.bigSep_emp_const]
  unfold Gh; rw [if_pos rfl]
  exact BI.equiv_iff.mp sep_emp

variable (I : Inp F)

/-- What every device may consult. -/
def records (κ : GSem nD τ sig → ℕ) : sProp 𝕄 := iprop(allInv I κ ∗ bigSep barCells (fun g => reached ER g 0))
instance (κ : GSem nD τ sig → ℕ) : BI.Persistent (records I κ) := by unfold records; infer_instance

/-- What is device `c`'s alone. -/
def linear (c : Dev nD) : sProp 𝕄 :=
  iprop(atPos ER (bar c) 0 ∅ 0 ∗ closedToks c ∗ (barToks c ∗ sendToks c ∗ bigSep (Finset.Ico 0 32) (wTok c)))

/-- The state a core carries beside its buffers before the kernel, and after it. -/
def Est : Fin 2 → Dev nD → sProp 𝕄
  | 0, c => iprop((∃ r, prngReg c r) ∗ Tk I c ∗ ∃ W, owes (c : Thread nD τ) (O₀ c) W)
  | 1, c => iprop((∃ r, prngReg c r) ∗ semVal (bar c) 0 ∗ ∃ W, owes (c : Thread nD τ) (0 : CellTallies nD τ sig Unit) W)

/-- What of a core's holdings at launch is not the protocol's. -/
def bundle (c : Dev nD) : sProp 𝕄 := iprop(dues c ∗ owes (c : Thread nD τ) (O₀ c) ∅ ∗ ∃ r, prngReg c r)

theorem est_intro (κ : GSem nD τ sig → ℕ) (c : Dev nD) : iprop(records I κ ∗ (linear c ∗ bundle c)) ⊢ (Est I 0 c : sProp 𝕄) := by
  unfold records linear bundle Est Tk carry barOpen
  iintro ⟨⟨#HI, #HR⟩, ⟨Hat, Ho, Hb, Hs, Hw⟩, Hd, HO, Hr⟩
  have hr (c : Dev nD) : (bigSep barCells fun g => (reached ER g 0 : sProp 𝕄)) ⊢ reached ER (bar c) 0 := bigSep_elim (mem_bar c)
  isplitl [Hr]; · iexact Hr
  isplitr [HO]
  · iexists κ
    isplitr [Ho]
    · isplitr; · iexact HI
      isplitl [Hat]; · iexact Hat
      isplitr
      · isplitr; · iapply (hr (rot c 1)); iexact HR
        isplitr; · iapply (hr (rot c 2)); iexact HR
        iapply (hr (rot c 3)); iexact HR
      isplitl [Hb]; · iexact Hb
      isplitl [Hs]; · iexact Hs
      isplitl [Hw]; · iexact Hw
      iexact Hd
    · iexact Ho
  · iexists ∅; iexact HO

theorem sems_bar (c : Dev nD) : (unscopedSems0 c : sProp 𝕄) = semVal (bar c) 0 := by
  unfold unscopedSems0
  rw [show (Finset.univ.filter fun sm : SemLoc sig => ¬sm.isScoped .tc = true) = {.reg barrier0} from by decide, bigSep_singleton]

theorem init : iprop((bigSep Finset.univ fun c : Dev nD => iprop(unscopedSems0 c ∗ owes (c : Thread nD τ) (O₀ c) ∅ ∗ Pipeline.launchCred O₀ c
      ∗ prngReg c (ρ c) ∗ Gh c)) ∗ levAts L lv)
    ⊢ (|={Set.univ}=> bigSep Finset.univ (Est I 0) : sProp 𝕄) := by
  have hcore (c : Dev nD) : iprop(unscopedSems0 c ∗ owes (c : Thread nD τ) (O₀ c) ∅ ∗ Pipeline.launchCred O₀ c ∗ prngReg c (ρ c) ∗ Gh c)
      ⊢ (iprop(bundle c ∗ (semVal (bar c) 0 ∗ Gh c)) : sProp 𝕄) := by
    rw [sems_bar]
    unfold bundle
    iintro ⟨Hs, HO, Hc, Hp, HG⟩
    ihave Hc := (creds (F := F) c) $$ Hc
    isplitl [Hc HO Hp]
    · isplitl [Hc]; · iexact Hc
      isplitl [HO]; · iexact HO
      iexists (ρ c); iexact Hp
    isplitl [Hs] <;> iassumption
  have hall : (bigSep Finset.univ fun c : Dev nD => iprop(unscopedSems0 c ∗ owes (c : Thread nD τ) (O₀ c) ∅ ∗ Pipeline.launchCred O₀ c ∗ prngReg c (ρ c) ∗ Gh c))
      ⊢ (bigSep Finset.univ fun c : Dev nD => iprop(bundle c ∗ (semVal (bar c) 0 ∗ Gh c)) : sProp 𝕄) := bigSep_mono fun c _ => hcore c
  have hv : bigSep Finset.univ (fun c : Dev nD => (semVal (bar c) 0 : sProp 𝕄)) ⊢ bigSep barCells (fun g => (semVal g 0 : sProp 𝕄)) :=
    Entails.of_eq (bigSep_map (s := Finset.univ) ⟨bar, bar_inj⟩ (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) ⟨bar, bar_inj⟩ (Φ := fun g : GSem nD τ sig => (atPos ER g 0 ∅ 0 : sProp 𝕄)))
  have hopen : bigSep dmaCells (fun g => (openTok ER g : sProp 𝕄)) ⊢ bigSep Finset.univ (fun c : Dev nD => closedToks c) :=
    Entails.of_eq (by
      unfold dmaCells
      rw [bigSep_map, bigSep_univ_prod]
      rfl)
  iintro ⟨H, -⟩
  ihave H := hall $$ H
  ihave H := unpair $$ H; icases H with ⟨HB, H⟩
  ihave H := unpair $$ H; icases H with ⟨Hv, HG⟩
  ihave Hu := (Entails.of_eq (ghost_whole (F := F))) $$ HG
  imod (Rounds.fund_launch ER (Rd I) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records I κ) (Φ := fun c => iprop(linear c ∗ bundle c)) fun c _ => est_intro I κ c)
  isplitr
  · unfold records allInv
    isplitr; · iexact Hinv
    iexact Hr
  iapply pair
  isplitr [HB]
  · unfold linear
    iapply pair; isplitl [Hat]; · iapply hat $$ Hat
    iapply pair; isplitl [Hopen]; · iapply hopen $$ Hopen
    iapply (Entails.of_eq (toks_deal (F := F))) $$ Htok
  · iexact HB

/-! ## The run -/

theorem drop_emp (A : sProp 𝕄) : iprop(A ∗ emp) = A := BI.equiv_iff.mp sep_emp

theorem reg_pre (c : Dev nD) : iprop(StableHlo.held (c : Thread nD τ) (Pipeline.ucRefs τ sig) (V23 m c) ∗ Est (inp m) 0 c) ⊢ ((reg m).pre c : sProp 𝕄) := by
  show _ ⊢ iprop(StableHlo.held (c : Thread nD τ) (Pipeline.arrRefs spec0) (V23 m c) ∗ (∃ r, prngReg c r)
    ∗ (StableHlo.held (c : Thread nD τ) Sr (V23 m c) ∗ emp) ∗ Tk (inp m) c ∗ ∃ W, owes (c : Thread nD τ) (0 + O₀ c) W)
  rw [StableHlo.held_sub_split (c : Thread nD τ) (Pipeline.arrRefs_sub_ucRefs (τ := τ) spec0 (by decide)) (V23 m c), zero_add, drop_emp]
  unfold Est
  iintro ⟨⟨Ha, Hs⟩, Hr, HT, HO⟩
  isplitl [Ha]; · iexact Ha
  isplitl [Hr]; · iexact Hr
  isplitl [Hs]; · iexact Hs
  isplitl [HT]; · iexact HT
  iexact HO

theorem reg_post (c : Dev nD) : ((reg m).post c : sProp 𝕄) ⊢ iprop(StableHlo.held (c : Thread nD τ) (Pipeline.ucRefs τ sig) (VN m c) ∗ Est (inp m) 1 c) := by
  show iprop(StableHlo.held (c : Thread nD τ) (Pipeline.arrRefs spec0) (VN m c) ∗ (∃ r, prngReg c r)
    ∗ (StableHlo.held (c : Thread nD τ) Sr (VN m c) ∗ emp) ∗ semVal (bar c) 0 ∗ ∃ W, owes (c : Thread nD τ) (0 : CellTallies nD τ sig Unit) W) ⊢ _
  rw [StableHlo.held_sub_split (c : Thread nD τ) (Pipeline.arrRefs_sub_ucRefs (τ := τ) spec0 (by decide)) (VN m c), drop_emp]
  unfold Est
  iintro ⟨Ha, Hr, Hs, Hb, HO⟩
  isplitl [Ha Hs]
  · isplitl [Ha] <;> iassumption
  isplitl [Hr]; · iexact Hr
  isplitl [Hb]; · iexact Hb
  iexact HO

theorem unscoped_eq : ∀ sm : SemLoc sig, sm.isScoped .tc = false → sm = .reg barrier0 := by decide

theorem rest_done (c : Dev nD) : (Est (inp m) 1 c : sProp 𝕄) ⊢ iprop(semVal (bar c) 0 ∗ ∃ W, owes (c : Thread nD τ) (0 : CellTallies nD τ sig Unit) W) := by
  unfold Est
  iintro ⟨-, H⟩
  iexact H

/-- The final state of one device: its arguments unchanged, its result, its barrier's counter at zero. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v70) = outV (inp m) c)
  ∧ s.sem (bar c) = 0

theorem final_read (c : Dev nD) (s' : Phys nD τ sig (Elt F)) :
    iprop((StableHlo.held (c : Thread nD τ) (Pipeline.ucRefs τ sig) (VN m c) ∗ semVal (bar c) 0) ∗ SI s')
      ⊢ (|={Set.univ}=> iprop(⌜Final m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (VN m c) s') $$ [Hh HSI]
  · isplitl [Hh] <;> iassumption
  icases Hr with ⟨%h, HSI⟩
  imodintro
  isplitr
  · ipureintro
    have hm (r : Ref sig .tc) (hr : r.isScoped = false) : s'.mem.mem ((c : Thread nD τ).loc r) = VN m c r :=
      h (Proc.devRef .tc r) (Finset.mem_filter.mpr ⟨StableHlo.devRef_mem_tcRefs r, by intro h'; exact Bool.false_ne_true (hr.symm.trans h')⟩)
    exact ⟨⟨(hm main_arg0 rfl).trans (V24_main_arg0 m (outs m) c), (hm main_arg1 rfl).trans (V24_main_arg1 m (outs m) c),
      (hm main_arg2 rfl).trans (V24_main_arg2 m (outs m) c), (hm main_arg3 rfl).trans (V24_main_arg3 m (outs m) c),
      (hm main_v70 rfl).trans (VN_v70 m c)⟩, by simpa using hb⟩
  iexact HSI

set_option backward.isDefEq.respectTransparency.types false in
/-- From any memory with every counter at zero, every fair execution on the four devices ends; then every argument is as
    it was, every device's result is `outV`, and every counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v70) = outV (inp m) c) ∧ r.2.sem = fun _ => 0) := by
  refine Pipeline.θ_run_regions_kit_dev_sems (pcfgs (F := F)) adm (pdats m) () cellOf_inj EP defs₀ 𝒱₀ L lv m ρ main
    (segs m 𝒱₀ L lv (Est (inp m)) () (pdats m) (reg m))
    (fun c Q => by
      rewrite [main_chain c, Pipeline.Seg.run_eq_chain,
        show (segs m 𝒱₀ L lv (Est (inp m)) () (pdats m) (reg m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          StableHlo.seq hostOps0_16, StableHlo.seq hostOps0_17, StableHlo.seq hostOps0_18, StableHlo.seq hostOps0_19,
          StableHlo.seq hostOps0_20, StableHlo.seq hostOps0_21, StableHlo.seq hostOps0_22,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (Gh (F := F)) u₀
    (by
      unfold u₀
      iintro Hu
      ihave H := (ownU_pair _ _) $$ Hu
      icases H with ⟨HP, HX⟩
      imodintro
      isplitl [HP]; · iexact HP
      rw [ghost_whole]; iexact HX)
    (T₀ := fun c => iprop(StableHlo.held (c : Thread nD τ) (Pipeline.ucRefs τ sig) (V0 m c) ∗ Est (inp m) 0 c))
    (Tₙ := fun c => iprop(StableHlo.held (c : Thread nD τ) (Pipeline.ucRefs τ sig) (VN m c) ∗ semVal (bar c) 0))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl,
      reg_pre m c, ?_⟩)
    (hinit := ?_) (QY := Final m) (hfin := final_read m)
    (hQ := fun s h hs => ⟨fun c => (h c).1, sem_eq_zero hs fun c sm hsm => by
      obtain rfl := unscoped_eq sm hsm
      exact (h c).2⟩)
  · refine BIClass.entails_trans (reg_post m c) ?_
    iintro ⟨Hh, HE⟩
    ihave HE := (rest_done m c) $$ HE
    icases HE with ⟨Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gh c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ Gh c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hl⟩
    ihave H := hsplit $$ H
    icases H with ⟨Hh, Hr⟩
    imod (init ρ (inp m)) $$ [Hr Hl] with HE
    · isplitl [Hr]; · iexact Hr
      iexact Hl
    imodintro
    rw [bigSep_sep']
    isplitl [Hh]; · iexact Hh
    iexact HE

end Cert.Moe

end
-- ==== Proof.Pieces.lean ====
module

public import proofs.«01_k».proof.Proof.Experts
public import Idealize.ShloMosaic.Lib.Pointwise

@[expose] public section

set_option maxRecDepth 16384

noncomputable section

namespace Cert.Moe

open Cert.KernelIdeal Cert.KernelIdeal.Gen
open Idealize.ShloMosaic Idealize.ShloMosaic.TcCoe

/-! # What the kernel's pure pieces hold, entry by entry, over the extended reals -/

/-- One where the condition holds, zero elsewhere. -/
def mark (p : Prop) [Decidable p] : EReal := if p then 1 else 0

theorem cmpi_eq_mark (a b : BitVec 32) : IntOp.cmpi .eq a b = if a = b then 1#1 else 0#1 := by
  by_cases h : a = b
  · subst h; simp [IntOp.cmpi]
  · rw [if_neg h]; simp [IntOp.cmpi, beq_eq_false_iff_ne.mpr h]

/-- The word `cmpi eq` gives, widened and read as a number. -/
theorem mark_eq (a b : BitVec 32) :
    (FloatOps.sitofp .f32 ((IntOp.cmpi .eq a b).setWidth 32) : Ideal .f32) = mark (a = b) := by
  show ((((IntOp.cmpi .eq a b).setWidth 32).toInt : ℝ) : EReal) = _
  rw [cmpi_eq_mark]
  unfold mark
  by_cases h : a = b
  · rw [if_pos h, if_pos h]; simp
  · rw [if_neg h, if_neg h]; simp

/-- The float word the kernel writes for the capacity. -/
theorem cap_eq : Ideal.ofBits .f32 0x434C0000#32 = ((204 : ℕ) : EReal) := by
  simp [Ideal.ofBits, Ideal.ieee]
  rw [← EReal.coe_mul]
  norm_num
  rfl

theorem select_cmpi {α : Type} (a b : BitVec 32) (x y : α) : Scalar.select (IntOp.cmpi .eq a b) x y = if a = b then x else y := by
  rw [cmpi_eq_mark]
  by_cases h : a = b
  · rw [if_pos h, if_pos h]; rfl
  · rw [if_neg h, if_neg h]; rfl

theorem ofNat_inj32 {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem iv_word (t : ℕ) : Scf.iv 0#32 1#32 t = BitVec.ofNat 32 t := by
  simp [Scf.iv]

theorem pay9_at (v : Vec Ideal S1x2048 .f32) (k : Fin 768) (t : Fin 2048) :
    k0_pay9 v (ix2 k t) = mark (BitVec.ofNat 32 k.val = Ideal.fptosi 32 (v (ix2 0 t))) := by
  pointwise [k0_pay9]
  exact mark_eq _ _

theorem pay10_at (v : Vec Ideal S1x2048 .f32) (x : Vec Ideal S2048x1024 .bf16) (k : Fin 768) (j : Fin 1024) :
    k0_pay10 v x (ix3 0 k j) = ∑ t : Fin 2048, k0_pay9 v (ix2 k t) * x (ix2 t j) := by
  pointwise [k0_pay10]

theorem pay11_at (v : Vec Ideal S1x2048 .f32) (x : Vec Ideal S2048x2 .f32) (k : Fin 768) (j : Fin 2) :
    k0_pay11 v x (ix3 0 k j) = ∑ t : Fin 2048, k0_pay9 v (ix2 k t) * x (ix2 t j) := by
  pointwise [k0_pay11]

theorem cntV_at (v : Vec Ideal S1x768x2 .f32) (e : Fin 8) :
    cntV v (ix1 e) = ∑ k : Fin 768, mark (Ideal.fptosi 32 (v (ix3 0 k 0)) = BitVec.ofNat 32 (e.val + 1)) := by
  pointwise [cntV, k0_pay27, k0_pay22, k0_pay23]
  refine Finset.sum_congr rfl fun k _ => (mark_eq _ _).trans ?_
  have h : IntOp.addi (BitVec.ofNat 32 e.val) 1#32 = BitVec.ofNat 32 (e.val + 1) := (BitVec.ofNat_add ..).symm
  rw [h]
  rfl

theorem permV_at (m : Vec Ideal S1x768x2 .f32) (b : FVec Ideal S8 .f32) (t : Fin 8) (s : Fin 256) (k : Fin 768) :
    permV m b t (ix2 s k) = mark (BitVec.ofNat 32 s.val = Ideal.fptosi 32 (m (ix3 0 k 1) + b (ix1 t))
      ∧ Ideal.fptosi 32 (m (ix3 0 k 0)) = BitVec.ofNat 32 (t.val + 1) ∧ m (ix3 0 k 1) + b (ix1 t) < ((204 : ℕ) : EReal)) := by
  have hs : ∑ x : Fin 8, Scalar.select (IntOp.cmpi .eq (BitVec.ofNat 32 x.val) (Scf.iv 0#32 1#32 t.val)) (b (ix1 x)) (0 : EReal)
      = b (ix1 t) := by
    simp only [select_cmpi, iv_word]
    rw [Finset.sum_eq_single t]
    · rw [if_pos rfl]
    · intro x _ hx
      rw [if_neg fun h => hx (Fin.ext ((ofNat_inj32 (by omega) (by omega)).mp h))]
    · intro h; exact absurd (Finset.mem_univ _) h
  have ha : Scalar.addi (Scf.iv 0#32 1#32 t.val) 1#32 = BitVec.ofNat 32 (t.val + 1) := by
    rw [iv_word]; exact (BitVec.ofNat_add ..).symm
  pointwise [permV, k0_pay1, k0_pay31, k0_pay32, k0_pay33, k0_pay23]
  rw [hs, ha, cap_eq, cmpi_eq_mark, cmpi_eq_mark]
  unfold mark
  generalize m (ix3 0 k 1) + b (ix1 t) = g
  generalize ((204 : ℕ) : EReal) = cap
  show Scalar.select (IntOp.andi (if BitVec.ofNat 32 s.val = Ideal.fptosi 32 g then 1#1 else 0#1)
    (IntOp.andi (if Ideal.fptosi 32 (m (ix3 0 k 0)) = BitVec.ofNat 32 (t.val + 1) then 1#1 else 0#1) _)) (1 : EReal) 0 = _
  by_cases h1 : BitVec.ofNat 32 s.val = Ideal.fptosi 32 g <;>
  by_cases h2 : Ideal.fptosi 32 (m (ix3 0 k 0)) = BitVec.ofNat 32 (t.val + 1) <;>
  by_cases h3 : g < cap <;> simp [h1, h2, h3, IntOp.andi, Scalar.select]

theorem stepV_at (x : Vec Ideal S1x768x1024 .bf16) (m : Vec Ideal S1x768x2 .f32) (b : FVec Ideal S8 .f32)
    (w : Vec Ideal S1x1024x1024 .bf16) (t : Fin 8) (a : Vec Ideal S1x768x1024 .bf16) (k : Fin 768) (h : Fin 1024) :
    stepV x m b w t a (ix3 0 k h) = a (ix3 0 k h) + ∑ s : Fin 256, permV m b t (ix2 s k) *
      ∑ j : Fin 1024, (∑ k' : Fin 768, permV m b t (ix2 s k') * x (ix3 0 k' j)) * w (ix3 0 j h) := by
  pointwise [stepV, k0_pay37, k0_pay2]

theorem firstV_at (a : Vec Ideal S1x768x1024 .bf16) (r : Vec Ideal S1x2048 .f32) (t : Fin 2048) (h : Fin 1024) :
    firstV a r (ix2 t h) = ∑ k : Fin 768, mark (BitVec.ofNat 32 k.val = Ideal.fptosi 32 (r (ix2 0 t))) * a (ix3 0 k h) := by
  pointwise [firstV, k0_pay38]
  exact Finset.sum_congr rfl fun k _ => congrArg (· * a (ix3 0 k h)) (mark_eq _ _)

theorem nextV_at (o : Vec Ideal S2048x1024 .f32) (a : Vec Ideal S1x768x1024 .bf16) (r : Vec Ideal S1x2048 .f32) (t : Fin 2048)
    (h : Fin 1024) : nextV o a r (ix2 t h)
      = o (ix2 t h) + ∑ k : Fin 768, mark (BitVec.ofNat 32 k.val = Ideal.fptosi 32 (r (ix2 0 t))) * a (ix3 0 k h) := by
  pointwise [nextV, k0_pay57]
  exact congrArg (o (ix2 t h) + ·) (Finset.sum_congr rfl fun k _ => congrArg (· * a (ix3 0 k h)) (mark_eq _ _))

theorem zeroV_at (k : Fin 768) (h : Fin 1024) : (k0_pay36 : FVec Ideal S1x768x1024 .bf16) (ix3 0 k h) = 0 := by
  pointwise [k0_pay36]

end Cert.Moe

end
-- ==== Proof.Ranks.lean ====
module

public import proofs.«01_k».proof.Proof.Pieces

@[expose] public section

noncomputable section

namespace Cert.Moe

/-! # Ranks: how many earlier members a member has -/

section Rank
variable {n : ℕ} (P : Fin n → Prop) [DecidablePred P]

/-- How many of the members of `P` come before `t`. -/
def rank (t : Fin n) : ℕ := (Finset.univ.filter fun t' => t' < t ∧ P t').card

/-- How many members `P` has. -/
def size : ℕ := (Finset.univ.filter fun t => P t).card

theorem rank_lt_size {t : Fin n} (h : P t) : rank P t < size P := by
  refine Finset.card_lt_card ⟨fun a ha => ?_, fun hs => ?_⟩
  · simp only [Finset.mem_filter, Finset.mem_univ, true_and] at ha ⊢
    exact ha.2
  · have := hs (Finset.mem_filter.mpr ⟨Finset.mem_univ t, h⟩)
    simp at this

theorem rank_lt_rank {t t' : Fin n} (h : P t) (hl : t < t') : rank P t < rank P t' := by
  refine Finset.card_lt_card ⟨fun a ha => ?_, fun hs => ?_⟩
  · simp only [Finset.mem_filter, Finset.mem_univ, true_and] at ha ⊢
    exact ⟨ha.1.trans hl, ha.2⟩
  · have := hs (Finset.mem_filter.mpr ⟨Finset.mem_univ t, hl, h⟩)
    simp at this

/-- Two members of one rank are one. -/
theorem rank_inj {t t' : Fin n} (h : P t) (h' : P t') (he : rank P t = rank P t') : t = t' := by
  rcases lt_trichotomy t t' with hl | hl | hl
  · have := rank_lt_rank P h hl; omega
  · exact hl
  · have := rank_lt_rank P h' hl; omega

theorem rank_le (t : Fin n) : rank P t ≤ n :=
  (Finset.card_le_univ _).trans (by simp)

theorem size_le : size P ≤ n :=
  (Finset.card_le_univ _).trans (by simp)

/-- The members' ranks are all the numbers below how many there are. -/
theorem rank_image : (Finset.univ.filter fun t => P t).image (rank P) = Finset.range (size P) := by
  refine Finset.eq_of_subset_of_card_le (fun a ha => ?_) ?_
  · obtain ⟨t, ht, rfl⟩ := Finset.mem_image.mp ha
    exact Finset.mem_range.mpr (rank_lt_size P (Finset.mem_filter.mp ht).2)
  · rw [Finset.card_range, Finset.card_image_of_injOn]
    · exact le_rfl
    · intro a ha b hb he
      exact rank_inj P (by simpa using ha) (by simpa using hb) he

/-- The members of rank below `c` number `c`, or all of them where there are fewer. -/
theorem size_capped (c : ℕ) : (Finset.univ.filter fun t => P t ∧ rank P t < c).card = min c (size P) := by
  have h : (Finset.univ.filter fun t => P t ∧ rank P t < c).image (rank P) = Finset.range (min c (size P)) := by
    ext a
    constructor
    · intro ha
      obtain ⟨t, ht, rfl⟩ := Finset.mem_image.mp ha
      have h2 := (Finset.mem_filter.mp ht).2
      exact Finset.mem_range.mpr (lt_min h2.2 (rank_lt_size P h2.1))
    · intro ha
      have hm := lt_min_iff.mp (Finset.mem_range.mp ha)
      have : a ∈ (Finset.univ.filter fun t => P t).image (rank P) := by
        rw [rank_image]; exact Finset.mem_range.mpr hm.2
      obtain ⟨t, ht, rfl⟩ := Finset.mem_image.mp this
      exact Finset.mem_image.mpr ⟨t, Finset.mem_filter.mpr ⟨Finset.mem_univ _, (Finset.mem_filter.mp ht).2, hm.1⟩, rfl⟩
  rw [← Finset.card_range (min c (size P)), ← h, Finset.card_image_of_injOn]
  intro a ha b hb he
  exact rank_inj P (by simpa using (Finset.mem_filter.mp ha).2.1) (by simpa using (Finset.mem_filter.mp hb).2.1) he

end Rank

/-! # A shard's tokens -/

section Shard
variable {n : ℕ} (r : Fin n → BitVec 32)

/-- How many earlier tokens have the token's route. -/
def bef (t : Fin n) : ℕ := rank (fun t' => r t' = r t) t

/-- How many tokens are routed to expert `e`. -/
def tot (e : ℕ) : ℕ := size fun t => (r t).toNat = e

/-- The token is sent to device `d`: `d` holds its expert, and fewer than 204 earlier tokens of the shard have its route. -/
def goes (d : ℕ) (t : Fin n) : Prop := (r t).toNat / 8 = d ∧ bef r t < 204

instance (d : ℕ) : DecidablePred (goes r d) := fun t => by unfold goes; infer_instance

/-- The token's row in the slab for device `d`. -/
def place (d : ℕ) (t : Fin n) : ℕ := rank (goes r d) t

/-- Every slab has room for what is sent in it. -/
def Fits : Prop := ∀ d < 4, size (goes r d) ≤ 768

theorem place_lt (h : Fits r) {d : ℕ} (hd : d < 4) {t : Fin n} (ht : goes r d t) : place r d t < 768 :=
  (rank_lt_size _ ht).trans_le (h d hd)

theorem place_inj {d : ℕ} {t t' : Fin n} (ht : goes r d t) (ht' : goes r d t') (he : place r d t = place r d t') : t = t' :=
  rank_inj _ ht ht' he

theorem bef_eq {t : Fin n} {e : ℕ} (he : (r t).toNat = e) : bef r t = rank (fun t' => (r t').toNat = e) t := by
  subst he
  unfold bef rank
  simp only [BitVec.toNat_inj]

theorem bef_inj {t t' : Fin n} (h : r t = r t') (he : bef r t = bef r t') : t = t' := by
  have h1 := bef_eq r (t := t) (e := (r t).toNat) rfl
  have h2 := bef_eq r (t := t') (e := (r t).toNat) (by rw [h])
  exact rank_inj (fun t' => (r t').toNat = (r t).toNat) rfl (by rw [h]) (by rw [← h1, ← h2, he])

/-- Of one expert's tokens as many are sent as there are, and 204 at most. -/
theorem sent (d : ℕ) {e : ℕ} (he : e < 8) :
    (Finset.univ.filter fun t => goes r d t ∧ (r t).toNat = 8 * d + e).card = min 204 (tot r (8 * d + e)) := by
  rw [tot, ← size_capped]
  refine congrArg Finset.card (Finset.filter_congr fun t _ => ?_)
  constructor
  · rintro ⟨h, h'⟩; exact ⟨h', by rw [← bef_eq r h']; exact h.2⟩
  · rintro ⟨h, h'⟩; exact ⟨⟨by omega, by rw [bef_eq r h]; exact h'⟩, h⟩

end Shard

/-! # Four shards in a row -/

/-- How many tokens of the shards before shard `p` are routed to expert `e`. -/
def before (R : Fin 4 → Fin 2048 → BitVec 32) (p : Fin 4) (e : ℕ) : ℕ := ∑ q : Fin 4, if q < p then tot (R q) e else 0

/-- The same, counting at most 204 of each shard. -/
def beforeCap (R : Fin 4 → Fin 2048 → BitVec 32) (p : Fin 4) (e : ℕ) : ℕ :=
  ∑ q : Fin 4, if q < p then min 204 (tot (R q) e) else 0

/-- Below 204 a shard's own cap makes no difference. -/
theorem capped_iff (R : Fin 4 → Fin 2048 → BitVec 32) (p : Fin 4) (e b : ℕ) :
    b + beforeCap R p e < 204 ↔ b + before R p e < 204 := by
  unfold beforeCap before
  simp only [Fin.sum_univ_four]
  generalize tot (R 0) e = a0
  generalize tot (R 1) e = a1
  generalize tot (R 2) e = a2
  generalize tot (R 3) e = a3
  fin_cases p <;> simp <;> omega

theorem beforeCap_le (R : Fin 4 → Fin 2048 → BitVec 32) (p : Fin 4) (e : ℕ) : beforeCap R p e ≤ 816 := by
  unfold beforeCap
  refine (Finset.sum_le_card_nsmul _ _ 204 fun q _ => ?_).trans (by simp)
  split <;> omega

/-- The token of the whole batch that shard `p` holds at `t`. -/
def glob (p : Fin 4) (t : Fin 2048) : Fin 8192 := ⟨2048 * p.val + t.val, by omega⟩

theorem glob_lt (p q : Fin 4) (t u : Fin 2048) : glob q u < glob p t ↔ q < p ∨ q = p ∧ u < t := by
  unfold glob
  rw [Fin.lt_def, Fin.lt_def, Fin.ext_iff, Fin.lt_def]
  dsimp only
  omega

/-- A sum over the batch is a sum over the shards. -/
theorem sum_glob {M : Type} [AddCommMonoid M] (f : Fin 8192 → M) : ∑ T, f T = ∑ q : Fin 4, ∑ u : Fin 2048, f (glob q u) := by
  rw [← Finset.sum_product', Finset.univ_product_univ]
  refine (Fintype.sum_equiv (finProdFinEquiv (m := 4) (n := 2048)) _ _ fun x => ?_).symm
  refine congrArg f (Fin.ext ?_)
  simp [glob, finProdFinEquiv, Nat.add_comm]

/-- A token's rank in the batch: the tokens of its route in the shards before, and those before it in its own. -/
theorem bef_glob (R : Fin 4 → Fin 2048 → BitVec 32) (G : Fin 8192 → BitVec 32) (hG : ∀ p t, G (glob p t) = R p t) (p : Fin 4)
    (t : Fin 2048) : bef G (glob p t) = bef (R p) t + before R p (R p t).toNat := by
  unfold bef rank before tot size
  rw [Finset.card_filter, sum_glob, Finset.card_filter]
  simp only [hG, glob_lt, Finset.card_filter, BitVec.toNat_inj]
  have hs : ∀ q : Fin 4, (∑ u : Fin 2048, if (q < p ∨ q = p ∧ u < t) ∧ R q u = R p t then 1 else 0)
      = (if q < p then ∑ u : Fin 2048, (if R q u = R p t then 1 else 0) else 0)
        + if q = p then ∑ u : Fin 2048, (if u < t ∧ R p u = R p t then 1 else 0) else 0 := by
    intro q
    rcases lt_trichotomy q p with h | h | h
    · simp [h, h.ne]
    · subst h; simp
    · simp [h.not_gt, h.ne']
  rw [Finset.sum_congr rfl fun q _ => hs q, Finset.sum_add_distrib, Finset.sum_ite_eq' Finset.univ p, if_pos (Finset.mem_univ p),
    Nat.add_comm]

end Cert.Moe

end
-- ==== Proof.Cumul.lean ====
module

public import proofs.«01_k».proof.Proof.Ranks
public import Idealize.ShloMosaic.Lib.Routing.Ops

@[expose] public section

set_option maxRecDepth 16384

noncomputable section

namespace Cert.Moe

open Idealize.ShloMosaic Idealize.ShloMosaic.Routing

/-! # A running sum down the columns of an array -/

theorem foldl_sum {α ι : Type} [AddCommMonoid α] (l : List ι) (g : ι → α) (v : α) :
    l.foldl (fun r n => r + g n) v = v + (l.map g).sum := by
  induction l generalizing v with
  | nil => simp
  | cons a l ih => rw [List.foldl_cons, ih, List.map_cons, List.sum_cons, add_assoc]

/-- The positions of a window of one column are its rows. -/
theorem numel_col (N : ℕ) : (shape2 N 1).numel = N := by
  show ∏ a : Fin 2, (![N, 1] : Fin 2 → ℕ) a = N
  rw [Fin.prod_univ_two]
  exact Nat.mul_one N

theorem symm_col {N : ℕ} (n : Fin (shape2 N 1).numel) : (shape2 N 1).rowMajor.symm n = ix2 (n.cast (numel_col N)) (0 : Fin 1) :=
  ((shape2 N 1).rowMajor.symm_apply_eq).2 (Fin.ext (by
    rw [Shape.rowMajor_val_two]
    show n.val = n.val * 1 + 0
    omega))

/-- A window that ends at row `t` reads the rows up to `t`. -/
theorem sum_upto {α : Type} [AddCommMonoid α] {N M : ℕ} (hN : M + 1 = N) (g : Fin N → α) (t : Fin N) :
    (∑ w : Fin N, if h : M ≤ t.val + w.val ∧ t.val + w.val - M < N then g ⟨t.val + w.val - M, h.2⟩ else 0)
      = ∑ n : Fin N, if n ≤ t then g n else 0 := by
  subst hN
  have h1 : ∀ w : Fin (M + 1), (if h : M ≤ t.val + w.val ∧ t.val + w.val - M < M + 1 then g ⟨t.val + w.val - M, h.2⟩ else 0)
      = (fun w : ℕ => if h : M ≤ t.val + w ∧ t.val + w - M < M + 1 then g ⟨t.val + w - M, h.2⟩ else 0) w.val := fun _ => rfl
  have h2 : ∀ n : Fin (M + 1), (if n ≤ t then g n else 0) = (fun n : ℕ => if h : n < M + 1 then if n ≤ t.val then g ⟨n, h⟩ else 0 else 0) n.val :=
    fun n => by simp only [dif_pos n.isLt]; rfl
  rw [Finset.sum_congr rfl fun w _ => h1 w, Finset.sum_congr rfl fun n _ => h2 n]
  rw [Fin.sum_univ_eq_sum_range (fun w : ℕ => if h : M ≤ t.val + w ∧ t.val + w - M < M + 1 then g ⟨t.val + w - M, h.2⟩ else 0),
    Fin.sum_univ_eq_sum_range (fun n : ℕ => if h : n < M + 1 then if n ≤ t.val then g ⟨n, h⟩ else 0 else 0)]
  have ht := t.isLt
  have e1 : ∑ w ∈ Finset.range (M + 1), (if h : M ≤ t.val + w ∧ t.val + w - M < M + 1 then g ⟨t.val + w - M, h.2⟩ else 0)
      = ∑ w ∈ (Finset.range (M + 1)).filter (fun w => M ≤ t.val + w),
          (if h : M ≤ t.val + w ∧ t.val + w - M < M + 1 then g ⟨t.val + w - M, h.2⟩ else 0) :=
    (Finset.sum_filter_of_ne fun w _ hw => by
      by_contra hc
      exact hw (dif_neg fun h => hc h.1)).symm
  have e2 : ∑ n ∈ Finset.range (M + 1), (if h : n < M + 1 then if n ≤ t.val then g ⟨n, h⟩ else 0 else 0)
      = ∑ n ∈ (Finset.range (M + 1)).filter (fun n => n ≤ t.val), (if h : n < M + 1 then if n ≤ t.val then g ⟨n, h⟩ else 0 else 0) :=
    (Finset.sum_filter_of_ne fun n hn hw => by
      by_contra hc
      rw [dif_pos (Finset.mem_range.mp hn), if_neg hc] at hw
      exact hw rfl).symm
  rw [e1, e2]
  refine Finset.sum_nbij' (fun w => t.val + w - M) (fun n => n + M - t.val) ?_ ?_ ?_ ?_ ?_
  · intro w hw
    simp only [Finset.mem_filter, Finset.mem_range] at hw ⊢
    omega
  · intro n hn
    simp only [Finset.mem_filter, Finset.mem_range] at hn ⊢
    omega
  · intro w hw
    simp only [Finset.mem_filter, Finset.mem_range] at hw
    show t.val + w - M + M - t.val = w
    omega
  · intro n hn
    simp only [Finset.mem_filter, Finset.mem_range] at hn
    show t.val + (n + M - t.val) - M = n
    omega
  · intro w hw
    simp only [Finset.mem_filter, Finset.mem_range] at hw
    have hb : t.val + w - M < M + 1 := by omega
    rw [dif_pos ⟨hw.2, hb⟩, dif_pos hb, if_pos (by omega)]

/-- The running sum: entry `(t, e)` adds up column `e` down to row `t`. -/
theorem cumsum_at {α : Type} [AddCommMonoid α] {N M m : ℕ} (hN : M + 1 = N) (x : (shape2 N m).Idx → α) {u : Shape} (init : u.Idx → α)
    (h : (shape2 N m).ReduceWindows (![N, 1] : Fin 2 → ℕ) ![1, 1] ![M, 0] ![0, 0] (shape2 N m)) (hu : 0 < u.numel)
    (h0 : init (Shape.Idx.first hu) = 0) (t : Fin N) (e : Fin m) :
    Host.reduceWindow (fun a b : α => a + b) ![N, 1] ![1, 1] ![M, 0] ![0, 0] x init h hu (ix2 t e)
      = ∑ n : Fin N, if n ≤ t then x (ix2 n e) else 0 := by
  unfold Host.reduceWindow
  dsimp only
  rw [foldl_sum, h0, zero_add, ← sum_upto hN (fun n => x (ix2 n e)) t]
  rw [← Fin.sum_univ_def]
  refine Fintype.sum_equiv (finCongr (numel_col N)) _ _ fun n => ?_
  have hw0 : (((⟨2, ![N, 1]⟩ : Shape).rowMajor.symm n) 0).val = n.val := congrArg (fun i : (shape2 N 1).Idx => (i 0).val) (symm_col n)
  have hw1 : (((⟨2, ![N, 1]⟩ : Shape).rowMajor.symm n) 1).val = 0 := congrArg (fun i : (shape2 N 1).Idx => (i 1).val) (symm_col n)
  have hn : n.val < N := (n.cast (numel_col N)).isLt
  split
  · next hin =>
    have a0 := hin 0
    change M ≤ t.val * 1 + (((⟨2, ![N, 1]⟩ : Shape).rowMajor.symm n) 0).val ∧ t.val * 1 + (((⟨2, ![N, 1]⟩ : Shape).rowMajor.symm n) 0).val - M < N at a0
    rw [hw0, Nat.mul_one] at a0
    refine Eq.trans ?_ (dif_pos a0).symm
    refine congrArg x (funext fun a => Fin.ext ?_)
    match a with
    | ⟨0, _⟩ =>
      show t.val * 1 + (((⟨2, ![N, 1]⟩ : Shape).rowMajor.symm n) 0).val - M = t.val + n.val - M
      rw [hw0, Nat.mul_one]
    | ⟨1, _⟩ =>
      show e.val * 1 + (((⟨2, ![N, 1]⟩ : Shape).rowMajor.symm n) 1).val - 0 = e.val
      rw [hw1]; omega
  · next hin =>
    refine Eq.symm (dif_neg fun a0 => hin fun a => ?_)
    change M ≤ t.val + n.val ∧ t.val + n.val - M < N at a0
    match a with
    | ⟨0, _⟩ =>
      show M ≤ t.val * 1 + (((⟨2, ![N, 1]⟩ : Shape).rowMajor.symm n) 0).val ∧ t.val * 1 + (((⟨2, ![N, 1]⟩ : Shape).rowMajor.symm n) 0).val - M < N
      rw [hw0, Nat.mul_one]; exact a0
    | ⟨1, _⟩ =>
      show 0 ≤ e.val * 1 + (((⟨2, ![N, 1]⟩ : Shape).rowMajor.symm n) 1).val ∧ e.val * 1 + (((⟨2, ![N, 1]⟩ : Shape).rowMajor.symm n) 1).val - 0 < m
      rw [hw1]
      have := e.isLt
      omega

/-- The same of exact floats. -/
theorem cumsumF_at {N M m : ℕ} (hN : M + 1 = N) (x : FVec Ideal (shape2 N m) .f32) {u : Shape} (init : FVec Ideal u .f32)
    (h : (shape2 N m).ReduceWindows (![N, 1] : Fin 2 → ℕ) ![1, 1] ![M, 0] ![0, 0] (shape2 N m)) (hu : 0 < u.numel)
    (h0 : (init (Shape.Idx.first hu) : EReal) = 0) (t : Fin N) (e : Fin m) :
    Host.reduceWindowAdd ![N, 1] ![1, 1] ![M, 0] ![0, 0] x init h hu (ix2 t e)
      = ∑ n : Fin N, if n ≤ t then (x (ix2 n e) : EReal) else 0 :=
  cumsum_at (α := EReal) hN x (u := u) (fun _ => init (Shape.Idx.first hu)) h hu h0 t e

/-- How many rows down to `t` have the property. -/
def upto {n : ℕ} (P : Fin n → Prop) [DecidablePred P] (t : Fin n) : ℕ := (Finset.univ.filter fun t' => t' ≤ t ∧ P t').card

theorem upto_eq {n : ℕ} (P : Fin n → Prop) [DecidablePred P] (t : Fin n) : upto P t = rank P t + if P t then 1 else 0 := by
  unfold upto rank
  by_cases h : P t
  · rw [if_pos h, ← Finset.card_insert_of_notMem (a := t) (by simp)]
    refine congrArg Finset.card (Finset.ext fun a => ?_)
    simp only [Finset.mem_filter, Finset.mem_univ, true_and, Finset.mem_insert, le_iff_lt_or_eq]
    constructor
    · rintro ⟨h1 | h1, h2⟩
      · exact Or.inr ⟨h1, h2⟩
      · exact Or.inl h1
    · rintro (h1 | ⟨h1, h2⟩)
      · subst h1; exact ⟨Or.inr rfl, h⟩
      · exact ⟨Or.inl h1, h2⟩
  · rw [if_neg h, Nat.add_zero]
    refine congrArg Finset.card (Finset.ext fun a => ?_)
    simp only [Finset.mem_filter, Finset.mem_univ, true_and]
    constructor
    · rintro ⟨h1, h2⟩
      exact ⟨lt_of_le_of_ne h1 fun hh => h (hh ▸ h2), h2⟩
    · rintro ⟨h1, h2⟩
      exact ⟨h1.le, h2⟩

theorem upto_le {n : ℕ} (P : Fin n → Prop) [DecidablePred P] (t : Fin n) : upto P t ≤ n :=
  (Finset.card_le_univ _).trans (by simp)

/-- A running sum of marks counts. -/
theorem sum_upto_mark {n : ℕ} (P : Fin n → Prop) [DecidablePred P] (t : Fin n) :
    ∑ t', (if t' ≤ t then mark (P t') else 0) = ((upto P t : ℕ) : EReal) := by
  unfold mark upto
  simp only [← ite_and]
  rw [Finset.sum_ite, Finset.sum_const_zero, add_zero, Finset.sum_const]
  simp

/-- So does one of words. -/
theorem sum_upto_word {n : ℕ} (P : Fin n → Prop) [DecidablePred P] (t : Fin n) :
    ∑ t', (if t' ≤ t then (if P t' then 1#32 else 0#32) else 0) = BitVec.ofNat 32 (upto P t) := by
  unfold upto
  rw [show (0#32 : BitVec 32) = 0 from rfl]
  simp only [← ite_and]
  rw [Finset.sum_ite, Finset.sum_const_zero, add_zero, Finset.sum_const]
  show _ • (1 : BitVec 32) = _
  rw [nsmul_eq_mul, mul_one]
  rfl

/-- The running sum of a vector's marks, as words. -/
theorem cumsum_vec {N M : ℕ} (hN : M + 1 = N) (P : Fin N → Prop) [DecidablePred P] (x : IVec (shape1 N) 32)
    (hx : ∀ i, x (ix1 i) = if P i then 1#32 else 0#32) (init : IVec shape0 32) (hi : init ix0 = 0#32)
    (h : (shape1 N).ReduceWindows (![N] : Fin 1 → ℕ) ![1] ![M] ![0] (shape1 N)) (hu : 0 < shape0.numel) (j : Fin N) :
    Host.reduceWindow IntOp.addi ![N] ![1] ![M] ![0] x init h hu (ix1 j) = BitVec.ofNat 32 (upto P j) := by
  refine (Routing.cumsum1 hN x (fun n => if h : n < N then if P ⟨n, h⟩ then 1 else 0 else 0) (fun i => ?_) init hi h hu j).trans
    (congrArg (BitVec.ofNat 32) ?_)
  · refine (hx i).trans ?_
    rw [dif_pos i.isLt]
    by_cases hp : P i
    · rw [if_pos hp, if_pos hp]
    · rw [if_neg hp, if_neg hp]
  · unfold upto
    rw [Finset.card_filter]
    have h2 : ∀ n : Fin N, (if n ≤ j ∧ P n then 1 else 0)
        = (fun n : ℕ => if n ≤ j.val then (if h : n < N then if P ⟨n, h⟩ then 1 else 0 else 0) else 0) n.val := by
      intro n
      simp only [dif_pos n.isLt, ite_and]
      rfl
    rw [Finset.sum_congr rfl fun n _ => h2 n,
      Fin.sum_univ_eq_sum_range (fun n : ℕ => if n ≤ j.val then (if h : n < N then if P ⟨n, h⟩ then 1 else 0 else 0) else 0),
      ← Finset.sum_filter, ← List.sum_toFinset _ List.nodup_range]
    refine Finset.sum_congr (Finset.ext fun a => ?_) fun _ _ => rfl
    have := j.isLt
    simp only [List.mem_toFinset, List.mem_range, Finset.mem_filter, Finset.mem_range]
    omega

end Cert.Moe

end
-- ==== Proof.Words.lean ====
module

public import proofs.«01_k».proof.Proof.Cumul
public import Idealize.ShloMosaic.Lib.Routing.Words

@[expose] public section

set_option maxRecDepth 16384

noncomputable section

namespace Cert.Moe

open Idealize.ShloMosaic Idealize.ShloMosaic.Routing

/-! # The host's word arithmetic -/

/-- The bit of a condition. -/
def bit (p : Prop) [Decidable p] : BitVec 1 := if p then 1#1 else 0#1

theorem bit_eq_one (p : Prop) [Decidable p] : bit p = 1#1 ↔ p := by
  unfold bit
  by_cases h : p
  · simp [h]
  · simp [h]

theorem and_bit (a b : BitVec 32) (y : BitVec 1) : IntOp.andi (IntOp.cmpi .eq a b) y = bit (a = b ∧ y = 1#1) := by
  rw [cmpi_eq_mark]
  unfold bit
  by_cases h : a = b
  · rw [if_pos h]
    by_cases hy : y = 1#1
    · rw [if_pos ⟨h, hy⟩, hy]; rfl
    · rw [if_neg fun hh => hy hh.2, (by revert y; decide : y ≠ 1#1 → y = 0#1) hy]; rfl
  · rw [if_neg h, if_neg fun hh => h hh.1]
    exact BitVec.zero_and ..

theorem wide_bit (p : Prop) [Decidable p] : (bit p).setWidth 32 = if p then 1#32 else 0#32 := by
  unfold bit
  by_cases h : p
  · rw [if_pos h, if_pos h]; rfl
  · rw [if_neg h, if_neg h]; rfl

theorem select_bit {α : Type} (y : BitVec 1) (a b : α) : Scalar.select y a b = if y = 1#1 then a else b := by
  by_cases h : y = 1#1
  · rw [if_pos h, h]; rfl
  · rw [if_neg h, (by revert y; decide : y ≠ 1#1 → y = 0#1) h]; rfl

theorem room_bit (x y : EReal) (h : x = y) :
    BitVec.ofBool (decide (x < Ideal.ofBits .f32 1129054208#32)) = bit (y < ((204 : ℕ) : EReal)) := by
  subst h
  rw [show Ideal.ofBits .f32 1129054208#32 = ((204 : ℕ) : EReal) from cap_eq]
  unfold bit
  by_cases h : x < ((204 : ℕ) : EReal)
  · rw [if_pos h, decide_eq_true h]; rfl
  · rw [if_neg h, decide_eq_false h]; rfl

/-- The remainder by eight, as the host computes it. -/
def rem8 (x : BitVec 32) : BitVec 32 :=
  Scalar.select (IntOp.andi (IntOp.cmpi .ne (IntOp.cmpi .slt (IntOp.remsi .host x 8#32) 0#32) (IntOp.cmpi .slt 8#32 0#32))
      (IntOp.cmpi .ne (IntOp.remsi .host x 8#32) 0#32))
    (IntOp.addi (IntOp.remsi .host x 8#32) 8#32) (IntOp.remsi .host x 8#32)

/-- The quotient by eight rounded down, as the host computes it. -/
def div8 (x : BitVec 32) : BitVec 32 :=
  Scalar.select (IntOp.andi (IntOp.cmpi .ne (if x = 0 then 0 else if x.msb = true then -1 else 1) (1#32))
      (IntOp.cmpi .ne (IntOp.remsi .host x 8#32) 0#32))
    (IntOp.subi (IntOp.divsi .host x 8#32) 1#32) (IntOp.divsi .host x 8#32)

theorem rem8_eq (x : BitVec 32) (h : x.toNat < 32) : rem8 x = BitVec.ofNat 32 (x.toNat % 8) := by
  obtain ⟨a, ha, rfl⟩ : ∃ a : ℕ, a < 32 ∧ x = BitVec.ofNat 32 a := ⟨x.toNat, h, by simp⟩
  have e : (BitVec.ofNat 32 a).toNat = a := by rw [BitVec.toNat_ofNat]; exact Nat.mod_eq_of_lt (by omega)
  unfold rem8
  rw [e, show (8#32 : BitVec 32) = BitVec.ofNat 32 8 from rfl, remsi_word .host (by omega) (by omega) (by omega)]
  have hb : a % 8 < 8 := Nat.mod_lt _ (by omega)
  generalize a % 8 = b at hb
  interval_cases b <;> rfl

theorem corner8 (x : BitVec 32) : ¬ IntOp.SDivCorner x 8#32 := by
  rintro (h | ⟨_, h⟩)
  · exact absurd h (by decide)
  · exact absurd h (by decide)

theorem div8_small (x : BitVec 32) (h : x.toNat < 2 ^ 31) : div8 x = BitVec.ofNat 32 (x.toNat / 8) := by
  obtain ⟨a, ha, rfl⟩ : ∃ a : ℕ, a < 2 ^ 31 ∧ x = BitVec.ofNat 32 a := ⟨x.toNat, h, by simp⟩
  have e : (BitVec.ofNat 32 a).toNat = a := by rw [BitVec.toNat_ofNat]; exact Nat.mod_eq_of_lt (by omega)
  unfold div8
  rw [e, show (8#32 : BitVec 32) = BitVec.ofNat 32 8 from rfl, remsi_word .host ha (by omega) (by omega),
    divsi_word .host ha (by omega) (by omega)]
  have hm : (BitVec.ofNat 32 a).msb = false := msb_ofNat32 ha
  rw [hm]
  by_cases h0 : BitVec.ofNat 32 a = 0
  · have : a = 0 := by
      have := congrArg BitVec.toNat h0
      rw [e] at this
      simpa using this
    subst this
    rfl
  · rw [if_neg h0]
    exact select_zero_and _ _ _

theorem div8_neg (x : BitVec 32) (h : 2 ^ 31 ≤ x.toNat) : (div8 x).toInt < 0 := by
  have hx : x.toInt < 0 := by
    rw [BitVec.toInt_eq_toNat_cond]; have := x.isLt; split <;> omega
  have hlo : -(2 ^ 31 : ℤ) ≤ x.toInt := by
    rw [BitVec.toInt_eq_toNat_cond]; have := x.isLt; split <;> omega
  have hm : x.msb = true := by rw [BitVec.msb_eq_decide]; exact decide_eq_true h
  have h0 : x ≠ 0 := by rintro rfl; exact absurd hx (by decide)
  have hd : (IntOp.divsi .host x 8#32).toInt = x.toInt.tdiv 8 := by
    unfold IntOp.divsi
    rw [if_neg (corner8 x), BitVec.toInt_sdiv_of_ne_or_ne _ _ (Or.inr (by decide))]
    rfl
  have hr : (IntOp.remsi .host x 8#32).toInt = x.toInt.tmod 8 := by
    unfold IntOp.remsi
    rw [if_neg (corner8 x), BitVec.toInt_srem]
    rfl
  have ht : x.toInt.tdiv 8 = -((-x.toInt) / 8) := by
    conv_lhs => rw [← Int.neg_neg x.toInt, Int.neg_tdiv, Int.tdiv_eq_ediv_of_nonneg (by omega)]
  have hs : x.toInt.tmod 8 = x.toInt - 8 * x.toInt.tdiv 8 := Int.tmod_def ..
  unfold div8
  rw [if_neg h0, hm, if_pos rfl, select_bit]
  split
  · next hc =>
    show (IntOp.divsi .host x 8#32 - 1#32).toInt < 0
    rw [BitVec.toInt_sub, hd, show (1#32 : BitVec 32).toInt = 1 from rfl]
    rw [Int.bmod_eq_of_le (by omega) (by omega)]
    omega
  · next hc =>
    rw [hd]
    by_contra hn
    refine hc ?_
    have hz : IntOp.remsi .host x 8#32 ≠ 0#32 := by
      intro hz
      rw [hz] at hr
      have : (0#32 : BitVec 32).toInt = 0 := rfl
      omega
    have : IntOp.cmpi .ne (IntOp.remsi .host x 8#32) 0#32 = 1#1 := by
      show BitVec.ofBool (IntOp.remsi .host x 8#32 != 0#32) = 1#1
      rw [bne_iff_ne.mpr hz]
      rfl
    rw [this]
    rfl

/-- A quotient of eight is that of the word read as a number, for the quotients that name a device. -/
theorem div8_iff (x : BitVec 32) (d : ℕ) (hd : d < 4) : div8 x = BitVec.ofNat 32 d ↔ x.toNat / 8 = d := by
  rcases Nat.lt_or_ge x.toNat (2 ^ 31) with h | h
  · rw [div8_small x h, ofNat_inj32 (by omega) (by omega)]
  · constructor
    · intro e
      have := div8_neg x h
      rw [e] at this
      interval_cases d <;> exact absurd this (by decide)
    · intro e
      omega

theorem sitofp_nat (n : ℕ) (h : n < 2 ^ 31) : (FloatOps.sitofp .f32 (BitVec.ofNat 32 n) : Ideal .f32) = ((n : ℕ) : EReal) := by
  show ((((BitVec.ofNat 32 n).toInt : ℤ) : ℝ) : EReal) = _
  rw [BitVec.toInt_eq_toNat_of_lt (by rw [BitVec.toNat_ofNat, Nat.mod_eq_of_lt (by omega)]; omega), BitVec.toNat_ofNat,
    Nat.mod_eq_of_lt (by omega)]
  simp
theorem sitofp_neg : (FloatOps.sitofp .f32 (4294967295#32 : BitVec 32) : Ideal .f32) = ((-1 : ℝ) : EReal) := by
  show ((((4294967295#32 : BitVec 32).toInt : ℤ) : ℝ) : EReal) = _
  rw [show (4294967295#32 : BitVec 32).toInt = -1 by decide]
  simp

theorem uitofp_mark (a b : BitVec 32) : (FloatOps.uitofp .f32 (IntOp.cmpi .eq a b) : Ideal .f32) = mark (a = b) := by
  show ((((IntOp.cmpi .eq a b).toNat : ℕ) : ℝ) : EReal) = _
  rw [cmpi_eq_mark]
  unfold mark
  by_cases h : a = b
  · rw [if_pos h, if_pos h]; simp
  · rw [if_neg h, if_neg h]; simp

/-- A token's place as the host computes it: one less than the running count, or minus one. -/
theorem place_word {n : ℕ} (hn : n < 2 ^ 31) (P : Fin n → Prop) [DecidablePred P] (t : Fin n) :
    (FloatOps.sitofp .f32 (if P t then BitVec.ofNat 32 (upto P t) - 1#32 else 4294967295#32) : Ideal .f32)
      = if P t then ((rank P t : ℕ) : EReal) else ((-1 : ℝ) : EReal) := by
  by_cases h : P t
  · rw [if_pos h, if_pos h, upto_eq, if_pos h, BitVec.ofNat_add, show (BitVec.ofNat 32 1) = 1#32 from rfl, BitVec.add_sub_cancel,
      sitofp_nat]
    have := rank_le P t
    omega
  · rw [if_neg h, if_neg h, sitofp_neg]

end Cert.Moe

end
-- ==== Proof.HostA.lean ====
module

public import proofs.«01_k».proof.Proof.Words
public import proofs.«01_k».proof.Proof.Region

@[expose] public section

set_option maxRecDepth 16384

noncomputable section

namespace Cert.Moe

open Cert.KernelIdeal Cert.KernelIdeal.Gen
open Idealize.ShloMosaic Idealize.ShloMosaic.TcCoe

/-! # What each stretch of the host's operations leaves, entry by entry -/

variable (V : Valuation τ sig (Elt Ideal)) (c : Dev nD)

theorem h0_v5 (t : Fin 2048) : StableHlo.after (hostOps0 (F := Ideal) c) V main_v5 (ix1 t) = V main_arg2 (ix2 t 0) := by
  refine (congrFun (show StableHlo.after (hostOps0 (F := Ideal) c) V main_v5 = _ by
    simp only [hostOps0]
    after_results) (ix1 t)).trans ?_
  pointwise

theorem h0_v12 (t : Fin 2048) (e : Fin 32) : StableHlo.after (hostOps0 (F := Ideal) c) V main_v12 (ix2 t e)
    = mark (V main_arg2 (ix2 t 0) = BitVec.ofNat 32 e.val) := by
  refine (congrFun (show StableHlo.after (hostOps0 (F := Ideal) c) V main_v12 = _ by
    simp only [hostOps0]
    after_results) (ix2 t e)).trans ?_
  pointwise
  exact uitofp_mark _ _

theorem h1_v13 (g : Fin 2048 → Fin 32 → EReal) (hg : ∀ t e, V main_v12 (ix2 t e) = g t e) (t : Fin 2048) (e : Fin 32) :
    StableHlo.after (hostOps0_1 (F := Ideal)) V main_v13 (ix2 t e) = ∑ n : Fin 2048, if n ≤ t then g n e else 0 := by
  refine (congrFun (show StableHlo.after (hostOps0_1 (F := Ideal)) V main_v13 = _ by
    simp only [hostOps0_1, StableHlo.TRef.binary, StableHlo.TRef.nullary, StableHlo.TRef.ternary, StableHlo.TRef.unary, StableHlo.TRef.toBuf, StableHlo.TRef.ofBuf, cast_eq]
    after_results) (ix2 t e)).trans ?_
  refine (cumsumF_at (by rfl) _ _ _ _ ?_ t e).trans (Finset.sum_congr rfl fun n _ => ?_)
  · pointwise
  · exact if_congr Iff.rfl (hg n e) rfl

theorem h2_v16 (g k : Fin 2048 → Fin 32 → EReal) (hg : ∀ t e, V main_v12 (ix2 t e) = g t e) (hk : ∀ t e, V main_v13 (ix2 t e) = k t e)
    (t : Fin 2048) : StableHlo.after (hostOps0_2 (F := Ideal)) V main_v16 (ix1 t) = ∑ e : Fin 32, (k t e - g t e) * g t e := by
  refine (congrFun (show StableHlo.after (hostOps0_2 (F := Ideal)) V main_v16 = _ by
    simp only [hostOps0_2]
    after_results) (ix1 t)).trans ?_
  pointwise
  refine Finset.sum_congr (M := EReal) rfl fun e _ => ?_
  rw [hg, hk]

theorem h2_c : StableHlo.after (hostOps0_2 (F := Ideal)) V main_c_1 = constantI S_ 32 8#32 := by
  simp only [hostOps0_2]
  after_results

theorem h3_v17 (hc : V main_c_1 = constantI S_ 32 8#32) (t : Fin 2048) :
    StableHlo.after (hostOps0_3 (F := Ideal)) V main_v17 (ix1 t) = rem8 (V main_v5 (ix1 t)) := by
  refine (congrFun (show StableHlo.after (hostOps0_3 (F := Ideal)) V main_v17 = _ by
    simp only [hostOps0_3, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  rfl

theorem h4_v18 (t : Fin 2048) : StableHlo.after (hostOps0_4 (F := Ideal)) V main_v18 (ix1 t)
    = (FloatOps.sitofp .f32 (V main_v17 (ix1 t)) : Ideal .f32) := by
  refine (congrFun (show StableHlo.after (hostOps0_4 (F := Ideal)) V main_v18 = _ by
    simp only [hostOps0_4]
    after_results) (ix1 t)).trans ?_
  pointwise

theorem h4_c : StableHlo.after (hostOps0_4 (F := Ideal)) V main_c_2 = constantI S_ 32 8#32 := by
  simp only [hostOps0_4]
  after_results

theorem h5_v19 (hc : V main_c_2 = constantI S_ 32 8#32) (t : Fin 2048) :
    StableHlo.after (hostOps0_5 (F := Ideal)) V main_v19 (ix1 t) = div8 (V main_v5 (ix1 t)) := by
  refine (congrFun (show StableHlo.after (hostOps0_5 (F := Ideal)) V main_v19 = _ by
    simp only [hostOps0_5, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  rfl

theorem h6_v21 (g : Fin 2048 → EReal) (hg : ∀ t, V main_v16 (ix1 t) = g t) (t : Fin 2048) :
    StableHlo.after (hostOps0_6 (F := Ideal)) V main_v21 (ix1 t) = bit (g t < ((204 : ℕ) : EReal)) := by
  refine (congrFun (show StableHlo.after (hostOps0_6 (F := Ideal)) V main_v21 = _ by
    simp only [hostOps0_6]
    after_results) (ix1 t)).trans ?_
  pointwise
  exact room_bit _ _ (hg t)

theorem h6_v22 : StableHlo.after (hostOps0_6 (F := Ideal)) V main_v22 = V main_arg0 := by
  refine (show StableHlo.after (hostOps0_6 (F := Ideal)) V main_v22 = _ by
    simp only [hostOps0_6]
    after_results).trans ?_
  funext i
  pointwise

theorem h6_v27 : StableHlo.after (hostOps0_6 (F := Ideal)) V main_v27
    = (concatenate S2048x2 1 [⟨S2048x1, broadcastInDim S2048x1 ![0] bcast_S2048_S2048x1_0
          (addf (F := Ideal) (V main_v18) (broadcastInDim S2048 ![] bcast_S_S2048 (constant S_ .f32 0x3F800000#32)))⟩,
        ⟨S2048x1, broadcastInDim S2048x1 ![0] bcast_S2048_S2048x1_0 (V main_v16)⟩] concatenates_S2048x1_S2048x1_S2048x2_d1 : FVec Ideal S2048x2 .f32) := by
  simp only [hostOps0_6]
  after_results

theorem h6_v27a (g : Fin 2048 → EReal) (hg : ∀ t, V main_v18 (ix1 t) = g t) (t : Fin 2048) :
    StableHlo.after (hostOps0_6 (F := Ideal)) V main_v27 (ix2 t (0 : Fin 2)) = g t + 1 := by
  rw [h6_v27]
  pointwise
  rw [hg]

theorem h6_v27b (t : Fin 2048) : StableHlo.after (hostOps0_6 (F := Ideal)) V main_v27 (ix2 t (1 : Fin 2)) = V main_v16 (ix1 t) := by
  rw [h6_v27]
  pointwise

theorem h6_v30 (g : Fin 2048 → EReal) (hg : ∀ t, V main_v16 (ix1 t) = g t) (t : Fin 2048) :
    StableHlo.after (hostOps0_6 (F := Ideal)) V main_v30 (ix1 t)
      = bit (V main_v19 (ix1 t) = BitVec.ofNat 32 0 ∧ bit (g t < ((204 : ℕ) : EReal)) = 1#1) := by
  refine (congrFun (show StableHlo.after (hostOps0_6 (F := Ideal)) V main_v30 = _ by
    simp only [hostOps0_6]
    after_results) (ix1 t)).trans ?_
  pointwise
  rw [room_bit _ _ (hg t)]
  exact and_bit _ _ _

theorem h6_v31 (g : Fin 2048 → EReal) (hg : ∀ t, V main_v16 (ix1 t) = g t) (t : Fin 2048) :
    StableHlo.after (hostOps0_6 (F := Ideal)) V main_v31 (ix1 t)
      = if V main_v19 (ix1 t) = BitVec.ofNat 32 0 ∧ bit (g t < ((204 : ℕ) : EReal)) = 1#1 then 1#32 else 0#32 := by
  refine (congrFun (show StableHlo.after (hostOps0_6 (F := Ideal)) V main_v31 = _ by
    simp only [hostOps0_6]
    after_results) (ix1 t)).trans ?_
  pointwise
  rw [room_bit _ _ (hg t)]
  exact (congrArg (BitVec.setWidth 32) (and_bit _ _ _)).trans (wide_bit _)

/-! ## The places on device 0 -/

theorem h7_v32 (P : Fin 2048 → Prop) [DecidablePred P] (hP : ∀ t, V main_v31 (ix1 t) = if P t then 1#32 else 0#32) (t : Fin 2048) :
    StableHlo.after (hostOps0_7 (F := Ideal)) V main_v32 (ix1 t) = BitVec.ofNat 32 (upto P t) := by
  refine (congrFun (show StableHlo.after (hostOps0_7 (F := Ideal)) V main_v32 = _ by
    simp only [hostOps0_7, StableHlo.TRef.binary, StableHlo.TRef.nullary, StableHlo.TRef.ternary, StableHlo.TRef.unary, StableHlo.TRef.toBuf, StableHlo.TRef.ofBuf, cast_eq]
    after_results) (ix1 t)).trans ?_
  exact cumsum_vec (by rfl) P _ hP _ rfl _ _ t

theorem h8_v34 (t : Fin 2048) : StableHlo.after (hostOps0_8 (F := Ideal)) V main_v34 (ix1 t)
    = IntOp.subi (V main_v32 (ix1 t)) 1#32 := by
  refine (congrFun (show StableHlo.after (hostOps0_8 (F := Ideal)) V main_v34 = _ by
    simp only [hostOps0_8]
    after_results) (ix1 t)).trans ?_
  pointwise

theorem h8_c : StableHlo.after (hostOps0_8 (F := Ideal)) V main_c_7 = constantI S_ 32 4294967295#32 := by
  simp only [hostOps0_8]
  after_results

theorem h9_v35 (hc : V main_c_7 = constantI S_ 32 4294967295#32) (t : Fin 2048) :
    StableHlo.after (hostOps0_9 (F := Ideal)) V main_v35 (ix1 t)
      = if V main_v30 (ix1 t) = 1#1 then V main_v34 (ix1 t) else 4294967295#32 := by
  refine (congrFun (show StableHlo.after (hostOps0_9 (F := Ideal)) V main_v35 = _ by
    simp only [hostOps0_9, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  exact select_bit _ _ _

theorem h10_v36 (t : Fin 2048) : StableHlo.after (hostOps0_10 (F := Ideal)) V main_v36 (ix1 t)
    = (FloatOps.sitofp .f32 (V main_v35 (ix1 t)) : Ideal .f32) := by
  refine (congrFun (show StableHlo.after (hostOps0_10 (F := Ideal)) V main_v36 = _ by
    simp only [hostOps0_10]
    after_results) (ix1 t)).trans ?_
  pointwise

/-! ## The places on device 1 -/

theorem h10_v39 (t : Fin 2048) : StableHlo.after (hostOps0_10 (F := Ideal)) V main_v39 (ix1 t)
    = bit (V main_v19 (ix1 t) = BitVec.ofNat 32 1 ∧ V main_v21 (ix1 t) = 1#1) := by
  refine (congrFun (show StableHlo.after (hostOps0_10 (F := Ideal)) V main_v39 = _ by
    simp only [hostOps0_10]
    after_results) (ix1 t)).trans ?_
  pointwise
  exact and_bit _ _ _

theorem h10_v40 (t : Fin 2048) : StableHlo.after (hostOps0_10 (F := Ideal)) V main_v40 (ix1 t)
    = if V main_v19 (ix1 t) = BitVec.ofNat 32 1 ∧ V main_v21 (ix1 t) = 1#1 then 1#32 else 0#32 := by
  refine (congrFun (show StableHlo.after (hostOps0_10 (F := Ideal)) V main_v40 = _ by
    simp only [hostOps0_10]
    after_results) (ix1 t)).trans ?_
  pointwise
  exact (congrArg (BitVec.setWidth 32) (and_bit _ _ _)).trans (wide_bit _)

theorem h11_v41 (P : Fin 2048 → Prop) [DecidablePred P] (hP : ∀ t, V main_v40 (ix1 t) = if P t then 1#32 else 0#32) (t : Fin 2048) :
    StableHlo.after (hostOps0_11 (F := Ideal)) V main_v41 (ix1 t) = BitVec.ofNat 32 (upto P t) := by
  refine (congrFun (show StableHlo.after (hostOps0_11 (F := Ideal)) V main_v41 = _ by
    simp only [hostOps0_11, StableHlo.TRef.binary, StableHlo.TRef.nullary, StableHlo.TRef.ternary, StableHlo.TRef.unary, StableHlo.TRef.toBuf, StableHlo.TRef.ofBuf, cast_eq]
    after_results) (ix1 t)).trans ?_
  exact cumsum_vec (by rfl) P _ hP _ rfl _ _ t

theorem h12_v43 (t : Fin 2048) : StableHlo.after (hostOps0_12 (F := Ideal)) V main_v43 (ix1 t)
    = IntOp.subi (V main_v41 (ix1 t)) 1#32 := by
  refine (congrFun (show StableHlo.after (hostOps0_12 (F := Ideal)) V main_v43 = _ by
    simp only [hostOps0_12]
    after_results) (ix1 t)).trans ?_
  pointwise

theorem h12_c : StableHlo.after (hostOps0_12 (F := Ideal)) V main_c_10 = constantI S_ 32 4294967295#32 := by
  simp only [hostOps0_12]
  after_results

theorem h13_v44 (hc : V main_c_10 = constantI S_ 32 4294967295#32) (t : Fin 2048) :
    StableHlo.after (hostOps0_13 (F := Ideal)) V main_v44 (ix1 t)
      = if V main_v39 (ix1 t) = 1#1 then V main_v43 (ix1 t) else 4294967295#32 := by
  refine (congrFun (show StableHlo.after (hostOps0_13 (F := Ideal)) V main_v44 = _ by
    simp only [hostOps0_13, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  exact select_bit _ _ _

theorem h14_v45 (t : Fin 2048) : StableHlo.after (hostOps0_14 (F := Ideal)) V main_v45 (ix1 t)
    = (FloatOps.sitofp .f32 (V main_v44 (ix1 t)) : Ideal .f32) := by
  refine (congrFun (show StableHlo.after (hostOps0_14 (F := Ideal)) V main_v45 = _ by
    simp only [hostOps0_14]
    after_results) (ix1 t)).trans ?_
  pointwise

/-! ## The places on device 2 -/

theorem h14_v48 (t : Fin 2048) : StableHlo.after (hostOps0_14 (F := Ideal)) V main_v48 (ix1 t)
    = bit (V main_v19 (ix1 t) = BitVec.ofNat 32 2 ∧ V main_v21 (ix1 t) = 1#1) := by
  refine (congrFun (show StableHlo.after (hostOps0_14 (F := Ideal)) V main_v48 = _ by
    simp only [hostOps0_14]
    after_results) (ix1 t)).trans ?_
  pointwise
  exact and_bit _ _ _

theorem h14_v49 (t : Fin 2048) : StableHlo.after (hostOps0_14 (F := Ideal)) V main_v49 (ix1 t)
    = if V main_v19 (ix1 t) = BitVec.ofNat 32 2 ∧ V main_v21 (ix1 t) = 1#1 then 1#32 else 0#32 := by
  refine (congrFun (show StableHlo.after (hostOps0_14 (F := Ideal)) V main_v49 = _ by
    simp only [hostOps0_14]
    after_results) (ix1 t)).trans ?_
  pointwise
  exact (congrArg (BitVec.setWidth 32) (and_bit _ _ _)).trans (wide_bit _)

theorem h15_v50 (P : Fin 2048 → Prop) [DecidablePred P] (hP : ∀ t, V main_v49 (ix1 t) = if P t then 1#32 else 0#32) (t : Fin 2048) :
    StableHlo.after (hostOps0_15 (F := Ideal)) V main_v50 (ix1 t) = BitVec.ofNat 32 (upto P t) := by
  refine (congrFun (show StableHlo.after (hostOps0_15 (F := Ideal)) V main_v50 = _ by
    simp only [hostOps0_15, StableHlo.TRef.binary, StableHlo.TRef.nullary, StableHlo.TRef.ternary, StableHlo.TRef.unary, StableHlo.TRef.toBuf, StableHlo.TRef.ofBuf, cast_eq]
    after_results) (ix1 t)).trans ?_
  exact cumsum_vec (by rfl) P _ hP _ rfl _ _ t

theorem h16_v52 (t : Fin 2048) : StableHlo.after (hostOps0_16 (F := Ideal)) V main_v52 (ix1 t)
    = IntOp.subi (V main_v50 (ix1 t)) 1#32 := by
  refine (congrFun (show StableHlo.after (hostOps0_16 (F := Ideal)) V main_v52 = _ by
    simp only [hostOps0_16]
    after_results) (ix1 t)).trans ?_
  pointwise

theorem h16_c : StableHlo.after (hostOps0_16 (F := Ideal)) V main_c_13 = constantI S_ 32 4294967295#32 := by
  simp only [hostOps0_16]
  after_results

theorem h17_v53 (hc : V main_c_13 = constantI S_ 32 4294967295#32) (t : Fin 2048) :
    StableHlo.after (hostOps0_17 (F := Ideal)) V main_v53 (ix1 t)
      = if V main_v48 (ix1 t) = 1#1 then V main_v52 (ix1 t) else 4294967295#32 := by
  refine (congrFun (show StableHlo.after (hostOps0_17 (F := Ideal)) V main_v53 = _ by
    simp only [hostOps0_17, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  exact select_bit _ _ _

theorem h18_v54 (t : Fin 2048) : StableHlo.after (hostOps0_18 (F := Ideal)) V main_v54 (ix1 t)
    = (FloatOps.sitofp .f32 (V main_v53 (ix1 t)) : Ideal .f32) := by
  refine (congrFun (show StableHlo.after (hostOps0_18 (F := Ideal)) V main_v54 = _ by
    simp only [hostOps0_18]
    after_results) (ix1 t)).trans ?_
  pointwise

/-! ## The places on device 3 -/

theorem h18_v57 (t : Fin 2048) : StableHlo.after (hostOps0_18 (F := Ideal)) V main_v57 (ix1 t)
    = bit (V main_v19 (ix1 t) = BitVec.ofNat 32 3 ∧ V main_v21 (ix1 t) = 1#1) := by
  refine (congrFun (show StableHlo.after (hostOps0_18 (F := Ideal)) V main_v57 = _ by
    simp only [hostOps0_18]
    after_results) (ix1 t)).trans ?_
  pointwise
  exact and_bit _ _ _

theorem h18_v58 (t : Fin 2048) : StableHlo.after (hostOps0_18 (F := Ideal)) V main_v58 (ix1 t)
    = if V main_v19 (ix1 t) = BitVec.ofNat 32 3 ∧ V main_v21 (ix1 t) = 1#1 then 1#32 else 0#32 := by
  refine (congrFun (show StableHlo.after (hostOps0_18 (F := Ideal)) V main_v58 = _ by
    simp only [hostOps0_18]
    after_results) (ix1 t)).trans ?_
  pointwise
  exact (congrArg (BitVec.setWidth 32) (and_bit _ _ _)).trans (wide_bit _)

theorem h19_v59 (P : Fin 2048 → Prop) [DecidablePred P] (hP : ∀ t, V main_v58 (ix1 t) = if P t then 1#32 else 0#32) (t : Fin 2048) :
    StableHlo.after (hostOps0_19 (F := Ideal)) V main_v59 (ix1 t) = BitVec.ofNat 32 (upto P t) := by
  refine (congrFun (show StableHlo.after (hostOps0_19 (F := Ideal)) V main_v59 = _ by
    simp only [hostOps0_19, StableHlo.TRef.binary, StableHlo.TRef.nullary, StableHlo.TRef.ternary, StableHlo.TRef.unary, StableHlo.TRef.toBuf, StableHlo.TRef.ofBuf, cast_eq]
    after_results) (ix1 t)).trans ?_
  exact cumsum_vec (by rfl) P _ hP _ rfl _ _ t

theorem h20_v61 (t : Fin 2048) : StableHlo.after (hostOps0_20 (F := Ideal)) V main_v61 (ix1 t)
    = IntOp.subi (V main_v59 (ix1 t)) 1#32 := by
  refine (congrFun (show StableHlo.after (hostOps0_20 (F := Ideal)) V main_v61 = _ by
    simp only [hostOps0_20]
    after_results) (ix1 t)).trans ?_
  pointwise

theorem h20_c : StableHlo.after (hostOps0_20 (F := Ideal)) V main_c_16 = constantI S_ 32 4294967295#32 := by
  simp only [hostOps0_20]
  after_results

theorem h21_v62 (hc : V main_c_16 = constantI S_ 32 4294967295#32) (t : Fin 2048) :
    StableHlo.after (hostOps0_21 (F := Ideal)) V main_v62 (ix1 t)
      = if V main_v57 (ix1 t) = 1#1 then V main_v61 (ix1 t) else 4294967295#32 := by
  refine (congrFun (show StableHlo.after (hostOps0_21 (F := Ideal)) V main_v62 = _ by
    simp only [hostOps0_21, StableHlo.TRef.binary, StableHlo.TRef.nullary, StableHlo.TRef.ternary, StableHlo.TRef.unary, StableHlo.TRef.toBuf, StableHlo.TRef.ofBuf, cast_eq]
    after_results) (ix1 t)).trans ?_
  rw [hc]
  pointwise
  exact select_bit _ _ _

theorem h22_v63 (t : Fin 2048) : StableHlo.after (hostOps0_22 (F := Ideal)) V main_v63 (ix1 t)
    = (FloatOps.sitofp .f32 (V main_v62 (ix1 t)) : Ideal .f32) := by
  refine (congrFun (show StableHlo.after (hostOps0_22 (F := Ideal)) V main_v63 = _ by
    simp only [hostOps0_22]
    after_results) (ix1 t)).trans ?_
  pointwise

/-! ## The four rows of places, and the weights -/

theorem rows4 {a b d e a' b' d' e' : FVec Ideal S1x2048 .f32} (ha : a = a') (hb : b = b') (hd : d = d') (he : e = e') :
    concatenate S4x2048 0 [⟨S1x2048, a⟩, ⟨S1x2048, b⟩, ⟨S1x2048, d⟩, ⟨S1x2048, e⟩] concatenates_S1x2048_S1x2048_S1x2048_S1x2048_S4x2048_d0
      = concatenate S4x2048 0 [⟨S1x2048, a'⟩, ⟨S1x2048, b'⟩, ⟨S1x2048, d'⟩, ⟨S1x2048, e'⟩]
          concatenates_S1x2048_S1x2048_S1x2048_S1x2048_S4x2048_d0 := by
  subst ha hb hd he
  rfl

theorem h22_v68 : StableHlo.after (hostOps0_22 (F := Ideal)) V main_v68
    = (concatenate S4x2048 0 [⟨S1x2048, broadcastInDim S1x2048 ![1] bcast_S2048_S1x2048_1 (V main_v36)⟩,
        ⟨S1x2048, broadcastInDim S1x2048 ![1] bcast_S2048_S1x2048_1 (V main_v45)⟩,
        ⟨S1x2048, broadcastInDim S1x2048 ![1] bcast_S2048_S1x2048_1 (V main_v54)⟩,
        ⟨S1x2048, broadcastInDim S1x2048 ![1] bcast_S2048_S1x2048_1 (sitofp (F := Ideal) .f32 (V main_v62))⟩]
        concatenates_S1x2048_S1x2048_S1x2048_S1x2048_S4x2048_d0 : FVec Ideal S4x2048 .f32) := by
  simp only [hostOps0_22]
  after_results
  refine rows4 ?_ ?_ ?_ ?_
  · show HloOp.result _ _ (Proc.tc.devRef main_v64) = _
    repeat (first | rw [StableHlo.unary_result] | (rw [StableHlo.unary_result_ne]; rotate_left; decide))
  · show HloOp.result _ _ (Proc.tc.devRef main_v65) = _
    repeat (first | rw [StableHlo.unary_result] | (rw [StableHlo.unary_result_ne]; rotate_left; decide))
  · show HloOp.result _ _ (Proc.tc.devRef main_v66) = _
    repeat (first | rw [StableHlo.unary_result] | (rw [StableHlo.unary_result_ne]; rotate_left; decide))
  · show HloOp.result _ _ (Proc.tc.devRef main_v67) = _
    repeat (first | rw [StableHlo.unary_result] | (rw [StableHlo.unary_result_ne]; rotate_left; decide))

theorem h22_v69 : StableHlo.after (hostOps0_22 (F := Ideal)) V main_v69 = V main_arg3 := by
  refine (show StableHlo.after (hostOps0_22 (F := Ideal)) V main_v69 = _ by
    simp only [hostOps0_22]
    after_results).trans ?_
  funext i
  pointwise

theorem h22_v68_0 (t : Fin 2048) : StableHlo.after (hostOps0_22 (F := Ideal)) V main_v68 (ix2 (0 : Fin 4) t) = V main_v36 (ix1 t) := by
  rw [h22_v68]
  pointwise

theorem h22_v68_1 (t : Fin 2048) : StableHlo.after (hostOps0_22 (F := Ideal)) V main_v68 (ix2 (1 : Fin 4) t) = V main_v45 (ix1 t) := by
  rw [h22_v68]
  pointwise

theorem h22_v68_2 (t : Fin 2048) : StableHlo.after (hostOps0_22 (F := Ideal)) V main_v68 (ix2 (2 : Fin 4) t) = V main_v54 (ix1 t) := by
  rw [h22_v68]
  pointwise

theorem h22_v68_3 (t : Fin 2048) : StableHlo.after (hostOps0_22 (F := Ideal)) V main_v68 (ix2 (3 : Fin 4) t)
    = (FloatOps.sitofp .f32 (V main_v62 (ix1 t)) : Ideal .f32) := by
  rw [h22_v68]
  pointwise

end Cert.Moe

end
-- ==== Proof.Values.lean ====
module

public import proofs.«01_k».proof.Proof.Ranks

@[expose] public section

set_option maxRecDepth 16384

noncomputable section

namespace Cert.Moe

open Cert.KernelIdeal Cert.KernelIdeal.Gen
open Idealize.ShloMosaic Idealize.ShloMosaic.TcCoe

/-! # The kernel's result, entry by entry -/

/-- A whole number turned into a word is its word. -/
theorem fptosi_nat {n : ℕ} (h : n < 2 ^ 31) : Ideal.fptosi 32 ((n : ℕ) : EReal) = BitVec.ofNat 32 n := by
  have hc : ((n : ℕ) : EReal) = (((n : ℕ) : ℝ) : EReal) := rfl
  rw [hc]
  unfold Ideal.fptosi
  show BitVec.ofInt 32 (max (-(2 ^ 31 : ℕ)) (min (((2 ^ 31 : ℕ) : ℤ) - 1) (if (0 : ℝ) ≤ (n : ℝ) then ⌊(n : ℝ)⌋ else ⌈(n : ℝ)⌉))) = _
  rw [if_pos (Nat.cast_nonneg n), Int.floor_natCast, min_eq_right (by omega), max_eq_right (by omega)]
  exact BitVec.ofInt_natCast ..

/-- The word of minus one, which is no row's number. -/
theorem fptosi_neg {k : ℕ} (h : k < 2 ^ 31) : BitVec.ofNat 32 k ≠ Ideal.fptosi 32 (((-1 : ℝ)) : EReal) := by
  have : Ideal.fptosi 32 (((-1 : ℝ)) : EReal) = BitVec.ofNat 32 (2 ^ 32 - 1) := by
    unfold Ideal.fptosi
    show BitVec.ofInt 32 (max (-(2 ^ 31 : ℕ)) (min (((2 ^ 31 : ℕ) : ℤ) - 1) (if (0 : ℝ) ≤ (-1 : ℝ) then ⌊(-1 : ℝ)⌋ else ⌈(-1 : ℝ)⌉))) = _
    rw [if_neg (by norm_num), Int.ceil_eq_iff.mpr (show (((-1 : ℤ) : ℝ) - 1 < -1 ∧ (-1 : ℝ) ≤ ((-1 : ℤ) : ℝ)) by norm_num)]
    decide
  rw [this, Ne, ofNat_inj32 (by omega) (by norm_num)]
  omega

theorem mark_true {p : Prop} [Decidable p] (h : p) : mark p = 1 := if_pos h
theorem mark_false {p : Prop} [Decidable p] (h : ¬ p) : mark p = 0 := if_neg h

/-- A sum of marked terms of which one is marked. -/
theorem sum_one {n : ℕ} (a : Fin n → EReal) (f : Fin n → EReal) (t : Fin n) (ht : a t = 1) (h0 : ∀ t', t' ≠ t → a t' = 0) :
    ∑ t', a t' * f t' = f t := by
  rw [Finset.sum_eq_single t, ht, one_mul]
  · intro b _ hb; rw [h0 b hb, zero_mul]
  · intro h; exact absurd (Finset.mem_univ _) h

theorem sum_none {n : ℕ} (a : Fin n → EReal) (f : Fin n → EReal) (h0 : ∀ t', a t' = 0) : ∑ t', a t' * f t' = 0 :=
  Finset.sum_eq_zero fun t _ => by rw [h0 t, zero_mul]

/-- The marks of a condition add up to how often it holds. -/
theorem sum_mark {n : ℕ} (P : Fin n → Prop) [DecidablePred P] :
    ∑ t, mark (P t) = (((Finset.univ.filter P).card : ℕ) : EReal) := by
  unfold mark
  rw [Finset.sum_ite, Finset.sum_const_zero, add_zero, Finset.sum_const]
  simp

variable (I : Inp Idealize.ShloMosaic.Ideal) (R : Fin 4 → Fin 2048 → BitVec 32)

/-- What the host operations hand the kernel, `R` being the tokens' routes. -/
structure Holds : Prop where
  place : ∀ (p d : Fin 4) (t : Fin 2048), I.p p (ix2 d t) = if goes (R p) d.val t then ((place (R p) d.val t : ℕ) : EReal) else ((-1 : ℝ) : EReal)
  expert : ∀ (p : Fin 4) (t : Fin 2048), (R p t).toNat < 32 → I.l p (ix2 t 0) = (((R p t).toNat % 8 + 1 : ℕ) : EReal)
  pos : ∀ (p : Fin 4) (t : Fin 2048), (R p t).toNat < 32 → I.l p (ix2 t 1) = ((bef (R p) t : ℕ) : EReal)

variable {I R} (H : Holds I R) (hf : ∀ p, Fits (R p))

theorem rowV_at (p d : Fin 4) (t : Fin 2048) : rowV I p d (ix2 0 t) = I.p p (ix2 d t) :=
  congrArg (I.p p) (funext fun a => Fin.ext (by
    match a with
    | ⟨0, _⟩ => show d.val + 0 * 1 = d.val; omega
    | ⟨1, _⟩ => show 0 + 1 * t.val = t.val; omega))

theorem wV_at (p : Fin 4) (e : Fin 8) (j h : Fin 1024) : wV I p e (ix3 0 j h) = I.w p (ix3 e j h) :=
  congrArg (I.w p) (funext fun a => Fin.ext (by
    match a with
    | ⟨0, _⟩ => show e.val + 0 * 1 = e.val; omega
    | ⟨1, _⟩ => show 0 + 1 * j.val = j.val; omega
    | ⟨2, _⟩ => show 0 + 1 * h.val = h.val; omega))

include H in
/-- Row `k` is the token's exactly if the token is sent to `d` and its place is `k`. -/
theorem row_iff (p d : Fin 4) (k : Fin 768) (t : Fin 2048) :
    BitVec.ofNat 32 k.val = Ideal.fptosi 32 (rowV I p d (ix2 0 t)) ↔ goes (R p) d.val t ∧ place (R p) d.val t = k.val := by
  rw [rowV_at, H.place]
  by_cases hg : goes (R p) d.val t
  · have := rank_le (goes (R p) d.val) t
    rw [if_pos hg, fptosi_nat (by unfold place; omega), ofNat_inj32 (by omega) (by unfold place; omega)]
    exact ⟨fun h => ⟨hg, h.symm⟩, fun h => h.2.symm⟩
  · rw [if_neg hg]
    exact ⟨fun h => absurd h (fptosi_neg (by omega)), fun h => absurd h.1 hg⟩

include H in
theorem gd_at (p d : Fin 4) (k : Fin 768) (t : Fin 2048) :
    k0_pay9 (rowV I p d) (ix2 k t) = mark (goes (R p) d.val t ∧ place (R p) d.val t = k.val) := by
  rw [pay9_at]
  unfold mark
  simp only [row_iff H]

include H in
/-- A slab's row is the row of the token placed there, -/
theorem slab_row {α : ℕ} (x : Fin 2048 → EReal) (p d : Fin 4) (k : Fin 768) (t : Fin 2048) (ht : goes (R p) d.val t)
    (hk : place (R p) d.val t = k.val) : ∑ t, k0_pay9 (rowV I p d) (ix2 k t) * x t = x t := by
  refine sum_one _ _ t ?_ fun t' hne => ?_
  · rw [gd_at H]; exact mark_true ⟨ht, hk⟩
  · rw [gd_at H]; exact mark_false fun h => hne (place_inj _ h.1 ht (h.2.trans hk.symm))

include H in
/-- and zero where none is. -/
theorem slab_none (x : Fin 2048 → EReal) (p d : Fin 4) (k : Fin 768)
    (hk : ∀ t, goes (R p) d.val t → place (R p) d.val t ≠ k.val) : ∑ t, k0_pay9 (rowV I p d) (ix2 k t) * x t = 0 :=
  sum_none _ _ fun t => by rw [gd_at H]; exact mark_false fun h => hk t h.1 h.2

include H in
theorem xdV_row (p d : Fin 4) (k : Fin 768) (t : Fin 2048) (ht : goes (R p) d.val t) (hk : place (R p) d.val t = k.val)
    (j : Fin 1024) : xdV I p d (ix3 0 k j) = I.x p (ix2 t j) :=
  (pay10_at _ _ k j).trans (slab_row (α := 0) H (fun t => I.x p (ix2 t j)) p d k t ht hk)

theorem goes_lt {r : Fin 2048 → BitVec 32} {d : Fin 4} {t : Fin 2048} (h : goes r d.val t) : (r t).toNat < 32 := by
  have := h.1; omega

include H in
theorem md_expert (p d : Fin 4) (k : Fin 768) (t : Fin 2048) (ht : goes (R p) d.val t) (hk : place (R p) d.val t = k.val) :
    mdV I p d (ix3 0 k 0) = (((R p t).toNat % 8 + 1 : ℕ) : EReal) :=
  ((pay11_at _ _ k 0).trans (slab_row (α := 0) H (fun t => I.l p (ix2 t 0)) p d k t ht hk)).trans (H.expert p t (goes_lt ht))

include H in
theorem md_pos (p d : Fin 4) (k : Fin 768) (t : Fin 2048) (ht : goes (R p) d.val t) (hk : place (R p) d.val t = k.val) :
    mdV I p d (ix3 0 k 1) = ((bef (R p) t : ℕ) : EReal) :=
  ((pay11_at _ _ k 1).trans (slab_row (α := 0) H (fun t => I.l p (ix2 t 1)) p d k t ht hk)).trans (H.pos p t (goes_lt ht))

include H in
theorem md_none (p d : Fin 4) (k : Fin 768) (hk : ∀ t, goes (R p) d.val t → place (R p) d.val t ≠ k.val) :
    mdV I p d (ix3 0 k 0) = ((0 : ℕ) : EReal) := by
  refine ((pay11_at _ _ k 0).trans (slab_none H (fun t => I.l p (ix2 t 0)) p d k hk)).trans ?_
  simp

include H in
/-- A slab's row is of expert `e` exactly if a token of that expert is placed there. -/
theorem md_iff (p d : Fin 4) (k : Fin 768) (e : Fin 8) :
    Ideal.fptosi 32 (mdV I p d (ix3 0 k 0)) = BitVec.ofNat 32 (e.val + 1)
      ↔ ∃ t, (goes (R p) d.val t ∧ (R p t).toNat = 8 * d.val + e.val) ∧ place (R p) d.val t = k.val := by
  by_cases h : ∃ t, goes (R p) d.val t ∧ place (R p) d.val t = k.val
  · obtain ⟨t, ht, hk⟩ := h
    rw [md_expert H p d k t ht hk, fptosi_nat (by omega), ofNat_inj32 (by omega) (by omega)]
    have h1 := ht.1
    constructor
    · intro he; exact ⟨t, ⟨ht, by omega⟩, hk⟩
    · rintro ⟨t', ⟨ht', he⟩, hk'⟩
      obtain rfl := place_inj _ ht ht' (hk.trans hk'.symm)
      omega
  · have hn : ∀ t, goes (R p) d.val t → place (R p) d.val t ≠ k.val := fun t ht hk => h ⟨t, ht, hk⟩
    rw [md_none H p d k hn, fptosi_nat (by omega), ofNat_inj32 (by omega) (by omega)]
    constructor
    · intro he; omega
    · rintro ⟨t, ⟨ht, _⟩, hk⟩; exact absurd hk (hn t ht)

include H hf in
/-- The count of an expert in a slab: how many tokens of the shard are routed to it, 204 at most. -/
theorem cnt_at (p d : Fin 4) (e : Fin 8) :
    cntV (mdV I p d) (ix1 e) = ((min 204 (tot (R p) (8 * d.val + e.val)) : ℕ) : EReal) := by
  rw [cntV_at, sum_mark (fun k => Ideal.fptosi 32 (mdV I p d (ix3 0 k 0)) = BitVec.ofNat 32 (e.val + 1)), ← sent (R p) d.val e.isLt]
  refine congrArg (fun n : ℕ => (n : EReal)) ?_
  have hd : d.val < 4 := d.isLt
  refine (Finset.card_bij (fun t ht => (⟨place (R p) d.val t, place_lt _ (hf p) hd (Finset.mem_filter.mp ht).2.1⟩ : Fin 768))
    (fun t ht => ?_) (fun t ht t' ht' he => ?_) (fun k hk => ?_)).symm
  · exact Finset.mem_filter.mpr ⟨Finset.mem_univ _, (md_iff H p d _ e).mpr ⟨t, (Finset.mem_filter.mp ht).2, rfl⟩⟩
  · exact place_inj _ (Finset.mem_filter.mp ht).2.1 (Finset.mem_filter.mp ht').2.1 (Fin.ext_iff.mp he)
  · obtain ⟨t, ht, hk'⟩ := (md_iff H p d k e).mp (Finset.mem_filter.mp hk).2
    exact ⟨t, Finset.mem_filter.mpr ⟨Finset.mem_univ _, ht⟩, Fin.ext hk'⟩

theorem addLt_at (a b : BitVec 32) (n t : FVec Idealize.ShloMosaic.Ideal S8 .f32) (e : Fin 8) :
    addLt a b n t (ix1 e) = t (ix1 e) + (if Scalar.cmpi .slt a b = 1#1 then n (ix1 e) else 0) := by
  pointwise [addLt]
  by_cases h : Scalar.cmpi .slt a b = 1#1
  · rw [if_pos h, h]
    rfl
  · rw [if_neg h, show Scalar.cmpi .slt a b = 0#1 from (BitVec.eq_zero_or_eq_one _).resolve_right h]
    rfl

theorem srcW_lt (p : Fin 4) (s s' : Fin 4) :
    (Scalar.cmpi .slt (srcW p s'.val) (srcW p s.val) = 1#1) = (rot p s'.val < rot p s.val) := by
  revert p s s'; decide

include H hf in
/-- How many tokens an expert has from the shards numbered below a slab's. -/
theorem base_at (p s : Fin 4) (e : Fin 8) :
    baseOf I p s.val (ix1 e) = ((beforeCap R (rot p s.val) (8 * p.val + e.val) : ℕ) : EReal) := by
  have h0 : (Scalar.cmpi .slt (srcW p 0) (srcW p s.val) = 1#1) = (rot p 0 < rot p s.val) := srcW_lt p s 0
  have h1 : (Scalar.cmpi .slt (srcW p 1) (srcW p s.val) = 1#1) = (rot p 1 < rot p s.val) := srcW_lt p s 1
  have h2 : (Scalar.cmpi .slt (srcW p 2) (srcW p s.val) = 1#1) = (rot p 2 < rot p s.val) := srcW_lt p s 2
  have h3 : (Scalar.cmpi .slt (srcW p 3) (srcW p s.val) = 1#1) = (rot p 3 < rot p s.val) := srcW_lt p s 3
  unfold baseOf baseV
  rw [addLt_at, addLt_at, addLt_at, addLt_at, if_congr (iff_of_eq h0) rfl rfl, if_congr (iff_of_eq h1) rfl rfl,
    if_congr (iff_of_eq h2) rfl rfl, if_congr (iff_of_eq h3) rfl rfl]
  rw [cnt_at H hf, cnt_at H hf, cnt_at H hf, cnt_at H hf]
  have hz : (broadcast S8 (Scalar.ofBits .f32 0x00000000#32) : FVec Idealize.ShloMosaic.Ideal S8 .f32) (ix1 e) = ((0 : ℕ) : EReal) := by
    pointwise
    exact Nat.cast_zero.symm
  rw [hz]
  have hc : ∀ (q : Fin 4), (if q < rot p s.val then ((min 204 (tot (R q) (8 * p.val + e.val)) : ℕ) : EReal) else 0)
      = (((if q < rot p s.val then min 204 (tot (R q) (8 * p.val + e.val)) else 0) : ℕ) : EReal) := by
    intro q; split <;> simp
  have ha : ∀ a b : ℕ, (a : EReal) + (b : EReal) = ((a + b : ℕ) : EReal) := fun a b => (Nat.cast_add a b).symm
  show ((((0 : ℕ) : EReal) + (if rot p 0 < rot p s.val then _ else 0)) + (if rot p 1 < rot p s.val then _ else 0)
    + (if rot p 2 < rot p s.val then _ else 0)) + (if rot p 3 < rot p s.val then _ else 0) = _
  rw [hc, hc, hc, hc, ha, ha, ha, ha]
  refine congrArg (fun n : ℕ => (n : EReal)) ?_
  unfold beforeCap
  generalize rot p s.val = q
  have : ∀ f : Fin 4 → ℕ, 0 + f (rot p 0) + f (rot p 1) + f (rot p 2) + f (rot p 3) = ∑ q, f q := by
    intro f
    rw [Fin.sum_univ_four]
    fin_cases p <;> simp [rot] <;> omega
  exact this fun q' => if q' < q then min 204 (tot (R q') (8 * p.val + e.val)) else 0

end Cert.Moe

end
-- ==== Proof.Result.lean ====
module

public import proofs.«01_k».proof.Proof.Values

@[expose] public section

set_option maxRecDepth 16384

noncomputable section

namespace Cert.Moe

open Cert.KernelIdeal Cert.KernelIdeal.Gen
open Idealize.ShloMosaic Idealize.ShloMosaic.TcCoe

/-! # The experts' results and the output -/

variable {I : Inp Idealize.ShloMosaic.Ideal} {R : Fin 4 → Fin 2048 → BitVec 32} (H : Holds I R) (hf : ∀ p, Fits (R p))

/-- A token's row through an expert's weights. -/
def through (I : Inp Idealize.ShloMosaic.Ideal) (q : Fin 4) (t : Fin 2048) (p : Fin 4) (e : Fin 8) (h : Fin 1024) : EReal :=
  ∑ j : Fin 1024, I.x q (ix2 t j) * I.w p (ix3 e j h)

include H hf in
/-- Row `s` of expert `e`'s window takes row `k` of the slab from the device `i` places after `p` exactly if `k` is the place of a
    token of that expert whose rank, over this shard and those before it, is `s` and below 204. -/
theorem perm_iff (p i : Fin 4) (e : Fin 8) (s : Fin 256) (k : Fin 768) :
    permV (mdV I (rot p i.val) p) (baseOf I p i.val) e (ix2 s k)
      = mark (∃ t, (goes (R (rot p i.val)) p.val t ∧ (R (rot p i.val) t).toNat = 8 * p.val + e.val)
          ∧ place (R (rot p i.val)) p.val t = k.val
          ∧ bef (R (rot p i.val)) t + beforeCap R (rot p i.val) (8 * p.val + e.val) = s.val
          ∧ bef (R (rot p i.val)) t + beforeCap R (rot p i.val) (8 * p.val + e.val) < 204) := by
  rw [permV_at, base_at H hf]
  generalize hq : rot p i.val = q
  have hc := beforeCap_le R q (8 * p.val + e.val)
  have ha : ∀ a b : ℕ, (a : EReal) + (b : EReal) = ((a + b : ℕ) : EReal) := fun a b => (Nat.cast_add a b).symm
  unfold mark
  refine if_congr ?_ rfl rfl
  rw [md_iff H]
  constructor
  · rintro ⟨h1, ⟨t, ht, hk⟩, h3⟩
    have hb := ht.1.2
    rw [md_pos H q p k t ht.1 hk, ha] at h1 h3
    rw [fptosi_nat (by omega), ofNat_inj32 (by omega) (by omega)] at h1
    exact ⟨t, ht, hk, h1.symm, Nat.cast_lt.mp h3⟩
  · rintro ⟨t, ht, hk, h1, h3⟩
    have hb := ht.1.2
    rw [md_pos H q p k t ht.1 hk, ha, fptosi_nat (by omega), ofNat_inj32 (by omega) (by omega)]
    exact ⟨h1.symm, ⟨t, ht, hk⟩, Nat.cast_lt.mpr h3⟩

include H hf in
/-- One expert's contribution to a token's row: the token's row through its weights if the token is the expert's and is kept. -/
theorem step_at (p i : Fin 4) (e : Fin 8) (a : Vec Idealize.ShloMosaic.Ideal S1x768x1024 .bf16) (k : Fin 768) (h : Fin 1024)
    (t : Fin 2048) (ht : goes (R (rot p i.val)) p.val t) (hk : place (R (rot p i.val)) p.val t = k.val) :
    stepV (xdV I (rot p i.val) p) (mdV I (rot p i.val) p) (baseOf I p i.val) (wV I p e) e a (ix3 0 k h) = a (ix3 0 k h)
      + if (R (rot p i.val) t).toNat = 8 * p.val + e.val
          ∧ bef (R (rot p i.val)) t + beforeCap R (rot p i.val) (8 * p.val + e.val) < 204
        then through I (rot p i.val) t p e h else 0 := by
  rw [stepV_at]
  congr 1
  by_cases hc : (R (rot p i.val) t).toNat = 8 * p.val + e.val
      ∧ bef (R (rot p i.val)) t + beforeCap R (rot p i.val) (8 * p.val + e.val) < 204
  · obtain ⟨he, hl⟩ := hc
    rw [if_pos ⟨he, hl⟩]
    rw [sum_one _ _ (⟨bef (R (rot p i.val)) t + beforeCap R (rot p i.val) (8 * p.val + e.val), by omega⟩ : Fin 256)]
    · refine Finset.sum_congr rfl fun j _ => ?_
      rw [wV_at, sum_one _ _ k, xdV_row H _ _ k t ht hk]
      · rw [perm_iff H hf]; exact mark_true ⟨t, ⟨ht, he⟩, hk, rfl, hl⟩
      · intro k' hne
        rw [perm_iff H hf]
        refine mark_false ?_
        rintro ⟨t', ⟨ht', he'⟩, hk', hs, _⟩
        have hs' : bef (R (rot p i.val)) t' = bef (R (rot p i.val)) t := by
          change _ = bef (R (rot p i.val)) t + _ at hs
          omega
        have := bef_inj (R (rot p i.val)) (BitVec.toNat_inj.mp (he'.trans he.symm)) hs'
        subst this
        exact hne (Fin.ext (hk'.symm.trans hk))
    · rw [perm_iff H hf]; exact mark_true ⟨t, ⟨ht, he⟩, hk, rfl, hl⟩
    · intro s hne
      rw [perm_iff H hf]
      refine mark_false ?_
      rintro ⟨t', ⟨ht', he'⟩, hk', hs, _⟩
      have := place_inj _ ht' ht (hk'.trans hk.symm)
      subst this
      exact hne (Fin.ext hs.symm)
  · rw [if_neg hc]
    refine sum_none _ _ fun s => ?_
    rw [perm_iff H hf]
    refine mark_false ?_
    rintro ⟨t', ⟨ht', he'⟩, hk', _, hl⟩
    have := place_inj _ ht' ht (hk'.trans hk.symm)
    subst this
    exact hc ⟨he', hl⟩

include H hf in
/-- After `n` experts. -/
theorem accK_at (p i : Fin 4) (k : Fin 768) (h : Fin 1024) (t : Fin 2048) (ht : goes (R (rot p i.val)) p.val t)
    (hk : place (R (rot p i.val)) p.val t = k.val) (e : Fin 8) (he : (R (rot p i.val) t).toNat = 8 * p.val + e.val) (n : ℕ)
    (hn : n ≤ 8) : accK I p i.val n (ix3 0 k h)
      = if e.val < n ∧ bef (R (rot p i.val)) t + beforeCap R (rot p i.val) (8 * p.val + e.val) < 204
        then through I (rot p i.val) t p e h else 0 := by
  induction n with
  | zero => exact (zeroV_at k h).trans (if_neg fun hh => absurd hh.1 (Nat.not_lt_zero _)).symm
  | succ n ih =>
    have hlt : n < 8 := by omega
    have hs : accK I p i.val (n + 1) = stepV (xdV I (rot p i.val) p) (mdV I (rot p i.val) p) (baseOf I p i.val) (wV I p ⟨n, hlt⟩)
        ⟨n, hlt⟩ (accK I p i.val n) := by
      unfold accK
      rw [runV, dif_pos hlt]
    rw [hs, step_at H hf p i ⟨n, hlt⟩ _ k h t ht hk, ih (by omega)]
    by_cases hen : e.val = n
    · have : e = ⟨n, hlt⟩ := Fin.ext hen
      subst this
      simp [he]
    · rw [if_neg (c := (R (rot p i.val) t).toNat = 8 * p.val + (⟨n, hlt⟩ : Fin 8).val ∧ _) (fun hh => by
        have := hh.1; simp only at this; omega), add_zero]
      refine if_congr (and_congr_left fun _ => ?_) rfl rfl
      omega

include H hf in
/-- A device's result on a slab, read at a token's place. -/
theorem accV_at (p i : Fin 4) (k : Fin 768) (h : Fin 1024) (t : Fin 2048) (ht : goes (R (rot p i.val)) p.val t)
    (hk : place (R (rot p i.val)) p.val t = k.val) (e : Fin 8) (he : (R (rot p i.val) t).toNat = 8 * p.val + e.val) :
    accV I p i.val (ix3 0 k h)
      = if bef (R (rot p i.val)) t + beforeCap R (rot p i.val) (8 * p.val + e.val) < 204 then through I (rot p i.val) t p e h else 0 := by
  refine (accK_at H hf p i k h t ht hk e he 8 le_rfl).trans (if_congr ?_ rfl rfl)
  exact and_iff_right e.isLt

/-- What the owner `d` of expert `8 d + e` gives the token `t` of shard `q`. -/
def given (I : Inp Idealize.ShloMosaic.Ideal) (R : Fin 4 → Fin 2048 → BitVec 32) (q d : Fin 4) (t : Fin 2048) (h : Fin 1024) : EReal :=
  if goes (R q) d.val t ∧ bef (R q) t + beforeCap R q (R q t).toNat < 204
    then through I q t d ⟨(R q t).toNat % 8, Nat.mod_lt _ (by decide)⟩ h else 0

include H hf in
/-- A slab's result put back at the tokens' places. -/
theorem back_at (d i : Fin 4) (t : Fin 2048) (h : Fin 1024) :
    ∑ k : Fin 768, mark (BitVec.ofNat 32 k.val = Ideal.fptosi 32 (rowV I (rot d i.val) d (ix2 0 t))) * accV I d i.val (ix3 0 k h)
      = given I R (rot d i.val) d t h := by
  have hm : ∀ k : Fin 768, mark (BitVec.ofNat 32 k.val = Ideal.fptosi 32 (rowV I (rot d i.val) d (ix2 0 t)))
      = mark (goes (R (rot d i.val)) d.val t ∧ place (R (rot d i.val)) d.val t = k.val) := by
    intro k
    unfold mark
    simp only [row_iff H]
  simp only [hm]
  unfold given
  by_cases hg : goes (R (rot d i.val)) d.val t
  · have hp := place_lt _ (hf (rot d i.val)) d.isLt hg
    have h8 := hg.1
    have he : (R (rot d i.val) t).toNat = 8 * d.val + (⟨(R (rot d i.val) t).toNat % 8, Nat.mod_lt _ (by decide)⟩ : Fin 8).val := by
      show _ = 8 * d.val + (R (rot d i.val) t).toNat % 8
      omega
    rw [sum_one _ _ (⟨place (R (rot d i.val)) d.val t, hp⟩ : Fin 768) (mark_true ⟨hg, rfl⟩)
      (fun k hne => mark_false fun hh => hne (Fin.ext hh.2.symm)), accV_at H hf d i _ h t hg rfl _ he, ← he]
    exact if_congr (and_iff_right hg).symm rfl rfl
  · rw [if_neg fun hh => hg hh.1]
    exact sum_none _ _ fun k => mark_false fun hh => hg hh.1

include H hf in
/-- THE KERNEL'S RESULT. A token's output is its row through its expert's weights, if the expert exists and fewer than 204 tokens before
    it, in its own shard and in those of lower number, have its route; it is zero otherwise. -/
theorem out_at (p : Fin 4) (t : Fin 2048) (h : Fin 1024) :
    outV I p (ix2 t h) = ∑ d : Fin 4, given I R p d t h := by
  have h0 := back_at H hf p 0 t h
  have h1 := back_at H hf (rot p 1) 3 t h
  have h2 := back_at H hf (rot p 2) 2 t h
  have h3 := back_at H hf (rot p 3) 1 t h
  have r0 : rot p (0 : Fin 4).val = p := rot_zero p
  have r1 : rot (rot p 1) (3 : Fin 4).val = p := (by decide : ∀ p : Fin 4, rot (rot p 1) 3 = p) p
  have r2 : rot (rot p 2) (2 : Fin 4).val = p := (by decide : ∀ p : Fin 4, rot (rot p 2) 2 = p) p
  have r3 : rot (rot p 3) (1 : Fin 4).val = p := (by decide : ∀ p : Fin 4, rot (rot p 3) 1 = p) p
  rw [r0] at h0
  rw [r1] at h1
  rw [r2] at h2
  rw [r3] at h3
  unfold outV out2V out1V out0V
  rw [nextV_at, nextV_at, nextV_at, firstV_at]
  refine (congrArg₂ (· + ·) (congrArg₂ (· + ·) (congrArg₂ (· + ·) h0 h1) h2) h3).trans ?_
  generalize given I R p = g
  have : ∀ f : Fin 4 → EReal, f p + f (rot p 1) + f (rot p 2) + f (rot p 3) = ∑ q, f q := by
    intro f
    rw [Fin.sum_univ_four]
    fin_cases p
    · rfl
    · show f 1 + f 2 + f 3 + f 0 = _
      abel
    · show f 2 + f 3 + f 0 + f 1 = _
      abel
    · show f 3 + f 0 + f 1 + f 2 = _
      abel
  exact this fun d => g d t h

end Cert.Moe

end
-- ==== Proof.Host.lean ====
module

public import proofs.«01_k».proof.Proof.HostA
public import proofs.«01_k».proof.Proof.Result

@[expose] public section

set_option maxRecDepth 16384

noncomputable section

namespace Cert.Moe

open Cert.KernelIdeal Cert.KernelIdeal.Gen
open Idealize.ShloMosaic Idealize.ShloMosaic.TcCoe

/-! # What the host's operations hand the kernel -/

theorem mark_sub {n : ℕ} (P : Fin n → Prop) [DecidablePred P] (t : Fin n) :
    (((upto P t : ℕ) : EReal) - mark (P t)) * mark (P t) = if P t then ((rank P t : ℕ) : EReal) else 0 := by
  by_cases h : P t
  · rw [if_pos h, mark_true h, mul_one, upto_eq, if_pos h]
    show (((rank P t + 1 : ℕ) : ℝ) : EReal) - ((1 : ℝ) : EReal) = (((rank P t : ℕ) : ℝ) : EReal)
    rw [← EReal.coe_sub]
    congr 1
    push_cast
    ring
  · rw [if_neg h, mark_false h, mul_zero]

/-- A token's rank among the shard's tokens of its route, as the host computes it: zero if the route names no expert. -/
def posE (r : Fin 2048 → BitVec 32) (t : Fin 2048) : EReal := if (r t).toNat < 32 then ((bef r t : ℕ) : EReal) else 0

theorem posE_sum (r : Fin 2048 → BitVec 32) (t : Fin 2048) :
    ∑ e : Fin 32, (((upto (fun t => r t = BitVec.ofNat 32 e.val) t : ℕ) : EReal) - mark (r t = BitVec.ofNat 32 e.val))
      * mark (r t = BitVec.ofNat 32 e.val) = posE r t := by
  have h : ∀ e : Fin 32, (((upto (fun t => r t = BitVec.ofNat 32 e.val) t : ℕ) : EReal) - mark (r t = BitVec.ofNat 32 e.val))
      * mark (r t = BitVec.ofNat 32 e.val)
        = if r t = BitVec.ofNat 32 e.val then ((rank (fun t => r t = BitVec.ofNat 32 e.val) t : ℕ) : EReal) else 0 :=
    fun e => mark_sub (fun t => r t = BitVec.ofNat 32 e.val) t
  simp only [h]
  unfold posE
  by_cases hr : (r t).toNat < 32
  · rw [if_pos hr, Finset.sum_eq_single (⟨(r t).toNat, hr⟩ : Fin 32)]
    · have he : BitVec.ofNat 32 (r t).toNat = r t := by simp
      dsimp only
      rw [he, if_pos rfl]
      rfl
    · intro e _ hne
      refine if_neg fun hh => hne (Fin.ext ?_)
      have hv := congrArg BitVec.toNat hh
      rw [BitVec.toNat_ofNat, Nat.mod_eq_of_lt (by omega)] at hv
      exact hv.symm
    · intro hn; exact absurd (Finset.mem_univ _) hn
  · rw [if_neg hr]
    refine Finset.sum_eq_zero fun e _ => if_neg fun hh => hr ?_
    rw [hh, BitVec.toNat_ofNat, Nat.mod_eq_of_lt (by omega)]
    exact e.isLt

theorem goes_word (r : Fin 2048 → BitVec 32) (d : ℕ) (hd : d < 4) (t : Fin 2048) :
    (div8 (r t) = BitVec.ofNat 32 d ∧ bit (posE r t < ((204 : ℕ) : EReal)) = 1#1) ↔ goes r d t := by
  rw [div8_iff _ d hd, bit_eq_one]
  unfold goes posE
  constructor
  · rintro ⟨h1, h2⟩
    rw [if_pos (by omega)] at h2
    exact ⟨h1, Nat.cast_lt.mp h2⟩
  · rintro ⟨h1, h2⟩
    rw [if_pos (by omega)]
    exact ⟨h1, Nat.cast_lt.mpr h2⟩

theorem bit_congr {p q : Prop} [Decidable p] [Decidable q] (h : p ↔ q) : bit p = bit q := if_congr h rfl rfl

variable (m : (ℓ : Loc nD τ sig) → Buf (Elt Ideal) ℓ) (c : Dev nD)

/-- The shards' routes. -/
def routes (c : Fin 4) (t : Fin 2048) : BitVec 32 := m (c, (main_arg2 : Ref sig .tc)) (ix2 t 0)

theorem V1_v5 (t : Fin 2048) : V1 m c main_v5 (ix1 t) = routes m c t := h0_v5 (V0 m c) c t
theorem V1_v12 (t : Fin 2048) (e : Fin 32) : V1 m c main_v12 (ix2 t e) = mark (routes m c t = BitVec.ofNat 32 e.val) := h0_v12 (V0 m c) c t e
theorem V2_v12 (t : Fin 2048) (e : Fin 32) : V2 m c main_v12 (ix2 t e) = mark (routes m c t = BitVec.ofNat 32 e.val) :=
  (congrFun (V2_of m c main_v12 (by decide)) _).trans (V1_v12 m c t e)
theorem V2_v13 (t : Fin 2048) (e : Fin 32) :
    V2 m c main_v13 (ix2 t e) = ((upto (fun t => routes m c t = BitVec.ofNat 32 e.val) t : ℕ) : EReal) :=
  (h1_v13 (V1 m c) (fun t e => mark (routes m c t = BitVec.ofNat 32 e.val)) (V1_v12 m c) t e).trans
    (sum_upto_mark (fun t => routes m c t = BitVec.ofNat 32 e.val) t)
theorem V3_v16 (t : Fin 2048) : V3 m c main_v16 (ix1 t) = posE (routes m c) t :=
  (h2_v16 (V2 m c) (fun t e => mark (routes m c t = BitVec.ofNat 32 e.val))
    (fun t e => ((upto (fun t => routes m c t = BitVec.ofNat 32 e.val) t : ℕ) : EReal)) (V2_v12 m c) (V2_v13 m c) t).trans
    (posE_sum (routes m c) t)
theorem V3_v5 (t : Fin 2048) : V3 m c main_v5 (ix1 t) = routes m c t :=
  (congrFun ((V3_of m c main_v5 (by decide)).trans <| (V2_of m c main_v5 (by decide))) _).trans (V1_v5 m c t)
theorem V4_v17 (t : Fin 2048) : V4 m c main_v17 (ix1 t) = rem8 (routes m c t) :=
  (h3_v17 (V3 m c) (h2_c (V2 m c)) t).trans (congrArg rem8 (V3_v5 m c t))
theorem V5_v18 (t : Fin 2048) : V5 m c main_v18 (ix1 t) = (FloatOps.sitofp .f32 (rem8 (routes m c t)) : Ideal .f32) :=
  (h4_v18 (V4 m c) t).trans (congrArg (fun x : BitVec 32 => (FloatOps.sitofp .f32 x : Ideal .f32)) (V4_v17 m c t))
theorem V5_v5 (t : Fin 2048) : V5 m c main_v5 (ix1 t) = routes m c t :=
  (congrFun ((V5_of m c main_v5 (by decide)).trans <| (V4_of m c main_v5 (by decide))) _).trans (V3_v5 m c t)
theorem V6_v19 (t : Fin 2048) : V6 m c main_v19 (ix1 t) = div8 (routes m c t) :=
  (h5_v19 (V5 m c) (h4_c (V4 m c)) t).trans (congrArg div8 (V5_v5 m c t))
theorem V6_v16 (t : Fin 2048) : V6 m c main_v16 (ix1 t) = posE (routes m c) t :=
  (congrFun ((V6_of m c main_v16 (by decide)).trans <| (V5_of m c main_v16 (by decide)).trans <| (V4_of m c main_v16 (by decide))) _).trans (V3_v16 m c t)
theorem V6_v18 (t : Fin 2048) : V6 m c main_v18 (ix1 t) = (FloatOps.sitofp .f32 (rem8 (routes m c t)) : Ideal .f32) :=
  (congrFun (V6_of m c main_v18 (by decide)) _).trans (V5_v18 m c t)
theorem V7_v21 (t : Fin 2048) : V7 m c main_v21 (ix1 t) = bit (posE (routes m c) t < ((204 : ℕ) : EReal)) :=
  h6_v21 (V6 m c) (posE (routes m c)) (V6_v16 m c) t
theorem V7_v19 (t : Fin 2048) : V7 m c main_v19 (ix1 t) = div8 (routes m c t) :=
  (congrFun (V7_of m c main_v19 (by decide)) _).trans (V6_v19 m c t)
theorem V7_v30 (t : Fin 2048) : V7 m c main_v30 (ix1 t) = bit (goes (routes m c) 0 t) := by
  refine (h6_v30 (V6 m c) (posE (routes m c)) (V6_v16 m c) t).trans (bit_congr ?_)
  rw [V6_v19]
  exact goes_word (routes m c) 0 (by omega) t
theorem V7_v31 (t : Fin 2048) : V7 m c main_v31 (ix1 t) = if goes (routes m c) 0 t then 1#32 else 0#32 := by
  refine (h6_v31 (V6 m c) (posE (routes m c)) (V6_v16 m c) t).trans (if_congr ?_ rfl rfl)
  rw [V6_v19]
  exact goes_word (routes m c) 0 (by omega) t

/-! ## The places on device 0 -/

theorem V8_v32 (t : Fin 2048) : V8 m c main_v32 (ix1 t) = BitVec.ofNat 32 (upto (goes (routes m c) 0) t) :=
  h7_v32 (V7 m c) (goes (routes m c) 0) (V7_v31 m c) t
theorem V9_v34 (t : Fin 2048) : V9 m c main_v34 (ix1 t) = BitVec.ofNat 32 (upto (goes (routes m c) 0) t) - 1#32 :=
  (h8_v34 (V8 m c) t).trans (congrArg (fun x : BitVec 32 => x - 1#32) (V8_v32 m c t))
theorem V9_v30 (t : Fin 2048) : V9 m c main_v30 (ix1 t) = bit (goes (routes m c) 0 t) :=
  (congrFun ((V9_of m c main_v30 (by decide)).trans <| (V8_of m c main_v30 (by decide))) _).trans (V7_v30 m c t)
theorem V10_v35 (t : Fin 2048) : V10 m c main_v35 (ix1 t)
    = if goes (routes m c) 0 t then BitVec.ofNat 32 (upto (goes (routes m c) 0) t) - 1#32 else 4294967295#32 := by
  refine (h9_v35 (V9 m c) (h8_c (V8 m c)) t).trans (if_congr ?_ (V9_v34 m c t) rfl)
  rw [V9_v30]
  exact bit_eq_one _
theorem V11_v36 (t : Fin 2048) : V11 m c main_v36 (ix1 t)
    = if goes (routes m c) 0 t then ((place (routes m c) 0 t : ℕ) : EReal) else ((-1 : ℝ) : EReal) :=
  ((h10_v36 (V10 m c) t).trans (congrArg (fun x : BitVec 32 => (FloatOps.sitofp .f32 x : Ideal .f32)) (V10_v35 m c t))).trans
    (place_word (by norm_num) (goes (routes m c) 0) t)

/-! ## The places on device 1 -/

theorem V11_sel (t : Fin 2048) :
    (V10 m c main_v19 (ix1 t) = BitVec.ofNat 32 1 ∧ V10 m c main_v21 (ix1 t) = 1#1) ↔ goes (routes m c) 1 t := by
  have h19 := (congrFun ((V10_of m c main_v19 (by decide)).trans <| (V9_of m c main_v19 (by decide)).trans <| (V8_of m c main_v19 (by decide))) _).trans (V7_v19 m c t)
  have h21 := (congrFun ((V10_of m c main_v21 (by decide)).trans <| (V9_of m c main_v21 (by decide)).trans <| (V8_of m c main_v21 (by decide))) _).trans (V7_v21 m c t)
  rw [h19, h21]
  exact goes_word (routes m c) 1 (by omega) t
theorem V11_v39 (t : Fin 2048) : V11 m c main_v39 (ix1 t) = bit (goes (routes m c) 1 t) :=
  (h10_v39 (V10 m c) t).trans (bit_congr (V11_sel m c t))
theorem V11_v40 (t : Fin 2048) : V11 m c main_v40 (ix1 t) = if goes (routes m c) 1 t then 1#32 else 0#32 :=
  (h10_v40 (V10 m c) t).trans (if_congr (V11_sel m c t) rfl rfl)
theorem V12_v41 (t : Fin 2048) : V12 m c main_v41 (ix1 t) = BitVec.ofNat 32 (upto (goes (routes m c) 1) t) :=
  h11_v41 (V11 m c) (goes (routes m c) 1) (V11_v40 m c) t
theorem V13_v43 (t : Fin 2048) : V13 m c main_v43 (ix1 t) = BitVec.ofNat 32 (upto (goes (routes m c) 1) t) - 1#32 :=
  (h12_v43 (V12 m c) t).trans (congrArg (fun x : BitVec 32 => x - 1#32) (V12_v41 m c t))
theorem V13_v39 (t : Fin 2048) : V13 m c main_v39 (ix1 t) = bit (goes (routes m c) 1 t) :=
  (congrFun ((V13_of m c main_v39 (by decide)).trans <| (V12_of m c main_v39 (by decide))) _).trans (V11_v39 m c t)
theorem V14_v44 (t : Fin 2048) : V14 m c main_v44 (ix1 t)
    = if goes (routes m c) 1 t then BitVec.ofNat 32 (upto (goes (routes m c) 1) t) - 1#32 else 4294967295#32 := by
  refine (h13_v44 (V13 m c) (h12_c (V12 m c)) t).trans (if_congr ?_ (V13_v43 m c t) rfl)
  rw [V13_v39]
  exact bit_eq_one _
theorem V15_v45 (t : Fin 2048) : V15 m c main_v45 (ix1 t)
    = if goes (routes m c) 1 t then ((place (routes m c) 1 t : ℕ) : EReal) else ((-1 : ℝ) : EReal) :=
  ((h14_v45 (V14 m c) t).trans (congrArg (fun x : BitVec 32 => (FloatOps.sitofp .f32 x : Ideal .f32)) (V14_v44 m c t))).trans
    (place_word (by norm_num) (goes (routes m c) 1) t)

/-! ## The places on device 2 -/

theorem V15_sel (t : Fin 2048) :
    (V14 m c main_v19 (ix1 t) = BitVec.ofNat 32 2 ∧ V14 m c main_v21 (ix1 t) = 1#1) ↔ goes (routes m c) 2 t := by
  have h19 := (congrFun ((V14_of m c main_v19 (by decide)).trans <| (V13_of m c main_v19 (by decide)).trans <| (V12_of m c main_v19 (by decide)).trans <| (V11_of m c main_v19 (by decide)).trans <| (V10_of m c main_v19 (by decide)).trans <| (V9_of m c main_v19 (by decide)).trans <| (V8_of m c main_v19 (by decide))) _).trans (V7_v19 m c t)
  have h21 := (congrFun ((V14_of m c main_v21 (by decide)).trans <| (V13_of m c main_v21 (by decide)).trans <| (V12_of m c main_v21 (by decide)).trans <| (V11_of m c main_v21 (by decide)).trans <| (V10_of m c main_v21 (by decide)).trans <| (V9_of m c main_v21 (by decide)).trans <| (V8_of m c main_v21 (by decide))) _).trans (V7_v21 m c t)
  rw [h19, h21]
  exact goes_word (routes m c) 2 (by omega) t
theorem V15_v48 (t : Fin 2048) : V15 m c main_v48 (ix1 t) = bit (goes (routes m c) 2 t) :=
  (h14_v48 (V14 m c) t).trans (bit_congr (V15_sel m c t))
theorem V15_v49 (t : Fin 2048) : V15 m c main_v49 (ix1 t) = if goes (routes m c) 2 t then 1#32 else 0#32 :=
  (h14_v49 (V14 m c) t).trans (if_congr (V15_sel m c t) rfl rfl)
theorem V16_v50 (t : Fin 2048) : V16 m c main_v50 (ix1 t) = BitVec.ofNat 32 (upto (goes (routes m c) 2) t) :=
  h15_v50 (V15 m c) (goes (routes m c) 2) (V15_v49 m c) t
theorem V17_v52 (t : Fin 2048) : V17 m c main_v52 (ix1 t) = BitVec.ofNat 32 (upto (goes (routes m c) 2) t) - 1#32 :=
  (h16_v52 (V16 m c) t).trans (congrArg (fun x : BitVec 32 => x - 1#32) (V16_v50 m c t))
theorem V17_v48 (t : Fin 2048) : V17 m c main_v48 (ix1 t) = bit (goes (routes m c) 2 t) :=
  (congrFun ((V17_of m c main_v48 (by decide)).trans <| (V16_of m c main_v48 (by decide))) _).trans (V15_v48 m c t)
theorem V18_v53 (t : Fin 2048) : V18 m c main_v53 (ix1 t)
    = if goes (routes m c) 2 t then BitVec.ofNat 32 (upto (goes (routes m c) 2) t) - 1#32 else 4294967295#32 := by
  refine (h17_v53 (V17 m c) (h16_c (V16 m c)) t).trans (if_congr ?_ (V17_v52 m c t) rfl)
  rw [V17_v48]
  exact bit_eq_one _
theorem V19_v54 (t : Fin 2048) : V19 m c main_v54 (ix1 t)
    = if goes (routes m c) 2 t then ((place (routes m c) 2 t : ℕ) : EReal) else ((-1 : ℝ) : EReal) :=
  ((h18_v54 (V18 m c) t).trans (congrArg (fun x : BitVec 32 => (FloatOps.sitofp .f32 x : Ideal .f32)) (V18_v53 m c t))).trans
    (place_word (by norm_num) (goes (routes m c) 2) t)

/-! ## The places on device 3 -/

theorem V19_sel (t : Fin 2048) :
    (V18 m c main_v19 (ix1 t) = BitVec.ofNat 32 3 ∧ V18 m c main_v21 (ix1 t) = 1#1) ↔ goes (routes m c) 3 t := by
  have h19 := (congrFun ((V18_of m c main_v19 (by decide)).trans <| (V17_of m c main_v19 (by decide)).trans <| (V16_of m c main_v19 (by decide)).trans <| (V15_of m c main_v19 (by decide)).trans <| (V14_of m c main_v19 (by decide)).trans <| (V13_of m c main_v19 (by decide)).trans <| (V12_of m c main_v19 (by decide)).trans <| (V11_of m c main_v19 (by decide)).trans <| (V10_of m c main_v19 (by decide)).trans <| (V9_of m c main_v19 (by decide)).trans <| (V8_of m c main_v19 (by decide))) _).trans (V7_v19 m c t)
  have h21 := (congrFun ((V18_of m c main_v21 (by decide)).trans <| (V17_of m c main_v21 (by decide)).trans <| (V16_of m c main_v21 (by decide)).trans <| (V15_of m c main_v21 (by decide)).trans <| (V14_of m c main_v21 (by decide)).trans <| (V13_of m c main_v21 (by decide)).trans <| (V12_of m c main_v21 (by decide)).trans <| (V11_of m c main_v21 (by decide)).trans <| (V10_of m c main_v21 (by decide)).trans <| (V9_of m c main_v21 (by decide)).trans <| (V8_of m c main_v21 (by decide))) _).trans (V7_v21 m c t)
  rw [h19, h21]
  exact goes_word (routes m c) 3 (by omega) t
theorem V19_v57 (t : Fin 2048) : V19 m c main_v57 (ix1 t) = bit (goes (routes m c) 3 t) :=
  (h18_v57 (V18 m c) t).trans (bit_congr (V19_sel m c t))
theorem V19_v58 (t : Fin 2048) : V19 m c main_v58 (ix1 t) = if goes (routes m c) 3 t then 1#32 else 0#32 :=
  (h18_v58 (V18 m c) t).trans (if_congr (V19_sel m c t) rfl rfl)
theorem V20_v59 (t : Fin 2048) : V20 m c main_v59 (ix1 t) = BitVec.ofNat 32 (upto (goes (routes m c) 3) t) :=
  h19_v59 (V19 m c) (goes (routes m c) 3) (V19_v58 m c) t
theorem V21_v61 (t : Fin 2048) : V21 m c main_v61 (ix1 t) = BitVec.ofNat 32 (upto (goes (routes m c) 3) t) - 1#32 :=
  (h20_v61 (V20 m c) t).trans (congrArg (fun x : BitVec 32 => x - 1#32) (V20_v59 m c t))
theorem V21_v57 (t : Fin 2048) : V21 m c main_v57 (ix1 t) = bit (goes (routes m c) 3 t) :=
  (congrFun ((V21_of m c main_v57 (by decide)).trans <| (V20_of m c main_v57 (by decide))) _).trans (V19_v57 m c t)
theorem V22_v62 (t : Fin 2048) : V22 m c main_v62 (ix1 t)
    = if goes (routes m c) 3 t then BitVec.ofNat 32 (upto (goes (routes m c) 3) t) - 1#32 else 4294967295#32 := by
  refine (h21_v62 (V21 m c) (h20_c (V20 m c)) t).trans (if_congr ?_ (V21_v61 m c t) rfl)
  rw [V21_v57]
  exact bit_eq_one _

/-! ## The kernel's inputs -/

theorem inp_x : (inp m).x c = m (c, (main_arg0 : Ref sig .tc)) :=
  ((V23_of m c main_v22 (by decide)).trans <| (V22_of m c main_v22 (by decide)).trans <| (V21_of m c main_v22 (by decide)).trans <| (V20_of m c main_v22 (by decide)).trans <| (V19_of m c main_v22 (by decide)).trans <| (V18_of m c main_v22 (by decide)).trans <| (V17_of m c main_v22 (by decide)).trans <| (V16_of m c main_v22 (by decide)).trans <| (V15_of m c main_v22 (by decide)).trans <| (V14_of m c main_v22 (by decide)).trans <| (V13_of m c main_v22 (by decide)).trans <| (V12_of m c main_v22 (by decide)).trans <| (V11_of m c main_v22 (by decide)).trans <| (V10_of m c main_v22 (by decide)).trans <| (V9_of m c main_v22 (by decide)).trans <| (V8_of m c main_v22 (by decide))).trans <|
  (h6_v22 (V6 m c)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

theorem inp_w : (inp m).w c = m (c, (main_arg3 : Ref sig .tc)) :=
  (h22_v69 (V22 m c)).trans <| (V22_of m c main_arg3 (by decide)).trans <| (V21_of m c main_arg3 (by decide)).trans <| (V20_of m c main_arg3 (by decide)).trans <| (V19_of m c main_arg3 (by decide)).trans <| (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

theorem V23_v27 : V23 m c main_v27 = V7 m c main_v27 :=
  (V23_of m c main_v27 (by decide)).trans <| (V22_of m c main_v27 (by decide)).trans <| (V21_of m c main_v27 (by decide)).trans <| (V20_of m c main_v27 (by decide)).trans <| (V19_of m c main_v27 (by decide)).trans <| (V18_of m c main_v27 (by decide)).trans <| (V17_of m c main_v27 (by decide)).trans <| (V16_of m c main_v27 (by decide)).trans <| (V15_of m c main_v27 (by decide)).trans <| (V14_of m c main_v27 (by decide)).trans <| (V13_of m c main_v27 (by decide)).trans <| (V12_of m c main_v27 (by decide)).trans <| (V11_of m c main_v27 (by decide)).trans <| (V10_of m c main_v27 (by decide)).trans <| (V9_of m c main_v27 (by decide)).trans <| (V8_of m c main_v27 (by decide))

theorem V23_l0 (t : Fin 2048) (h : (routes m c t).toNat < 32) :
    V23 m c main_v27 (ix2 t (0 : Fin 2)) = (((routes m c t).toNat % 8 + 1 : ℕ) : EReal) := by
  rw [V23_v27]
  refine (h6_v27a (V6 m c) _ (V6_v18 m c) t).trans ?_
  rw [rem8_eq _ h, sitofp_nat _ (by omega)]
  show (((routes m c t).toNat % 8 : ℕ) : EReal) + 1 = _
  exact (Nat.cast_add_one (R := EReal) _).symm

theorem V23_l1 (t : Fin 2048) (h : (routes m c t).toNat < 32) :
    V23 m c main_v27 (ix2 t (1 : Fin 2)) = ((bef (routes m c) t : ℕ) : EReal) := by
  rw [V23_v27]
  refine (h6_v27b (V6 m c) t).trans ?_
  rw [V6_v16]
  exact if_pos h

theorem V22_v36 : V22 m c main_v36 = V11 m c main_v36 :=
  (V22_of m c main_v36 (by decide)).trans <| (V21_of m c main_v36 (by decide)).trans <| (V20_of m c main_v36 (by decide)).trans <| (V19_of m c main_v36 (by decide)).trans <| (V18_of m c main_v36 (by decide)).trans <| (V17_of m c main_v36 (by decide)).trans <| (V16_of m c main_v36 (by decide)).trans <| (V15_of m c main_v36 (by decide)).trans <| (V14_of m c main_v36 (by decide)).trans <| (V13_of m c main_v36 (by decide)).trans <| (V12_of m c main_v36 (by decide))

theorem V23_p0 (t : Fin 2048) : V23 m c main_v68 (ix2 (0 : Fin 4) t)
    = if goes (routes m c) 0 t then ((place (routes m c) 0 t : ℕ) : EReal) else ((-1 : ℝ) : EReal) := by
  refine (h22_v68_0 (V22 m c) t).trans ?_
  rw [V22_v36]
  exact V11_v36 m c t

theorem V22_v45 : V22 m c main_v45 = V15 m c main_v45 :=
  (V22_of m c main_v45 (by decide)).trans <| (V21_of m c main_v45 (by decide)).trans <| (V20_of m c main_v45 (by decide)).trans <| (V19_of m c main_v45 (by decide)).trans <| (V18_of m c main_v45 (by decide)).trans <| (V17_of m c main_v45 (by decide)).trans <| (V16_of m c main_v45 (by decide))

theorem V23_p1 (t : Fin 2048) : V23 m c main_v68 (ix2 (1 : Fin 4) t)
    = if goes (routes m c) 1 t then ((place (routes m c) 1 t : ℕ) : EReal) else ((-1 : ℝ) : EReal) := by
  refine (h22_v68_1 (V22 m c) t).trans ?_
  rw [V22_v45]
  exact V15_v45 m c t

theorem V22_v54 : V22 m c main_v54 = V19 m c main_v54 :=
  (V22_of m c main_v54 (by decide)).trans <| (V21_of m c main_v54 (by decide)).trans <| (V20_of m c main_v54 (by decide))

theorem V23_p2 (t : Fin 2048) : V23 m c main_v68 (ix2 (2 : Fin 4) t)
    = if goes (routes m c) 2 t then ((place (routes m c) 2 t : ℕ) : EReal) else ((-1 : ℝ) : EReal) := by
  refine (h22_v68_2 (V22 m c) t).trans ?_
  rw [V22_v54]
  exact V19_v54 m c t

theorem V23_p3 (t : Fin 2048) : V23 m c main_v68 (ix2 (3 : Fin 4) t)
    = if goes (routes m c) 3 t then ((place (routes m c) 3 t : ℕ) : EReal) else ((-1 : ℝ) : EReal) := by
  refine (h22_v68_3 (V22 m c) t).trans ?_
  rw [V22_v62]
  exact place_word (by norm_num) (goes (routes m c) 3) t

theorem inp_p (d : Fin 4) (t : Fin 2048) : V23 m c main_v68 (ix2 d t)
    = if goes (routes m c) d.val t then ((place (routes m c) d.val t : ℕ) : EReal) else ((-1 : ℝ) : EReal) := by
  match d with
  | ⟨0, _⟩ => exact V23_p0 m c t
  | ⟨1, _⟩ => exact V23_p1 m c t
  | ⟨2, _⟩ => exact V23_p2 m c t
  | ⟨3, _⟩ => exact V23_p3 m c t

theorem inp_p_def : (inp m).p c = V23 m c main_v68 := id rfl
theorem inp_l_def : (inp m).l c = V23 m c main_v27 := id rfl

/-- The kernel is handed what `Holds` says of the routes. -/
theorem holds : Holds (inp m) (routes m) := by
  refine ⟨?_, ?_, ?_⟩
  · intro p d t
    rw [inp_p_def m p]
    exact inp_p m p d t
  · intro p t h
    rw [inp_l_def m p]
    exact V23_l0 m p t h
  · intro p t h
    rw [inp_l_def m p]
    exact V23_l1 m p t h

end Cert.Moe

end
-- ==== Proof.Reference.lean ====
module

public import proofs.«01_k».proof.Proof.Words
public import proofs.«01_k».proof.Proof.Values
public import proofs.«01_k».proof.Proof.Gen.ReferenceIdeal.Read

@[expose] public section

set_option maxRecDepth 16384

noncomputable section

namespace Cert.Moe

open Cert.ReferenceIdeal Cert.ReferenceIdeal.Gen Cert.ReferenceIdeal.Read
open Idealize.ShloMosaic

/-! # What the reference computes -/

theorem upto_sub {n : ℕ} (P : Fin n → Prop) [DecidablePred P] (t : Fin n) (h : P t) :
    ((upto P t : ℕ) : EReal) - mark (P t) = ((rank P t : ℕ) : EReal) := by
  rw [mark_true h, upto_eq, if_pos h]
  show (((rank P t + 1 : ℕ) : ℝ) : EReal) - ((1 : ℝ) : EReal) = (((rank P t : ℕ) : ℝ) : EReal)
  rw [← EReal.coe_sub]
  congr 1
  push_cast
  ring

variable (x0 : S8192x1024.Idx → EReal) (x2 : IVec S8192x1 32) (x3 : S32x1024x1024.Idx → EReal)

/-- A token's route. -/
def whole (T : Fin 8192) : BitVec 32 := x2 (ix2 T 0)

theorem hot_at (T : Fin 8192) (e : Fin 32) : val_main_v4 (F := Idealize.ShloMosaic.Ideal) x2 (ix2 T e)
    = IntOp.cmpi .eq (whole x2 T) (BitVec.ofNat 32 e.val) := by
  pointwise [val_main_v4, val_main_v3, val_main_v2, val_main_v1, val_main_v0]
  rfl

theorem hot_mark (T : Fin 8192) (e : Fin 32) : val_main_v5 (F := Idealize.ShloMosaic.Ideal) x2 (ix2 T e)
    = mark (whole x2 T = BitVec.ofNat 32 e.val) := by
  rw [val_main_v5_apply, hot_at]
  exact uitofp_mark _ _

theorem count_at (T : Fin 8192) (e : Fin 32) : val_main_v6 (F := Idealize.ShloMosaic.Ideal) x2 (ix2 T e)
    = ((upto (fun T => whole x2 T = BitVec.ofNat 32 e.val) T : ℕ) : EReal) := by
  unfold val_main_v6
  refine (cumsumF_at (by rfl) _ _ _ _ ?_ T e).trans ?_
  · pointwise [val_main_call0_call0_v0, val_main_call0_call0_cst]
  · rw [← sum_upto_mark]
    exact Finset.sum_congr rfl fun n _ => if_congr Iff.rfl (hot_mark x2 n e) rfl

theorem before_at (T : Fin 8192) (e : Fin 32) (h : whole x2 T = BitVec.ofNat 32 e.val) :
    val_main_v8 (F := Idealize.ShloMosaic.Ideal) x2 (ix2 T e) = ((bef (whole x2) T : ℕ) : EReal) := by
  rw [val_main_v8_apply, count_at]
  refine (congrArg (fun y : EReal => ((upto (fun T => whole x2 T = BitVec.ofNat 32 e.val) T : ℕ) : EReal) - y) (hot_mark x2 T e)).trans ?_
  refine (upto_sub (fun T => whole x2 T = BitVec.ofNat 32 e.val) T h).trans ?_
  unfold bef
  rw [h]

theorem room_at (T : Fin 8192) (e : Fin 32) : val_main_v10 (F := Idealize.ShloMosaic.Ideal) x2 (ix2 T e)
    = bit (val_main_v8 (F := Idealize.ShloMosaic.Ideal) x2 (ix2 T e) < ((204 : ℕ) : EReal)) := by
  rw [val_main_v10_apply, val_main_v9_apply, val_main_cst_apply]
  generalize val_main_v8 (F := Idealize.ShloMosaic.Ideal) x2 (ix2 T e) = y
  exact room_bit y y rfl

theorem take_at (T : Fin 8192) (e : Fin 32) : val_main_v11 (F := Idealize.ShloMosaic.Ideal) x2 (ix2 T e) = 1#1
    ↔ whole x2 T = BitVec.ofNat 32 e.val ∧ bef (whole x2) T < 204 := by
  rw [val_main_v11_apply, hot_at, and_bit, bit_eq_one]
  refine and_congr_right fun h => ?_
  rw [room_at, bit_eq_one, before_at x2 T e h]
  exact Nat.cast_lt

/-- A token through an expert. -/
def passed (T : Fin 8192) (e : Fin 32) (h : Fin 1024) : EReal := ∑ j : Fin 1024, x0 (ix2 T j) * x3 (ix3 e j h)

theorem passed_at (T : Fin 8192) (e : Fin 32) (h : Fin 1024) :
    val_main_v12 (F := Idealize.ShloMosaic.Ideal) x0 x3 (ix3 T e h) = passed x0 x3 T e h := by
  rw [val_main_v12_apply]
  refine Finset.sum_congr rfl fun j _ => ?_
  have hl : lidx_main_v12 (ix3 T e h) j = ix2 T j := by
    funext a
    match a with
    | ⟨0, _⟩ => rfl
    | ⟨1, _⟩ => rfl
  have hr : ridx_main_v12 (ix3 T e h) j = ix3 e j h := by
    funext a
    match a with
    | ⟨0, _⟩ => rfl
    | ⟨1, _⟩ => rfl
    | ⟨2, _⟩ => rfl
  rw [hl, hr]

theorem kept_at (T : Fin 8192) (e : Fin 32) (h : Fin 1024) :
    val_main_v14 (F := Idealize.ShloMosaic.Ideal) x0 x2 x3 (ix3 T e h)
      = if whole x2 T = BitVec.ofNat 32 e.val ∧ bef (whole x2) T < 204 then passed x0 x3 T e h else 0 := by
  have hi : idx_main_v13 (idx_main_call1_v1 (ix3 T e h)) = ix2 T e := by
    funext a
    match a with
    | ⟨0, _⟩ => rfl
    | ⟨1, _⟩ => rfl
  have h0 : val_main_call1_v2 (F := Idealize.ShloMosaic.Ideal) (ix3 T e h) = (0 : EReal) := by
    rw [val_main_call1_v2_apply, val_main_call1_v0_apply, val_main_cst_0_apply]
    exact Idealize.ShloMosaic.Ideal.ofBits_zero .f32
  rw [val_main_v14_apply, val_main_call1_v1_apply, val_main_v13_apply, hi, select_bit, h0, passed_at]
  exact if_congr (take_at x2 T e) rfl rfl

/-- The reference's result: what the token's own expert makes of it, if the token is among the first 204 of that expert. -/
theorem result_at (T : Fin 8192) (h : Fin 1024) : val_main_v15 (F := Idealize.ShloMosaic.Ideal) x0 x2 x3 (ix2 T h)
    = ∑ e : Fin 32, if whole x2 T = BitVec.ofNat 32 e.val ∧ bef (whole x2) T < 204 then passed x0 x3 T e h else 0 := by
  rw [val_main_v15_apply]
  have h0 : val_main_cst_1 (F := Idealize.ShloMosaic.Ideal) (Shape.Idx.first h_S_) = (0 : EReal) := by
    pointwise [val_main_cst_1]
  rw [h0]
  refine (zero_add _).trans (Finset.sum_congr rfl fun e _ => ?_)
  have hi : idx_main_v15 (ix2 T h) e = ix3 T e h := by
    funext a
    match a with
    | ⟨0, _⟩ => rfl
    | ⟨1, _⟩ => rfl
    | ⟨2, _⟩ => rfl
  rw [hi]
  exact kept_at x0 x2 x3 T e h

/-- The same sum, of the one expert the token names. -/
theorem result_one (T : Fin 8192) (h : Fin 1024) : val_main_v15 (F := Idealize.ShloMosaic.Ideal) x0 x2 x3 (ix2 T h)
    = if hl : (whole x2 T).toNat < 32 then (if bef (whole x2) T < 204 then passed x0 x3 T ⟨(whole x2 T).toNat, hl⟩ h else 0) else 0 := by
  rw [result_at]
  have he : ∀ e : Fin 32, whole x2 T = BitVec.ofNat 32 e.val ↔ (whole x2 T).toNat = e.val := by
    intro e
    have := e.isLt
    constructor
    · intro hh; rw [hh, BitVec.toNat_ofNat, Nat.mod_eq_of_lt (by omega)]
    · intro hh; rw [← hh]; simp
  simp only [he]
  by_cases hl : (whole x2 T).toNat < 32
  · rw [dif_pos hl, Finset.sum_eq_single (⟨(whole x2 T).toNat, hl⟩ : Fin 32)]
    · exact if_congr (and_iff_right rfl) rfl rfl
    · intro e _ hne
      exact if_neg fun hh => hne (Fin.ext hh.1.symm)
    · intro hn; exact absurd (Finset.mem_univ _) hn
  · rw [dif_neg hl]
    exact Finset.sum_eq_zero fun e _ => if_neg fun hh => hl (by have := e.isLt; omega)

end Cert.Moe

end
-- ==== Proof.Answer.lean ====
module

public import proofs.«01_k».proof.Proof.Host
public import proofs.«01_k».proof.Proof.Reference

@[expose] public section

set_option maxRecDepth 16384

noncomputable section

namespace Cert.Moe

open Idealize.ShloMosaic

/-! # The equation -/

variable {I : Inp Idealize.ShloMosaic.Ideal} {R : Fin 4 → Fin 2048 → BitVec 32}
  {x0 : Cert.ReferenceIdeal.S8192x1024.Idx → EReal} {x2 : IVec Cert.ReferenceIdeal.S8192x1 32} {x3 : Cert.ReferenceIdeal.S32x1024x1024.Idx → EReal}

/-- A shard's token is kept by the owner of its expert exactly if the reference keeps it. -/
theorem kept_iff (hR : ∀ p t, whole x2 (glob p t) = R p t) (p d : Fin 4) (t : Fin 2048) :
    (goes (R p) d.val t ∧ bef (R p) t + beforeCap R p (R p t).toNat < 204)
      ↔ (R p t).toNat / 8 = d.val ∧ bef (whole x2) (glob p t) < 204 := by
  rw [capped_iff, bef_glob R (whole x2) hR p t]
  unfold goes
  constructor
  · rintro ⟨⟨h1, _⟩, h2⟩; exact ⟨h1, h2⟩
  · rintro ⟨h1, h2⟩; exact ⟨⟨h1, by omega⟩, h2⟩

/-- The kernel's result at a shard's token is the reference's at that token of the whole. -/
theorem answer (hH : Holds I R) (hF : ∀ p, Fits (R p)) (hR : ∀ p t, whole x2 (glob p t) = R p t)
    (hx : ∀ p t j, I.x p (ix2 t j) = x0 (ix2 (glob p t) j))
    (hw : ∀ (d : Fin 4) (k : Fin 8) (j h : Fin 1024), I.w d (ix3 k j h) = x3 (ix3 ⟨8 * d.val + k.val, by omega⟩ j h))
    (p : Fin 4) (t : Fin 2048) (h : Fin 1024) :
    outV I p (ix2 t h) = Cert.ReferenceIdeal.Read.val_main_v15 (F := Idealize.ShloMosaic.Ideal) x0 x2 x3 (ix2 (glob p t) h) := by
  rw [out_at hH hF, result_one]
  unfold given
  simp only [kept_iff hR]
  rw [hR]
  by_cases hl : (R p t).toNat < 32
  · rw [dif_pos hl, Finset.sum_eq_single (⟨(R p t).toNat / 8, by omega⟩ : Fin 4)]
    · refine if_congr (and_iff_right rfl) ?_ rfl
      unfold through passed
      refine Finset.sum_congr rfl fun j _ => ?_
      rw [hx, hw]
      refine congrArg (fun e : Fin 32 => x0 (ix2 (glob p t) j) * x3 (ix3 e j h)) (Fin.ext ?_)
      exact Nat.div_add_mod _ 8
    · intro d _ hne
      exact if_neg fun hh => hne (Fin.ext hh.1.symm)
    · intro hn; exact absurd (Finset.mem_univ _) hn
  · rw [dif_neg hl]
    exact Finset.sum_eq_zero fun d _ => if_neg fun hh => hl (by have := d.isLt; omega)

end Cert.Moe

end
-- ==== Proof.Capacity.lean ====
module

public import proofs.«01_k».proof.Proof.Words
public import Idealize.ShloMosaic.Lib.ReduceAll
public import proofs.«01_k».proof.Pre_within_buffers_KernelIdeal

@[expose] public section

set_option maxRecDepth 16384

noncomputable section

namespace Cert.Moe

open Idealize.ShloMosaic Idealize.ShloMosaic.Routing
open Cert.Pre_within_buffers_KernelIdeal

/-! # What the precondition says: a device's tokens for another fit its buffer -/

theorem fold_addi {n : ℕ} (f : Fin n → BitVec 32) : (Finset.univ : Finset (Fin n)).fold IntOp.addi 0#32 f = ∑ k, f k :=
  (Finset.sum_eq_fold Finset.univ f).symm

theorem col_sum (x : IVec S2048x32 32) (h : S2048x32.ReducesTo [0] S32) (hu : 0 < S_.numel) (e : Fin 32) :
    Host.reduce IntOp.addi x (constantI S_ 32 0#32) h hu (ix1 e) = ∑ t : Fin 2048, x (ix2 t e) := by
  have hr : S2048x32.Reduces [0] S32 := by decide
  refine (Host.reduce_eq_fold_single IntOp.addi x _ h hr hu (ix1 e)).trans ((fold_addi _).trans ?_)
  refine Finset.sum_congr rfl fun t _ => congrArg x (funext fun b => ?_)
  match b with
  | ⟨0, _⟩ => rfl
  | ⟨1, _⟩ => rfl

theorem row_sum (x : IVec S4x8 32) (h : S4x8.ReducesTo [1] S4) (hu : 0 < S_.numel) (d : Fin 4) :
    Host.reduce IntOp.addi x (constantI S_ 32 0#32) h hu (ix1 d) = ∑ k : Fin 8, x (ix2 d k) := by
  have hr : S4x8.Reduces [1] S4 := by decide
  refine (Host.reduce_eq_fold_single IntOp.addi x _ h hr hu (ix1 d)).trans ((fold_addi _).trans ?_)
  refine Finset.sum_congr rfl fun t _ => congrArg x (funext fun b => ?_)
  match b with
  | ⟨0, _⟩ => rfl
  | ⟨1, _⟩ => rfl

theorem cast_at (v : IVec S32 32) (h : S32.ShapeCasts S4x8) (d : Fin 4) (k : Fin 8) (hlt : 8 * d.val + k.val < 32) :
    shapeCast S4x8 v h (ix2 d k) = v (ix1 ⟨8 * d.val + k.val, hlt⟩) := by
  pointwise
  exact congrArg (fun e : Fin 32 => v (ix1 e)) (Fin.ext (by show d.val * 8 + k.val = 8 * d.val + k.val; omega))

/-- A sum of marks as words counts them. -/
theorem sum_word {n : ℕ} (P : Fin n → Prop) [DecidablePred P] : ∑ t, (if P t then 1#32 else 0#32) = BitVec.ofNat 32 (size P) := by
  unfold size
  rw [show (0#32 : BitVec 32) = 0 from rfl, Finset.sum_ite, Finset.sum_const_zero, add_zero, Finset.sum_const]
  show _ • (1 : BitVec 32) = _
  rw [nsmul_eq_mul, mul_one]
  rfl

theorem sum_ofNat {n : ℕ} (f : Fin n → ℕ) : ∑ k, BitVec.ofNat 32 (f k) = BitVec.ofNat 32 (∑ k, f k) :=
  (Nat.cast_sum (R := BitVec 32) Finset.univ f).symm

theorem toInt_small {n : ℕ} (hn : n < 2 ^ 31) : (BitVec.ofNat 32 n).toInt = (n : ℤ) := by
  have h : (BitVec.ofNat 32 n).toNat = n := by rw [BitVec.toNat_ofNat, Nat.mod_eq_of_lt (by omega)]
  rw [BitVec.toInt_eq_toNat_of_lt (by omega), h]

theorem ofBool_bit (b : Bool) (p : Prop) [Decidable p] (h : b = true ↔ p) : BitVec.ofBool b = bit p := by
  unfold bit
  by_cases hp : p
  · rw [if_pos hp, h.mpr hp]; rfl
  · rw [if_neg hp, Bool.eq_false_iff.mpr fun hb => hp (h.mp hb)]; rfl

theorem slt_word {n c : ℕ} (hn : n < 2 ^ 31) (hc : c < 2 ^ 31) : IntOp.cmpi .slt (BitVec.ofNat 32 n) (BitVec.ofNat 32 c) = bit (n < c) := by
  refine ofBool_bit (BitVec.slt (BitVec.ofNat 32 n) (BitVec.ofNat 32 c)) _ ?_
  rw [BitVec.slt_iff_toInt_lt, toInt_small hn, toInt_small hc]
  exact Nat.cast_lt

theorem sle_word {n c : ℕ} (hn : n < 2 ^ 31) (hc : c < 2 ^ 31) : IntOp.cmpi .sle (BitVec.ofNat 32 n) (BitVec.ofNat 32 c) = bit (n ≤ c) := by
  refine ofBool_bit (BitVec.sle (BitVec.ofNat 32 n) (BitVec.ofNat 32 c)) _ ?_
  rw [BitVec.sle_iff_toInt_le, toInt_small hn, toInt_small hc]
  exact Nat.cast_le

theorem take_word {n : ℕ} (hn : n < 2 ^ 31) (P : Fin n → Prop) [DecidablePred P] (t : Fin n) :
    IntOp.andi (IntOp.cmpi .eq (if P t then 1#32 else 0#32) 1#32)
      (IntOp.cmpi .slt (IntOp.subi (BitVec.ofNat 32 (upto P t)) (if P t then 1#32 else 0#32)) 204#32) = bit (P t ∧ rank P t < 204) := by
  rw [and_bit]
  refine if_congr ?_ rfl rfl
  by_cases h : P t
  · have hle : upto P t ≤ n := upto_le P t
    have hu : upto P t = rank P t + 1 := by rw [upto_eq, if_pos h]
    have hs : IntOp.subi (BitVec.ofNat 32 (upto P t)) 1#32 = BitVec.ofNat 32 (rank P t) := by
      rw [hu]
      show BitVec.ofNat 32 (rank P t + 1) - 1#32 = _
      rw [BitVec.ofNat_add, BitVec.add_sub_cancel]
    rw [if_pos h, hs, show (204#32) = BitVec.ofNat 32 204 from rfl, slt_word (by omega) (by omega), bit_eq_one]
    tauto
  · rw [if_neg h]
    constructor
    · rintro ⟨h1, _⟩; exact absurd h1 (by decide)
    · rintro ⟨h1, _⟩; exact absurd h1 h

/-! ## The tokens a device keeps for another -/

theorem goes_size {n : ℕ} (r : Fin n → BitVec 32) (d : ℕ) : size (goes r d) = ∑ k : Fin 8, min 204 (tot r (8 * d + k.val)) := by
  have h : ∀ k : Fin 8, min 204 (tot r (8 * d + k.val)) = (Finset.univ.filter fun t => goes r d t ∧ (r t).toNat = 8 * d + k.val).card :=
    fun k => (sent r d k.isLt).symm
  simp only [h]
  unfold size
  rw [Finset.card_eq_sum_card_fiberwise (f := fun t => (⟨(r t).toNat % 8, Nat.mod_lt _ (by omega)⟩ : Fin 8)) (t := Finset.univ) (fun _ _ => Finset.mem_univ _)]
  refine Finset.sum_congr rfl fun k _ => congrArg Finset.card ?_
  ext t
  simp only [Finset.mem_filter, Finset.mem_univ, true_and, Fin.ext_iff]
  refine and_congr_right fun hg => ?_
  have := hg.1
  have := k.isLt
  omega

variable [Facts]
open Facts

/-- The words of the marks of the experts' tokens. -/
def wide (x : IVec S2048x1 32) : IVec S2048x32 32 :=
  extui 32 (cmpi .eq (broadcastInDim S2048x32 ![0, 1] bcast_S2048x1_S2048x32_0_1 x)
    (broadcastInDim S2048x32 ![0, 1] bcast_S1x32_S2048x32_0_1 (broadcastInDim S1x32 ![1] bcast_S32_S1x32_1 (iotaInDim S32 32 0)))) natLt_1_32

/-- One where an expert takes a token, zero elsewhere. -/
def table (x : IVec S2048x1 32) : IVec S2048x32 32 :=
  fn_where (F := Ideal) (andi (cmpi .eq (wide x) (broadcastInDim S2048x32 ![] bcast_S_S2048x32 (constantI S_ 32 1#32)))
    (cmpi .slt (subi (fn_cumsum (F := Ideal) (wide x)) (wide x)) (broadcastInDim S2048x32 ![] bcast_S_S2048x32 (constantI S_ 32 204#32))))
    (constantI S_ 32 1#32) (constantI S_ 32 0#32)

theorem fn_eq (x0 : FVec Ideal S2048x1024 .f32) (x1 : FVec Ideal S1024x32 .f32) (x2 : IVec S2048x1 32) (x3 : FVec Ideal S8x1024x1024 .f32) :
    fn x0 x1 x2 x3 = fn_part1 (F := Ideal) (Host.reduce IntOp.addi (shapeCast S4x8 (Host.reduce IntOp.addi (table x2) (constantI S_ 32 0#32)
      reducesTo_S2048x32_S32_d0 h_S_) shapeCasts_S32_S4x8) (constantI S_ 32 0#32) reducesTo_S4x8_S4_d1 h_S_) := id rfl

variable (x : IVec S2048x1 32)

theorem wide_at (t : Fin 2048) (e : Fin 32) : wide x (ix2 t e) = if x (ix2 t 0) = BitVec.ofNat 32 e.val then 1#32 else 0#32 := by
  pointwise [wide]
  exact (congrArg (BitVec.setWidth 32) (cmpi_eq_mark _ _)).trans (wide_bit _)

theorem cumsum_wide (t : Fin 2048) (e : Fin 32) :
    fn_cumsum (F := Ideal) (wide x) (ix2 t e) = BitVec.ofNat 32 (upto (fun t => x (ix2 t 0) = BitVec.ofNat 32 e.val) t) := by
  unfold fn_cumsum fn_cumsum_0
  refine (cumsum_at (α := BitVec 32) (by rfl) (wide x) _ _ _ ?_ t e).trans ?_
  · pointwise
    rfl
  · rw [← sum_upto_word]
    exact Finset.sum_congr rfl fun n _ => if_congr Iff.rfl (wide_at x n e) rfl

theorem table_at (t : Fin 2048) (e : Fin 32) : table x (ix2 t e)
    = if x (ix2 t 0) = BitVec.ofNat 32 e.val ∧ rank (fun t => x (ix2 t 0) = BitVec.ofNat 32 e.val) t < 204 then 1#32 else 0#32 := by
  pointwise [table, fn_where]
  rw [wide_at, cumsum_wide, take_word (by norm_num) (fun t => x (ix2 t 0) = BitVec.ofNat 32 e.val) t, select_bit]
  exact if_congr (bit_eq_one _) rfl rfl

/-- How many tokens expert `e` takes. -/
theorem taken_at (e : Fin 32) : Host.reduce IntOp.addi (table x) (constantI S_ 32 0#32) reducesTo_S2048x32_S32_d0 h_S_ (ix1 e)
    = BitVec.ofNat 32 (min 204 (tot (fun t => x (ix2 t 0)) e.val)) := by
  rw [col_sum]
  simp only [table_at]
  rw [sum_word]
  refine congrArg (BitVec.ofNat 32) ((size_capped _ 204).trans (congrArg (min 204) ?_))
  unfold tot size
  refine congrArg Finset.card (Finset.filter_congr fun t _ => ?_)
  have := e.isLt
  constructor
  · intro h; show (x (ix2 t 0)).toNat = e.val; rw [show x (ix2 t 0) = _ from h, BitVec.toNat_ofNat, Nat.mod_eq_of_lt (by omega)]
  · intro h; show x (ix2 t 0) = _; rw [← show (x (ix2 t 0)).toNat = e.val from h]; simp

/-- The precondition says that every device's tokens fit. -/
theorem fits (x0 : FVec Ideal S2048x1024 .f32) (x1 : FVec Ideal S1024x32 .f32) (x3 : FVec Ideal S8x1024x1024 .f32)
    (h : fn x0 x1 x x3 ix0 = 1#1) : Fits fun t => x (ix2 t 0) := by
  rw [fn_eq] at h
  unfold fn_part1 at h
  intro d hd
  have : Subsingleton S_.Idx := ⟨fun i j => funext fun b => b.elim0⟩
  have h4 := Host.reduce_andi_all _ _ _ _ _ h (ix1 (⟨d, hd⟩ : Fin 4))
  have hk : ∀ k : Fin 8, shapeCast S4x8 (Host.reduce IntOp.addi (table x) (constantI S_ 32 0#32) reducesTo_S2048x32_S32_d0 h_S_)
      shapeCasts_S32_S4x8 (ix2 (⟨d, hd⟩ : Fin 4) k) = BitVec.ofNat 32 (min 204 (tot (fun t => x (ix2 t 0)) (8 * d + k.val))) := by
    intro k
    have hlt : 8 * d + k.val < 32 := by omega
    exact (cast_at _ _ ⟨d, hd⟩ k hlt).trans (taken_at x ⟨8 * d + k.val, hlt⟩)
  rw [goes_size]
  have hle : ∑ k : Fin 8, min 204 (tot (fun t => x (ix2 t 0)) (8 * d + k.val)) ≤ 8 * 204 :=
    (Finset.sum_le_card_nsmul _ _ 204 fun k _ => min_le_left _ _).trans (by simp)
  have h5 : IntOp.cmpi .sle (Host.reduce IntOp.addi (shapeCast S4x8 (Host.reduce IntOp.addi (table x) (constantI S_ 32 0#32)
      reducesTo_S2048x32_S32_d0 h_S_) shapeCasts_S32_S4x8) (constantI S_ 32 0#32) reducesTo_S4x8_S4_d1 h_S_ (ix1 (⟨d, hd⟩ : Fin 4)))
      (BitVec.ofNat 32 768) = 1#1 := by
    refine Eq.trans ?_ h4
    pointwise
  rw [row_sum, Finset.sum_congr rfl fun k _ => hk k, sum_ofNat, sle_word (by omega) (by norm_num), bit_eq_one] at h5
  exact h5

end Cert.Moe

end
-- ==== Proof.Equal.lean ====
module

public import proofs.«01_k».proof.Proof.Answer
public import proofs.«01_k».proof.Proof.Capacity
public import Idealize.ShloMosaic.Lib.Layout

@[expose] public section

set_option maxRecDepth 16384

noncomputable section

namespace Cert.Moe

open Cert.KernelIdeal Cert.KernelIdeal.Gen
open Idealize.ShloMosaic Idealize.ShloMosaic.TcCoe

/-! # The devices' results are the reference's, block by block -/

/-- A device's row is that row of its block of the whole. -/
theorem rows_at {α : Type} {n : ℕ} (h : Layout.Tiles ⟨2, ![2048, n]⟩ ⟨2, ![8192, n]⟩ 0 4) (p : Fin 4) (v : (⟨2, ![8192, n]⟩ : Shape).Idx → α)
    (t : Fin 2048) (j : Fin n) : Layout.block ⟨2, ![2048, n]⟩ ⟨2, ![8192, n]⟩ 0 4 p v h (ix2 t j) = v (ix2 (glob p t) j) := by
  refine congrArg v (funext fun a => Fin.ext ?_)
  match a with
  | ⟨0, _⟩ => show p.val * 2048 + t.val = 2048 * p.val + t.val; omega
  | ⟨1, _⟩ => rfl

/-- A device's expert is that expert of its block of the whole. -/
theorem experts_at {α : Type} (h : Layout.Tiles ⟨3, ![8, 1024, 1024]⟩ ⟨3, ![32, 1024, 1024]⟩ 0 4) (d : Fin 4)
    (v : (⟨3, ![32, 1024, 1024]⟩ : Shape).Idx → α) (k : Fin 8) (j l : Fin 1024) :
    Layout.block ⟨3, ![8, 1024, 1024]⟩ ⟨3, ![32, 1024, 1024]⟩ 0 4 d v h (ix3 k j l) = v (ix3 ⟨8 * d.val + k.val, by omega⟩ j l) := by
  refine congrArg v (funext fun a => Fin.ext ?_)
  match a with
  | ⟨0, _⟩ => show d.val * 8 + k.val = 8 * d.val + k.val; omega
  | ⟨1, _⟩ => rfl
  | ⟨2, _⟩ => rfl

/-- The precondition's side conditions. -/
theorem pre_facts : Cert.Pre_within_buffers_KernelIdeal.Facts := by
  constructor <;> decide

theorem equal [Cert.Pre_within_buffers_KernelIdeal.Facts] (m : (ℓ : Loc nD τ sig) → Buf (Elt Ideal) ℓ)
    (x0 : Cert.ReferenceIdeal.S8192x1024.Idx → EReal) (x2 : IVec Cert.ReferenceIdeal.S8192x1 32) (x3 : Cert.ReferenceIdeal.S32x1024x1024.Idx → EReal)
    (hp : ∀ c : Dev nD, Cert.Pre_within_buffers_KernelIdeal.fn (F := Ideal) (m (c, (main_arg0 : Ref sig .tc))) (m (c, (main_arg1 : Ref sig .tc)))
      (m (c, (main_arg2 : Ref sig .tc))) (m (c, (main_arg3 : Ref sig .tc))) = fun _ => 1#1)
    (h0 : ∀ c : Dev nD, m (c, (main_arg0 : Ref sig .tc)) = Layout.block ⟨2, ![2048, 1024]⟩ ⟨2, ![8192, 1024]⟩ 0 4 c x0)
    (h2 : ∀ c : Dev nD, m (c, (main_arg2 : Ref sig .tc)) = Layout.block ⟨2, ![2048, 1]⟩ ⟨2, ![8192, 1]⟩ 0 4 c x2)
    (h3 : ∀ c : Dev nD, m (c, (main_arg3 : Ref sig .tc)) = Layout.block ⟨3, ![8, 1024, 1024]⟩ ⟨3, ![32, 1024, 1024]⟩ 0 4 c x3) (c : Dev nD) :
    outV (inp m) c = Layout.block ⟨2, ![2048, 1024]⟩ ⟨2, ![8192, 1024]⟩ 0 4 c (Cert.ReferenceIdeal.Read.val_main_v15 (F := Ideal) x0 x2 x3) := by
  funext i
  obtain ⟨t, l, rfl⟩ : ∃ (t : Fin 2048) (l : Fin 1024), i = ix2 t l := ⟨i 0, i 1, by
    funext a
    match a with
    | ⟨0, _⟩ => rfl
    | ⟨1, _⟩ => rfl⟩
  rw [rows_at]
  refine answer (holds m) (fun p => fits _ _ _ _ (congrFun (hp p) _)) ?_ ?_ ?_ c t l
  · intro p t
    refine Eq.symm ((congrFun (h2 p) (ix2 t 0)).trans ?_)
    exact rows_at _ p x2 t 0
  · intro p t j
    rw [inp_x m p, h0 p]
    exact rows_at _ p x0 t j
  · intro d k j l
    rw [inp_w m d, h3 d]
    exact experts_at _ d x3 k j l

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem

section
open Cert.KernelIdeal

/-- The kernel over any float values: it ends, its arguments are unchanged and every counter is zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1, (h.1 c).2.1, (h.1 c).2.2.1, (h.1 c).2.2.2.1⟩, h.2⟩)
    (Cert.Moe.run_main m ρ)

end

/-- The kernel as compiled. -/
theorem frame_kernel : Cert.quiescent_Kernel := fun m ρ _ => by
  have h := frame_any (F := Bits) m ρ
  rw [← Cert.Moe.same_main, ← Cert.Moe.same_defs] at h
  exact h

/-- The kernel over the reals. -/
theorem frame_ideal : Cert.quiescent_KernelIdeal := fun m ρ _ => frame_any (F := Ideal) m ρ

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions of the precondition, at a shard's shapes and at the whole's. -/
instance facts_shard : Cert.Pre_within_buffers_KernelIdeal.Facts := Cert.Moe.pre_facts

instance facts_whole : Cert.Pre_within_buffers_ReferenceIdeal.Facts := by
  constructor <;> decide

theorem frame_ideal_pre : Cert.quiescent_KernelIdeal_pre_within_buffers_KernelIdeal :=
  fun m ρ _ => frame_ideal m ρ trivial

theorem frame_reference_pre : Cert.quiescent_ReferenceIdeal_pre_within_buffers_ReferenceIdeal :=
  fun m ρ _ => frame_reference m ρ trivial

/-- The kernel's result is the reference's, block by block. -/
theorem value : Cert.algebraic_KernelIdeal_ReferenceIdeal_pre_within_buffers_KernelIdeal :=
  fun m g m' g' hp hin => by
    refine ⟨Cert.ReferenceIdeal.Read.val_main_v15 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
    · refine (θ_run Cert.KernelIdeal.defs _ _).mono (fun r h c => ?_) (Cert.Moe.run_main (F := Ideal) m g)
      obtain ⟨k0, k1, k2, k3, kv⟩ := h.1 c
      exact ⟨kv.trans (Cert.Moe.equal m _ _ _ hp (fun c => (hin c).1) (fun c => (hin c).2.2.1) (fun c => (hin c).2.2.2) c), k0, k1, k2, k3⟩
    · exact (θ_run Cert.ReferenceIdeal.defs _ _).mono
        (fun r h => ⟨(h 0).1.trans (Cert.ReferenceIdeal.Read.val_main_v15_eq _ _ _), (h 0).2⟩)
        (Cert.ReferenceIdeal.Value.run (F := Ideal) m' g')

theorem claim : Cert.Claim :=
  ⟨Cert.Kernel.Gen.facts, Cert.KernelIdeal.Gen.facts, Cert.ReferenceIdeal.Gen.facts, facts_shard, facts_whole,
    frame_kernel, frame_ideal, frame_ideal_pre, frame_reference,
    frame_reference_pre, trivial, value⟩

end Cert.Proof

end
